-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.1 = (fun _ => 1#1)
    ∧ (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.1 = (fun _ => 1#1)
    ∧ (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4)
      ∧ r.2.mem ((c.tc : Thread Cert.AdamW.nD Cert.AdamW.τ).loc Cert.AdamW.main_arg5) = m ((c.tc : Thread Cert.AdamW.nD Cert.AdamW.τ).loc Cert.AdamW.main_arg5)
      ∧ r.2.mem ((c.tc : Thread Cert.AdamW.nD Cert.AdamW.τ).loc Cert.AdamW.main_arg6) = m ((c.tc : Thread Cert.AdamW.nD Cert.AdamW.τ).loc Cert.AdamW.main_arg6)
      ∧ r.2.mem ((c.tc : Thread Cert.AdamW.nD Cert.AdamW.τ).loc Cert.AdamW.main_arg7) = m ((c.tc : Thread Cert.AdamW.nD Cert.AdamW.τ).loc Cert.AdamW.main_arg7)
      ∧ r.2.mem ((c.tc : Thread Cert.AdamW.nD Cert.AdamW.τ).loc Cert.AdamW.main_arg8) = m ((c.tc : Thread Cert.AdamW.nD Cert.AdamW.τ).loc Cert.AdamW.main_arg8)
      ∧ r.2.mem ((c.tc : Thread Cert.AdamW.nD Cert.AdamW.τ).loc Cert.AdamW.main_arg9) = m ((c.tc : Thread Cert.AdamW.nD Cert.AdamW.τ).loc Cert.AdamW.main_arg9)
      ∧ r.2.mem ((c.tc : Thread Cert.AdamW.nD Cert.AdamW.τ).loc Cert.AdamW.main_arg10) = m ((c.tc : Thread Cert.AdamW.nD Cert.AdamW.τ).loc Cert.AdamW.main_arg10)
      ∧ r.2.mem ((c.tc : Thread Cert.AdamW.nD Cert.AdamW.τ).loc Cert.AdamW.main_arg11) = m ((c.tc : Thread Cert.AdamW.nD Cert.AdamW.τ).loc Cert.AdamW.main_arg11)
      ∧ r.2.mem ((c.tc : Thread Cert.AdamW.nD Cert.AdamW.τ).loc Cert.AdamW.main_arg12) = m ((c.tc : Thread Cert.AdamW.nD Cert.AdamW.τ).loc Cert.AdamW.main_arg12)
      ∧ r.2.mem ((c.tc : Thread Cert.AdamW.nD Cert.AdamW.τ).loc Cert.AdamW.main_arg13) = m ((c.tc : Thread Cert.AdamW.nD Cert.AdamW.τ).loc Cert.AdamW.main_arg13)
      ∧ r.2.mem ((c.tc : Thread Cert.AdamW.nD Cert.AdamW.τ).loc Cert.AdamW.main_arg14) = m ((c.tc : Thread Cert.AdamW.nD Cert.AdamW.τ).loc Cert.AdamW.main_arg14)
      ∧ r.2.mem ((c.tc : Thread Cert.AdamW.nD Cert.AdamW.τ).loc Cert.AdamW.main_arg15) = m ((c.tc : Thread Cert.AdamW.nD Cert.AdamW.τ).loc Cert.AdamW.main_arg15)
      ∧ r.2.mem ((c.tc : Thread Cert.AdamW.nD Cert.AdamW.τ).loc Cert.AdamW.main_arg16) = m ((c.tc : Thread Cert.AdamW.nD Cert.AdamW.τ).loc Cert.AdamW.main_arg16)
      ∧ r.2.mem ((c.tc : Thread Cert.AdamW.nD Cert.AdamW.τ).loc Cert.AdamW.main_arg17) = m ((c.tc : Thread Cert.AdamW.nD Cert.AdamW.τ).loc Cert.AdamW.main_arg17)
      ∧ r.2.mem ((c.tc : Thread Cert.AdamW.nD Cert.AdamW.τ).loc Cert.AdamW.main_arg18) = m ((c.tc : Thread Cert.AdamW.nD Cert.AdamW.τ).loc Cert.AdamW.main_arg18)
      ∧ r.2.mem ((c.tc : Thread Cert.AdamW.nD Cert.AdamW.τ).loc Cert.AdamW.main_arg19) = m ((c.tc : Thread Cert.AdamW.nD Cert.AdamW.τ).loc Cert.AdamW.main_arg19))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
      ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
      ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
      ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7)
      ∧ r.2.mem ((c.tc : Thread Cert.AdamWIdeal.nD Cert.AdamWIdeal.τ).loc Cert.AdamWIdeal.main_arg8) = m ((c.tc : Thread Cert.AdamWIdeal.nD Cert.AdamWIdeal.τ).loc Cert.AdamWIdeal.main_arg8)
      ∧ r.2.mem ((c.tc : Thread Cert.AdamWIdeal.nD Cert.AdamWIdeal.τ).loc Cert.AdamWIdeal.main_arg9) = m ((c.tc : Thread Cert.AdamWIdeal.nD Cert.AdamWIdeal.τ).loc Cert.AdamWIdeal.main_arg9)
      ∧ r.2.mem ((c.tc : Thread Cert.AdamWIdeal.nD Cert.AdamWIdeal.τ).loc Cert.AdamWIdeal.main_arg10) = m ((c.tc : Thread Cert.AdamWIdeal.nD Cert.AdamWIdeal.τ).loc Cert.AdamWIdeal.main_arg10)
      ∧ r.2.mem ((c.tc : Thread Cert.AdamWIdeal.nD Cert.AdamWIdeal.τ).loc Cert.AdamWIdeal.main_arg11) = m ((c.tc : Thread Cert.AdamWIdeal.nD Cert.AdamWIdeal.τ).loc Cert.AdamWIdeal.main_arg11)
      ∧ r.2.mem ((c.tc : Thread Cert.AdamWIdeal.nD Cert.AdamWIdeal.τ).loc Cert.AdamWIdeal.main_arg12) = m ((c.tc : Thread Cert.AdamWIdeal.nD Cert.AdamWIdeal.τ).loc Cert.AdamWIdeal.main_arg12)
      ∧ r.2.mem ((c.tc : Thread Cert.AdamWIdeal.nD Cert.AdamWIdeal.τ).loc Cert.AdamWIdeal.main_arg13) = m ((c.tc : Thread Cert.AdamWIdeal.nD Cert.AdamWIdeal.τ).loc Cert.AdamWIdeal.main_arg13)
      ∧ r.2.mem ((c.tc : Thread Cert.AdamWIdeal.nD Cert.AdamWIdeal.τ).loc Cert.AdamWIdeal.main_arg14) = m ((c.tc : Thread Cert.AdamWIdeal.nD Cert.AdamWIdeal.τ).loc Cert.AdamWIdeal.main_arg14)
      ∧ r.2.mem ((c.tc : Thread Cert.AdamWIdeal.nD Cert.AdamWIdeal.τ).loc Cert.AdamWIdeal.main_arg15) = m ((c.tc : Thread Cert.AdamWIdeal.nD Cert.AdamWIdeal.τ).loc Cert.AdamWIdeal.main_arg15)
      ∧ r.2.mem ((c.tc : Thread Cert.AdamWIdeal.nD Cert.AdamWIdeal.τ).loc Cert.AdamWIdeal.main_arg16) = m ((c.tc : Thread Cert.AdamWIdeal.nD Cert.AdamWIdeal.τ).loc Cert.AdamWIdeal.main_arg16)
      ∧ r.2.mem ((c.tc : Thread Cert.AdamWIdeal.nD Cert.AdamWIdeal.τ).loc Cert.AdamWIdeal.main_arg17) = m ((c.tc : Thread Cert.AdamWIdeal.nD Cert.AdamWIdeal.τ).loc Cert.AdamWIdeal.main_arg17)
      ∧ r.2.mem ((c.tc : Thread Cert.AdamWIdeal.nD Cert.AdamWIdeal.τ).loc Cert.AdamWIdeal.main_arg18) = m ((c.tc : Thread Cert.AdamWIdeal.nD Cert.AdamWIdeal.τ).loc Cert.AdamWIdeal.main_arg18)
      ∧ r.2.mem ((c.tc : Thread Cert.AdamWIdeal.nD Cert.AdamWIdeal.τ).loc Cert.AdamWIdeal.main_arg19) = m ((c.tc : Thread Cert.AdamWIdeal.nD Cert.AdamWIdeal.τ).loc Cert.AdamWIdeal.main_arg19))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4)
      ∧ r.2.mem ((c.tc : Thread Cert.AdamWRefIdeal.nD Cert.AdamWRefIdeal.τ).loc Cert.AdamWRefIdeal.main_arg5) = m ((c.tc : Thread Cert.AdamWRefIdeal.nD Cert.AdamWRefIdeal.τ).loc Cert.AdamWRefIdeal.main_arg5)
      ∧ r.2.mem ((c.tc : Thread Cert.AdamWRefIdeal.nD Cert.AdamWRefIdeal.τ).loc Cert.AdamWRefIdeal.main_arg6) = m ((c.tc : Thread Cert.AdamWRefIdeal.nD Cert.AdamWRefIdeal.τ).loc Cert.AdamWRefIdeal.main_arg6)
      ∧ r.2.mem ((c.tc : Thread Cert.AdamWRefIdeal.nD Cert.AdamWRefIdeal.τ).loc Cert.AdamWRefIdeal.main_arg7) = m ((c.tc : Thread Cert.AdamWRefIdeal.nD Cert.AdamWRefIdeal.τ).loc Cert.AdamWRefIdeal.main_arg7)
      ∧ r.2.mem ((c.tc : Thread Cert.AdamWRefIdeal.nD Cert.AdamWRefIdeal.τ).loc Cert.AdamWRefIdeal.main_arg8) = m ((c.tc : Thread Cert.AdamWRefIdeal.nD Cert.AdamWRefIdeal.τ).loc Cert.AdamWRefIdeal.main_arg8)
      ∧ r.2.mem ((c.tc : Thread Cert.AdamWRefIdeal.nD Cert.AdamWRefIdeal.τ).loc Cert.AdamWRefIdeal.main_arg9) = m ((c.tc : Thread Cert.AdamWRefIdeal.nD Cert.AdamWRefIdeal.τ).loc Cert.AdamWRefIdeal.main_arg9)
      ∧ r.2.mem ((c.tc : Thread Cert.AdamWRefIdeal.nD Cert.AdamWRefIdeal.τ).loc Cert.AdamWRefIdeal.main_arg10) = m ((c.tc : Thread Cert.AdamWRefIdeal.nD Cert.AdamWRefIdeal.τ).loc Cert.AdamWRefIdeal.main_arg10)
      ∧ r.2.mem ((c.tc : Thread Cert.AdamWRefIdeal.nD Cert.AdamWRefIdeal.τ).loc Cert.AdamWRefIdeal.main_arg11) = m ((c.tc : Thread Cert.AdamWRefIdeal.nD Cert.AdamWRefIdeal.τ).loc Cert.AdamWRefIdeal.main_arg11)
      ∧ r.2.mem ((c.tc : Thread Cert.AdamWRefIdeal.nD Cert.AdamWRefIdeal.τ).loc Cert.AdamWRefIdeal.main_arg12) = m ((c.tc : Thread Cert.AdamWRefIdeal.nD Cert.AdamWRefIdeal.τ).loc Cert.AdamWRefIdeal.main_arg12)
      ∧ r.2.mem ((c.tc : Thread Cert.AdamWRefIdeal.nD Cert.AdamWRefIdeal.τ).loc Cert.AdamWRefIdeal.main_arg13) = m ((c.tc : Thread Cert.AdamWRefIdeal.nD Cert.AdamWRefIdeal.τ).loc Cert.AdamWRefIdeal.main_arg13)
      ∧ r.2.mem ((c.tc : Thread Cert.AdamWRefIdeal.nD Cert.AdamWRefIdeal.τ).loc Cert.AdamWRefIdeal.main_arg14) = m ((c.tc : Thread Cert.AdamWRefIdeal.nD Cert.AdamWRefIdeal.τ).loc Cert.AdamWRefIdeal.main_arg14)
      ∧ r.2.mem ((c.tc : Thread Cert.AdamWRefIdeal.nD Cert.AdamWRefIdeal.τ).loc Cert.AdamWRefIdeal.main_arg15) = m ((c.tc : Thread Cert.AdamWRefIdeal.nD Cert.AdamWRefIdeal.τ).loc Cert.AdamWRefIdeal.main_arg15)
      ∧ r.2.mem ((c.tc : Thread Cert.AdamWRefIdeal.nD Cert.AdamWRefIdeal.τ).loc Cert.AdamWRefIdeal.main_arg16) = m ((c.tc : Thread Cert.AdamWRefIdeal.nD Cert.AdamWRefIdeal.τ).loc Cert.AdamWRefIdeal.main_arg16)
      ∧ r.2.mem ((c.tc : Thread Cert.AdamWRefIdeal.nD Cert.AdamWRefIdeal.τ).loc Cert.AdamWRefIdeal.main_arg17) = m ((c.tc : Thread Cert.AdamWRefIdeal.nD Cert.AdamWRefIdeal.τ).loc Cert.AdamWRefIdeal.main_arg17)
      ∧ r.2.mem ((c.tc : Thread Cert.AdamWRefIdeal.nD Cert.AdamWRefIdeal.τ).loc Cert.AdamWRefIdeal.main_arg18) = m ((c.tc : Thread Cert.AdamWRefIdeal.nD Cert.AdamWRefIdeal.τ).loc Cert.AdamWRefIdeal.main_arg18)
      ∧ r.2.mem ((c.tc : Thread Cert.AdamWRefIdeal.nD Cert.AdamWRefIdeal.τ).loc Cert.AdamWRefIdeal.main_arg19) = m ((c.tc : Thread Cert.AdamWRefIdeal.nD Cert.AdamWRefIdeal.τ).loc Cert.AdamWRefIdeal.main_arg19))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8)
      ∧ r.2.mem ((c.tc : Thread Cert.Gate.nD Cert.Gate.τ).loc Cert.Gate.main_arg9) = m ((c.tc : Thread Cert.Gate.nD Cert.Gate.τ).loc Cert.Gate.main_arg9))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8)
      ∧ r.2.mem ((c.tc : Thread Cert.GateIdeal.nD Cert.GateIdeal.τ).loc Cert.GateIdeal.main_arg9) = m ((c.tc : Thread Cert.GateIdeal.nD Cert.GateIdeal.τ).loc Cert.GateIdeal.main_arg9))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7)
      ∧ r.2.mem ((c.tc : Thread Cert.GateRefIdeal.nD Cert.GateRefIdeal.τ).loc Cert.GateRefIdeal.main_arg8) = m ((c.tc : Thread Cert.GateRefIdeal.nD Cert.GateRefIdeal.τ).loc Cert.GateRefIdeal.main_arg8)
      ∧ r.2.mem ((c.tc : Thread Cert.GateRefIdeal.nD Cert.GateRefIdeal.τ).loc Cert.GateRefIdeal.main_arg9) = m ((c.tc : Thread Cert.GateRefIdeal.nD Cert.GateRefIdeal.τ).loc Cert.GateRefIdeal.main_arg9))
      ∧ r.2.sem = fun _ => 0)

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v11)) (v1 : (c : Dev Cert.FfnIdeal.nD) → Buf (Elt Ideal) ((c.tc : Thread Cert.FfnIdeal.nD Cert.FfnIdeal.τ).loc Cert.FfnIdeal.main_v14)) (v2 : (c : Dev Cert.FfnIdeal.nD) → Buf (Elt Ideal) ((c.tc : Thread Cert.FfnIdeal.nD Cert.FfnIdeal.τ).loc Cert.FfnIdeal.main_v15)) (v3 : (c : Dev Cert.FfnIdeal.nD) → Buf (Elt Ideal) ((c.tc : Thread Cert.FfnIdeal.nD Cert.FfnIdeal.τ).loc Cert.FfnIdeal.main_v12)) (v4 : (c : Dev Cert.FfnIdeal.nD) → Buf (Elt Ideal) ((c.tc : Thread Cert.FfnIdeal.nD Cert.FfnIdeal.τ).loc Cert.FfnIdeal.main_v18_3)) (v5 : (c : Dev Cert.FfnIdeal.nD) → Buf (Elt Ideal) ((c.tc : Thread Cert.FfnIdeal.nD Cert.FfnIdeal.τ).loc Cert.FfnIdeal.main_v19)) (v6 : (c : Dev Cert.FfnIdeal.nD) → Buf (Elt Ideal) ((c.tc : Thread Cert.FfnIdeal.nD Cert.FfnIdeal.τ).loc Cert.FfnIdeal.main_v18_0)) (v7 : (c : Dev Cert.FfnIdeal.nD) → Buf (Elt Ideal) ((c.tc : Thread Cert.FfnIdeal.nD Cert.FfnIdeal.τ).loc Cert.FfnIdeal.main_v18_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_v14) = v1 c
          ∧ r.2.mem ((c.tc : Thread Cert.FfnIdeal.nD Cert.FfnIdeal.τ).loc Cert.FfnIdeal.main_v15) = v2 c
          ∧ r.2.mem ((c.tc : Thread Cert.FfnIdeal.nD Cert.FfnIdeal.τ).loc Cert.FfnIdeal.main_v12) = v3 c
          ∧ r.2.mem ((c.tc : Thread Cert.FfnIdeal.nD Cert.FfnIdeal.τ).loc Cert.FfnIdeal.main_v18_3) = v4 c
          ∧ r.2.mem ((c.tc : Thread Cert.FfnIdeal.nD Cert.FfnIdeal.τ).loc Cert.FfnIdeal.main_v19) = v5 c
          ∧ r.2.mem ((c.tc : Thread Cert.FfnIdeal.nD Cert.FfnIdeal.τ).loc Cert.FfnIdeal.main_v18_0) = v6 c
          ∧ r.2.mem ((c.tc : Thread Cert.FfnIdeal.nD Cert.FfnIdeal.τ).loc Cert.FfnIdeal.main_v18_1) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_v80) = v1 c
          ∧ r.2.mem ((c.tc : Thread Cert.FfnRefIdeal.nD Cert.FfnRefIdeal.τ).loc Cert.FfnRefIdeal.main_v81) = v2 c
          ∧ r.2.mem ((c.tc : Thread Cert.FfnRefIdeal.nD Cert.FfnRefIdeal.τ).loc Cert.FfnRefIdeal.main_v82) = v3 c
          ∧ r.2.mem ((c.tc : Thread Cert.FfnRefIdeal.nD Cert.FfnRefIdeal.τ).loc Cert.FfnRefIdeal.main_v58) = v4 c
          ∧ r.2.mem ((c.tc : Thread Cert.FfnRefIdeal.nD Cert.FfnRefIdeal.τ).loc Cert.FfnRefIdeal.main_v83) = v5 c
          ∧ r.2.mem ((c.tc : Thread Cert.FfnRefIdeal.nD Cert.FfnRefIdeal.τ).loc Cert.FfnRefIdeal.main_v79) = v6 c
          ∧ r.2.mem ((c.tc : Thread Cert.FfnRefIdeal.nD Cert.FfnRefIdeal.τ).loc Cert.FfnRefIdeal.main_v75) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v3)) (v1 : (c : Dev Cert.InProjIdeal.nD) → Buf (Elt Ideal) ((c.tc : Thread Cert.InProjIdeal.nD Cert.InProjIdeal.τ).loc Cert.InProjIdeal.main_v4)) (v2 : (c : Dev Cert.InProjIdeal.nD) → Buf (Elt Ideal) ((c.tc : Thread Cert.InProjIdeal.nD Cert.InProjIdeal.τ).loc Cert.InProjIdeal.main_v5_0)) (v3 : (c : Dev Cert.InProjIdeal.nD) → Buf (Elt Ideal) ((c.tc : Thread Cert.InProjIdeal.nD Cert.InProjIdeal.τ).loc Cert.InProjIdeal.main_v5_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_v4) = v1 c
          ∧ r.2.mem ((c.tc : Thread Cert.InProjIdeal.nD Cert.InProjIdeal.τ).loc Cert.InProjIdeal.main_v5_0) = v2 c
          ∧ r.2.mem ((c.tc : Thread Cert.InProjIdeal.nD Cert.InProjIdeal.τ).loc Cert.InProjIdeal.main_v5_1) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v42) = v0 c
          ∧ r.2.mem ((c.tc : Thread Cert.InProjRefIdeal.nD Cert.InProjRefIdeal.τ).loc Cert.InProjRefIdeal.main_v43) = v1 c
          ∧ r.2.mem ((c.tc : Thread Cert.InProjRefIdeal.nD Cert.InProjRefIdeal.τ).loc Cert.InProjRefIdeal.main_v41) = v2 c
          ∧ r.2.mem ((c.tc : Thread Cert.InProjRefIdeal.nD Cert.InProjRefIdeal.τ).loc Cert.InProjRefIdeal.main_v24) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)
      ∧ m' ((c.tc : Thread Cert.AdamWRefIdeal.nD Cert.AdamWRefIdeal.τ).loc Cert.AdamWRefIdeal.main_arg5) = m ((c.tc : Thread Cert.AdamWIdeal.nD Cert.AdamWIdeal.τ).loc Cert.AdamWIdeal.main_arg5)
      ∧ m' ((c.tc : Thread Cert.AdamWRefIdeal.nD Cert.AdamWRefIdeal.τ).loc Cert.AdamWRefIdeal.main_arg6) = m ((c.tc : Thread Cert.AdamWIdeal.nD Cert.AdamWIdeal.τ).loc Cert.AdamWIdeal.main_arg6)
      ∧ m' ((c.tc : Thread Cert.AdamWRefIdeal.nD Cert.AdamWRefIdeal.τ).loc Cert.AdamWRefIdeal.main_arg7) = m ((c.tc : Thread Cert.AdamWIdeal.nD Cert.AdamWIdeal.τ).loc Cert.AdamWIdeal.main_arg7)
      ∧ m' ((c.tc : Thread Cert.AdamWRefIdeal.nD Cert.AdamWRefIdeal.τ).loc Cert.AdamWRefIdeal.main_arg8) = m ((c.tc : Thread Cert.AdamWIdeal.nD Cert.AdamWIdeal.τ).loc Cert.AdamWIdeal.main_arg8)
      ∧ m' ((c.tc : Thread Cert.AdamWRefIdeal.nD Cert.AdamWRefIdeal.τ).loc Cert.AdamWRefIdeal.main_arg9) = m ((c.tc : Thread Cert.AdamWIdeal.nD Cert.AdamWIdeal.τ).loc Cert.AdamWIdeal.main_arg9)
      ∧ m' ((c.tc : Thread Cert.AdamWRefIdeal.nD Cert.AdamWRefIdeal.τ).loc Cert.AdamWRefIdeal.main_arg10) = m ((c.tc : Thread Cert.AdamWIdeal.nD Cert.AdamWIdeal.τ).loc Cert.AdamWIdeal.main_arg10)
      ∧ m' ((c.tc : Thread Cert.AdamWRefIdeal.nD Cert.AdamWRefIdeal.τ).loc Cert.AdamWRefIdeal.main_arg11) = m ((c.tc : Thread Cert.AdamWIdeal.nD Cert.AdamWIdeal.τ).loc Cert.AdamWIdeal.main_arg11)
      ∧ m' ((c.tc : Thread Cert.AdamWRefIdeal.nD Cert.AdamWRefIdeal.τ).loc Cert.AdamWRefIdeal.main_arg12) = m ((c.tc : Thread Cert.AdamWIdeal.nD Cert.AdamWIdeal.τ).loc Cert.AdamWIdeal.main_arg12)
      ∧ m' ((c.tc : Thread Cert.AdamWRefIdeal.nD Cert.AdamWRefIdeal.τ).loc Cert.AdamWRefIdeal.main_arg13) = m ((c.tc : Thread Cert.AdamWIdeal.nD Cert.AdamWIdeal.τ).loc Cert.AdamWIdeal.main_arg13)
      ∧ m' ((c.tc : Thread Cert.AdamWRefIdeal.nD Cert.AdamWRefIdeal.τ).loc Cert.AdamWRefIdeal.main_arg14) = m ((c.tc : Thread Cert.AdamWIdeal.nD Cert.AdamWIdeal.τ).loc Cert.AdamWIdeal.main_arg14)
      ∧ m' ((c.tc : Thread Cert.AdamWRefIdeal.nD Cert.AdamWRefIdeal.τ).loc Cert.AdamWRefIdeal.main_arg15) = m ((c.tc : Thread Cert.AdamWIdeal.nD Cert.AdamWIdeal.τ).loc Cert.AdamWIdeal.main_arg15)
      ∧ m' ((c.tc : Thread Cert.AdamWRefIdeal.nD Cert.AdamWRefIdeal.τ).loc Cert.AdamWRefIdeal.main_arg16) = m ((c.tc : Thread Cert.AdamWIdeal.nD Cert.AdamWIdeal.τ).loc Cert.AdamWIdeal.main_arg16)
      ∧ m' ((c.tc : Thread Cert.AdamWRefIdeal.nD Cert.AdamWRefIdeal.τ).loc Cert.AdamWRefIdeal.main_arg17) = m ((c.tc : Thread Cert.AdamWIdeal.nD Cert.AdamWIdeal.τ).loc Cert.AdamWIdeal.main_arg17)
      ∧ m' ((c.tc : Thread Cert.AdamWRefIdeal.nD Cert.AdamWRefIdeal.τ).loc Cert.AdamWRefIdeal.main_arg18) = m ((c.tc : Thread Cert.AdamWIdeal.nD Cert.AdamWIdeal.τ).loc Cert.AdamWIdeal.main_arg18)
      ∧ m' ((c.tc : Thread Cert.AdamWRefIdeal.nD Cert.AdamWRefIdeal.τ).loc Cert.AdamWRefIdeal.main_arg19) = m ((c.tc : Thread Cert.AdamWIdeal.nD Cert.AdamWIdeal.τ).loc Cert.AdamWIdeal.main_arg19)) →
    ∃ (v0 : (c : Dev Cert.AdamWIdeal.nD) → Buf (Elt Ideal) ((c.tc : Thread Cert.AdamWIdeal.nD Cert.AdamWIdeal.τ).loc Cert.AdamWIdeal.main_v1_0)) (v1 : (c : Dev Cert.AdamWIdeal.nD) → Buf (Elt Ideal) ((c.tc : Thread Cert.AdamWIdeal.nD Cert.AdamWIdeal.τ).loc Cert.AdamWIdeal.main_v1_1)) (v2 : (c : Dev Cert.AdamWIdeal.nD) → Buf (Elt Ideal) ((c.tc : Thread Cert.AdamWIdeal.nD Cert.AdamWIdeal.τ).loc Cert.AdamWIdeal.main_v1_2)) (v3 : (c : Dev Cert.AdamWIdeal.nD) → Buf (Elt Ideal) ((c.tc : Thread Cert.AdamWIdeal.nD Cert.AdamWIdeal.τ).loc Cert.AdamWIdeal.main_v1_3)) (v4 : (c : Dev Cert.AdamWIdeal.nD) → Buf (Elt Ideal) ((c.tc : Thread Cert.AdamWIdeal.nD Cert.AdamWIdeal.τ).loc Cert.AdamWIdeal.main_v3_0)) (v5 : (c : Dev Cert.AdamWIdeal.nD) → Buf (Elt Ideal) ((c.tc : Thread Cert.AdamWIdeal.nD Cert.AdamWIdeal.τ).loc Cert.AdamWIdeal.main_v3_1)) (v6 : (c : Dev Cert.AdamWIdeal.nD) → Buf (Elt Ideal) ((c.tc : Thread Cert.AdamWIdeal.nD Cert.AdamWIdeal.τ).loc Cert.AdamWIdeal.main_v3_2)) (v7 : (c : Dev Cert.AdamWIdeal.nD) → Buf (Elt Ideal) ((c.tc : Thread Cert.AdamWIdeal.nD Cert.AdamWIdeal.τ).loc Cert.AdamWIdeal.main_v3_3)) (v8 : (c : Dev Cert.AdamWIdeal.nD) → Buf (Elt Ideal) ((c.tc : Thread Cert.AdamWIdeal.nD Cert.AdamWIdeal.τ).loc Cert.AdamWIdeal.main_v5_0)) (v9 : (c : Dev Cert.AdamWIdeal.nD) → Buf (Elt Ideal) ((c.tc : Thread Cert.AdamWIdeal.nD Cert.AdamWIdeal.τ).loc Cert.AdamWIdeal.main_v5_1)) (v10 : (c : Dev Cert.AdamWIdeal.nD) → Buf (Elt Ideal) ((c.tc : Thread Cert.AdamWIdeal.nD Cert.AdamWIdeal.τ).loc Cert.AdamWIdeal.main_v5_2)) (v11 : (c : Dev Cert.AdamWIdeal.nD) → Buf (Elt Ideal) ((c.tc : Thread Cert.AdamWIdeal.nD Cert.AdamWIdeal.τ).loc Cert.AdamWIdeal.main_v5_3)) (v12 : (c : Dev Cert.AdamWIdeal.nD) → Buf (Elt Ideal) ((c.tc : Thread Cert.AdamWIdeal.nD Cert.AdamWIdeal.τ).loc Cert.AdamWIdeal.main_v7_0)) (v13 : (c : Dev Cert.AdamWIdeal.nD) → Buf (Elt Ideal) ((c.tc : Thread Cert.AdamWIdeal.nD Cert.AdamWIdeal.τ).loc Cert.AdamWIdeal.main_v7_1)) (v14 : (c : Dev Cert.AdamWIdeal.nD) → Buf (Elt Ideal) ((c.tc : Thread Cert.AdamWIdeal.nD Cert.AdamWIdeal.τ).loc Cert.AdamWIdeal.main_v7_2)) (v15 : (c : Dev Cert.AdamWIdeal.nD) → Buf (Elt Ideal) ((c.tc : Thread Cert.AdamWIdeal.nD Cert.AdamWIdeal.τ).loc Cert.AdamWIdeal.main_v7_3)) (v16 : (c : Dev Cert.AdamWIdeal.nD) → Buf (Elt Ideal) ((c.tc : Thread Cert.AdamWIdeal.nD Cert.AdamWIdeal.τ).loc Cert.AdamWIdeal.main_v9_0)) (v17 : (c : Dev Cert.AdamWIdeal.nD) → Buf (Elt Ideal) ((c.tc : Thread Cert.AdamWIdeal.nD Cert.AdamWIdeal.τ).loc Cert.AdamWIdeal.main_v9_1)) (v18 : (c : Dev Cert.AdamWIdeal.nD) → Buf (Elt Ideal) ((c.tc : Thread Cert.AdamWIdeal.nD Cert.AdamWIdeal.τ).loc Cert.AdamWIdeal.main_v9_2)) (v19 : (c : Dev Cert.AdamWIdeal.nD) → Buf (Elt Ideal) ((c.tc : Thread Cert.AdamWIdeal.nD Cert.AdamWIdeal.τ).loc Cert.AdamWIdeal.main_v9_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v1_0) = v0 c
          ∧ r.2.mem ((c.tc : Thread Cert.AdamWIdeal.nD Cert.AdamWIdeal.τ).loc Cert.AdamWIdeal.main_v1_1) = v1 c
          ∧ r.2.mem ((c.tc : Thread Cert.AdamWIdeal.nD Cert.AdamWIdeal.τ).loc Cert.AdamWIdeal.main_v1_2) = v2 c
          ∧ r.2.mem ((c.tc : Thread Cert.AdamWIdeal.nD Cert.AdamWIdeal.τ).loc Cert.AdamWIdeal.main_v1_3) = v3 c
          ∧ r.2.mem ((c.tc : Thread Cert.AdamWIdeal.nD Cert.AdamWIdeal.τ).loc Cert.AdamWIdeal.main_v3_0) = v4 c
          ∧ r.2.mem ((c.tc : Thread Cert.AdamWIdeal.nD Cert.AdamWIdeal.τ).loc Cert.AdamWIdeal.main_v3_1) = v5 c
          ∧ r.2.mem ((c.tc : Thread Cert.AdamWIdeal.nD Cert.AdamWIdeal.τ).loc Cert.AdamWIdeal.main_v3_2) = v6 c
          ∧ r.2.mem ((c.tc : Thread Cert.AdamWIdeal.nD Cert.AdamWIdeal.τ).loc Cert.AdamWIdeal.main_v3_3) = v7 c
          ∧ r.2.mem ((c.tc : Thread Cert.AdamWIdeal.nD Cert.AdamWIdeal.τ).loc Cert.AdamWIdeal.main_v5_0) = v8 c
          ∧ r.2.mem ((c.tc : Thread Cert.AdamWIdeal.nD Cert.AdamWIdeal.τ).loc Cert.AdamWIdeal.main_v5_1) = v9 c
          ∧ r.2.mem ((c.tc : Thread Cert.AdamWIdeal.nD Cert.AdamWIdeal.τ).loc Cert.AdamWIdeal.main_v5_2) = v10 c
          ∧ r.2.mem ((c.tc : Thread Cert.AdamWIdeal.nD Cert.AdamWIdeal.τ).loc Cert.AdamWIdeal.main_v5_3) = v11 c
          ∧ r.2.mem ((c.tc : Thread Cert.AdamWIdeal.nD Cert.AdamWIdeal.τ).loc Cert.AdamWIdeal.main_v7_0) = v12 c
          ∧ r.2.mem ((c.tc : Thread Cert.AdamWIdeal.nD Cert.AdamWIdeal.τ).loc Cert.AdamWIdeal.main_v7_1) = v13 c
          ∧ r.2.mem ((c.tc : Thread Cert.AdamWIdeal.nD Cert.AdamWIdeal.τ).loc Cert.AdamWIdeal.main_v7_2) = v14 c
          ∧ r.2.mem ((c.tc : Thread Cert.AdamWIdeal.nD Cert.AdamWIdeal.τ).loc Cert.AdamWIdeal.main_v7_3) = v15 c
          ∧ r.2.mem ((c.tc : Thread Cert.AdamWIdeal.nD Cert.AdamWIdeal.τ).loc Cert.AdamWIdeal.main_v9_0) = v16 c
          ∧ r.2.mem ((c.tc : Thread Cert.AdamWIdeal.nD Cert.AdamWIdeal.τ).loc Cert.AdamWIdeal.main_v9_1) = v17 c
          ∧ r.2.mem ((c.tc : Thread Cert.AdamWIdeal.nD Cert.AdamWIdeal.τ).loc Cert.AdamWIdeal.main_v9_2) = v18 c
          ∧ r.2.mem ((c.tc : Thread Cert.AdamWIdeal.nD Cert.AdamWIdeal.τ).loc Cert.AdamWIdeal.main_v9_3) = v19 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4)
          ∧ r.2.mem ((c.tc : Thread Cert.AdamWIdeal.nD Cert.AdamWIdeal.τ).loc Cert.AdamWIdeal.main_arg5) = m ((c.tc : Thread Cert.AdamWIdeal.nD Cert.AdamWIdeal.τ).loc Cert.AdamWIdeal.main_arg5)
          ∧ r.2.mem ((c.tc : Thread Cert.AdamWIdeal.nD Cert.AdamWIdeal.τ).loc Cert.AdamWIdeal.main_arg6) = m ((c.tc : Thread Cert.AdamWIdeal.nD Cert.AdamWIdeal.τ).loc Cert.AdamWIdeal.main_arg6)
          ∧ r.2.mem ((c.tc : Thread Cert.AdamWIdeal.nD Cert.AdamWIdeal.τ).loc Cert.AdamWIdeal.main_arg7) = m ((c.tc : Thread Cert.AdamWIdeal.nD Cert.AdamWIdeal.τ).loc Cert.AdamWIdeal.main_arg7)
          ∧ r.2.mem ((c.tc : Thread Cert.AdamWIdeal.nD Cert.AdamWIdeal.τ).loc Cert.AdamWIdeal.main_arg8) = m ((c.tc : Thread Cert.AdamWIdeal.nD Cert.AdamWIdeal.τ).loc Cert.AdamWIdeal.main_arg8)
          ∧ r.2.mem ((c.tc : Thread Cert.AdamWIdeal.nD Cert.AdamWIdeal.τ).loc Cert.AdamWIdeal.main_arg9) = m ((c.tc : Thread Cert.AdamWIdeal.nD Cert.AdamWIdeal.τ).loc Cert.AdamWIdeal.main_arg9)
          ∧ r.2.mem ((c.tc : Thread Cert.AdamWIdeal.nD Cert.AdamWIdeal.τ).loc Cert.AdamWIdeal.main_arg10) = m ((c.tc : Thread Cert.AdamWIdeal.nD Cert.AdamWIdeal.τ).loc Cert.AdamWIdeal.main_arg10)
          ∧ r.2.mem ((c.tc : Thread Cert.AdamWIdeal.nD Cert.AdamWIdeal.τ).loc Cert.AdamWIdeal.main_arg11) = m ((c.tc : Thread Cert.AdamWIdeal.nD Cert.AdamWIdeal.τ).loc Cert.AdamWIdeal.main_arg11)
          ∧ r.2.mem ((c.tc : Thread Cert.AdamWIdeal.nD Cert.AdamWIdeal.τ).loc Cert.AdamWIdeal.main_arg12) = m ((c.tc : Thread Cert.AdamWIdeal.nD Cert.AdamWIdeal.τ).loc Cert.AdamWIdeal.main_arg12)
          ∧ r.2.mem ((c.tc : Thread Cert.AdamWIdeal.nD Cert.AdamWIdeal.τ).loc Cert.AdamWIdeal.main_arg13) = m ((c.tc : Thread Cert.AdamWIdeal.nD Cert.AdamWIdeal.τ).loc Cert.AdamWIdeal.main_arg13)
          ∧ r.2.mem ((c.tc : Thread Cert.AdamWIdeal.nD Cert.AdamWIdeal.τ).loc Cert.AdamWIdeal.main_arg14) = m ((c.tc : Thread Cert.AdamWIdeal.nD Cert.AdamWIdeal.τ).loc Cert.AdamWIdeal.main_arg14)
          ∧ r.2.mem ((c.tc : Thread Cert.AdamWIdeal.nD Cert.AdamWIdeal.τ).loc Cert.AdamWIdeal.main_arg15) = m ((c.tc : Thread Cert.AdamWIdeal.nD Cert.AdamWIdeal.τ).loc Cert.AdamWIdeal.main_arg15)
          ∧ r.2.mem ((c.tc : Thread Cert.AdamWIdeal.nD Cert.AdamWIdeal.τ).loc Cert.AdamWIdeal.main_arg16) = m ((c.tc : Thread Cert.AdamWIdeal.nD Cert.AdamWIdeal.τ).loc Cert.AdamWIdeal.main_arg16)
          ∧ r.2.mem ((c.tc : Thread Cert.AdamWIdeal.nD Cert.AdamWIdeal.τ).loc Cert.AdamWIdeal.main_arg17) = m ((c.tc : Thread Cert.AdamWIdeal.nD Cert.AdamWIdeal.τ).loc Cert.AdamWIdeal.main_arg17)
          ∧ r.2.mem ((c.tc : Thread Cert.AdamWIdeal.nD Cert.AdamWIdeal.τ).loc Cert.AdamWIdeal.main_arg18) = m ((c.tc : Thread Cert.AdamWIdeal.nD Cert.AdamWIdeal.τ).loc Cert.AdamWIdeal.main_arg18)
          ∧ r.2.mem ((c.tc : Thread Cert.AdamWIdeal.nD Cert.AdamWIdeal.τ).loc Cert.AdamWIdeal.main_arg19) = m ((c.tc : Thread Cert.AdamWIdeal.nD Cert.AdamWIdeal.τ).loc Cert.AdamWIdeal.main_arg19))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_v25) = v4 c
          ∧ r.2.mem ((c.tc : Thread Cert.AdamWRefIdeal.nD Cert.AdamWRefIdeal.τ).loc Cert.AdamWRefIdeal.main_v49) = v5 c
          ∧ r.2.mem ((c.tc : Thread Cert.AdamWRefIdeal.nD Cert.AdamWRefIdeal.τ).loc Cert.AdamWRefIdeal.main_v30) = v6 c
          ∧ r.2.mem ((c.tc : Thread Cert.AdamWRefIdeal.nD Cert.AdamWRefIdeal.τ).loc Cert.AdamWRefIdeal.main_v36) = v7 c
          ∧ r.2.mem ((c.tc : Thread Cert.AdamWRefIdeal.nD Cert.AdamWRefIdeal.τ).loc Cert.AdamWRefIdeal.main_v50) = v8 c
          ∧ r.2.mem ((c.tc : Thread Cert.AdamWRefIdeal.nD Cert.AdamWRefIdeal.τ).loc Cert.AdamWRefIdeal.main_v74) = v9 c
          ∧ r.2.mem ((c.tc : Thread Cert.AdamWRefIdeal.nD Cert.AdamWRefIdeal.τ).loc Cert.AdamWRefIdeal.main_v55) = v10 c
          ∧ r.2.mem ((c.tc : Thread Cert.AdamWRefIdeal.nD Cert.AdamWRefIdeal.τ).loc Cert.AdamWRefIdeal.main_v61) = v11 c
          ∧ r.2.mem ((c.tc : Thread Cert.AdamWRefIdeal.nD Cert.AdamWRefIdeal.τ).loc Cert.AdamWRefIdeal.main_v75) = v12 c
          ∧ r.2.mem ((c.tc : Thread Cert.AdamWRefIdeal.nD Cert.AdamWRefIdeal.τ).loc Cert.AdamWRefIdeal.main_v99) = v13 c
          ∧ r.2.mem ((c.tc : Thread Cert.AdamWRefIdeal.nD Cert.AdamWRefIdeal.τ).loc Cert.AdamWRefIdeal.main_v80) = v14 c
          ∧ r.2.mem ((c.tc : Thread Cert.AdamWRefIdeal.nD Cert.AdamWRefIdeal.τ).loc Cert.AdamWRefIdeal.main_v86) = v15 c
          ∧ r.2.mem ((c.tc : Thread Cert.AdamWRefIdeal.nD Cert.AdamWRefIdeal.τ).loc Cert.AdamWRefIdeal.main_v100) = v16 c
          ∧ r.2.mem ((c.tc : Thread Cert.AdamWRefIdeal.nD Cert.AdamWRefIdeal.τ).loc Cert.AdamWRefIdeal.main_v124) = v17 c
          ∧ r.2.mem ((c.tc : Thread Cert.AdamWRefIdeal.nD Cert.AdamWRefIdeal.τ).loc Cert.AdamWRefIdeal.main_v105) = v18 c
          ∧ r.2.mem ((c.tc : Thread Cert.AdamWRefIdeal.nD Cert.AdamWRefIdeal.τ).loc Cert.AdamWRefIdeal.main_v111) = v19 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4)
          ∧ r.2.mem ((c.tc : Thread Cert.AdamWRefIdeal.nD Cert.AdamWRefIdeal.τ).loc Cert.AdamWRefIdeal.main_arg5) = m' ((c.tc : Thread Cert.AdamWRefIdeal.nD Cert.AdamWRefIdeal.τ).loc Cert.AdamWRefIdeal.main_arg5)
          ∧ r.2.mem ((c.tc : Thread Cert.AdamWRefIdeal.nD Cert.AdamWRefIdeal.τ).loc Cert.AdamWRefIdeal.main_arg6) = m' ((c.tc : Thread Cert.AdamWRefIdeal.nD Cert.AdamWRefIdeal.τ).loc Cert.AdamWRefIdeal.main_arg6)
          ∧ r.2.mem ((c.tc : Thread Cert.AdamWRefIdeal.nD Cert.AdamWRefIdeal.τ).loc Cert.AdamWRefIdeal.main_arg7) = m' ((c.tc : Thread Cert.AdamWRefIdeal.nD Cert.AdamWRefIdeal.τ).loc Cert.AdamWRefIdeal.main_arg7)
          ∧ r.2.mem ((c.tc : Thread Cert.AdamWRefIdeal.nD Cert.AdamWRefIdeal.τ).loc Cert.AdamWRefIdeal.main_arg8) = m' ((c.tc : Thread Cert.AdamWRefIdeal.nD Cert.AdamWRefIdeal.τ).loc Cert.AdamWRefIdeal.main_arg8)
          ∧ r.2.mem ((c.tc : Thread Cert.AdamWRefIdeal.nD Cert.AdamWRefIdeal.τ).loc Cert.AdamWRefIdeal.main_arg9) = m' ((c.tc : Thread Cert.AdamWRefIdeal.nD Cert.AdamWRefIdeal.τ).loc Cert.AdamWRefIdeal.main_arg9)
          ∧ r.2.mem ((c.tc : Thread Cert.AdamWRefIdeal.nD Cert.AdamWRefIdeal.τ).loc Cert.AdamWRefIdeal.main_arg10) = m' ((c.tc : Thread Cert.AdamWRefIdeal.nD Cert.AdamWRefIdeal.τ).loc Cert.AdamWRefIdeal.main_arg10)
          ∧ r.2.mem ((c.tc : Thread Cert.AdamWRefIdeal.nD Cert.AdamWRefIdeal.τ).loc Cert.AdamWRefIdeal.main_arg11) = m' ((c.tc : Thread Cert.AdamWRefIdeal.nD Cert.AdamWRefIdeal.τ).loc Cert.AdamWRefIdeal.main_arg11)
          ∧ r.2.mem ((c.tc : Thread Cert.AdamWRefIdeal.nD Cert.AdamWRefIdeal.τ).loc Cert.AdamWRefIdeal.main_arg12) = m' ((c.tc : Thread Cert.AdamWRefIdeal.nD Cert.AdamWRefIdeal.τ).loc Cert.AdamWRefIdeal.main_arg12)
          ∧ r.2.mem ((c.tc : Thread Cert.AdamWRefIdeal.nD Cert.AdamWRefIdeal.τ).loc Cert.AdamWRefIdeal.main_arg13) = m' ((c.tc : Thread Cert.AdamWRefIdeal.nD Cert.AdamWRefIdeal.τ).loc Cert.AdamWRefIdeal.main_arg13)
          ∧ r.2.mem ((c.tc : Thread Cert.AdamWRefIdeal.nD Cert.AdamWRefIdeal.τ).loc Cert.AdamWRefIdeal.main_arg14) = m' ((c.tc : Thread Cert.AdamWRefIdeal.nD Cert.AdamWRefIdeal.τ).loc Cert.AdamWRefIdeal.main_arg14)
          ∧ r.2.mem ((c.tc : Thread Cert.AdamWRefIdeal.nD Cert.AdamWRefIdeal.τ).loc Cert.AdamWRefIdeal.main_arg15) = m' ((c.tc : Thread Cert.AdamWRefIdeal.nD Cert.AdamWRefIdeal.τ).loc Cert.AdamWRefIdeal.main_arg15)
          ∧ r.2.mem ((c.tc : Thread Cert.AdamWRefIdeal.nD Cert.AdamWRefIdeal.τ).loc Cert.AdamWRefIdeal.main_arg16) = m' ((c.tc : Thread Cert.AdamWRefIdeal.nD Cert.AdamWRefIdeal.τ).loc Cert.AdamWRefIdeal.main_arg16)
          ∧ r.2.mem ((c.tc : Thread Cert.AdamWRefIdeal.nD Cert.AdamWRefIdeal.τ).loc Cert.AdamWRefIdeal.main_arg17) = m' ((c.tc : Thread Cert.AdamWRefIdeal.nD Cert.AdamWRefIdeal.τ).loc Cert.AdamWRefIdeal.main_arg17)
          ∧ r.2.mem ((c.tc : Thread Cert.AdamWRefIdeal.nD Cert.AdamWRefIdeal.τ).loc Cert.AdamWRefIdeal.main_arg18) = m' ((c.tc : Thread Cert.AdamWRefIdeal.nD Cert.AdamWRefIdeal.τ).loc Cert.AdamWRefIdeal.main_arg18)
          ∧ r.2.mem ((c.tc : Thread Cert.AdamWRefIdeal.nD Cert.AdamWRefIdeal.τ).loc Cert.AdamWRefIdeal.main_arg19) = m' ((c.tc : Thread Cert.AdamWRefIdeal.nD Cert.AdamWRefIdeal.τ).loc Cert.AdamWRefIdeal.main_arg19))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)
      ∧ m' ((c.tc : Thread Cert.GateRefIdeal.nD Cert.GateRefIdeal.τ).loc Cert.GateRefIdeal.main_arg8) = m ((c.tc : Thread Cert.GateIdeal.nD Cert.GateIdeal.τ).loc Cert.GateIdeal.main_arg8)
      ∧ m' ((c.tc : Thread Cert.GateRefIdeal.nD Cert.GateRefIdeal.τ).loc Cert.GateRefIdeal.main_arg9) = m ((c.tc : Thread Cert.GateIdeal.nD Cert.GateIdeal.τ).loc Cert.GateIdeal.main_arg9)) →
    ∃ (v0 : (c : Dev Cert.GateIdeal.nD) → Buf (Elt Ideal) ((c.tc : Thread Cert.GateIdeal.nD Cert.GateIdeal.τ).loc Cert.GateIdeal.main_v16)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v16) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
          ∧ r.2.mem ((c.tc : Thread Cert.GateIdeal.nD Cert.GateIdeal.τ).loc Cert.GateIdeal.main_arg8) = m ((c.tc : Thread Cert.GateIdeal.nD Cert.GateIdeal.τ).loc Cert.GateIdeal.main_arg8)
          ∧ r.2.mem ((c.tc : Thread Cert.GateIdeal.nD Cert.GateIdeal.τ).loc Cert.GateIdeal.main_arg9) = m ((c.tc : Thread Cert.GateIdeal.nD Cert.GateIdeal.τ).loc Cert.GateIdeal.main_arg9))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v71) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7)
          ∧ r.2.mem ((c.tc : Thread Cert.GateRefIdeal.nD Cert.GateRefIdeal.τ).loc Cert.GateRefIdeal.main_arg8) = m' ((c.tc : Thread Cert.GateRefIdeal.nD Cert.GateRefIdeal.τ).loc Cert.GateRefIdeal.main_arg8)
          ∧ r.2.mem ((c.tc : Thread Cert.GateRefIdeal.nD Cert.GateRefIdeal.τ).loc Cert.GateRefIdeal.main_arg9) = m' ((c.tc : Thread Cert.GateRefIdeal.nD Cert.GateRefIdeal.τ).loc Cert.GateRefIdeal.main_arg9))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hAdamW : Cert.AdamW.Facts) (hAdamWIdeal : Cert.AdamWIdeal.Facts) (hAdamWRefIdeal : Cert.AdamWRefIdeal.Facts) (hGate : Cert.Gate.Facts) (hGateIdeal : Cert.GateIdeal.Facts) (hGateRefIdeal : Cert.GateRefIdeal.Facts) (hPre_finite : Cert.Pre_finite.Facts),
    quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_Gate (hGate := hGate)
    ∧ quiescent_GateIdeal (hGateIdeal := hGateIdeal)
    ∧ quiescent_GateRefIdeal (hGateRefIdeal := hGateRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_InProj_InProjIdeal
    ∧ algebraic_InProjIdeal_InProjRefIdeal (hInProjIdeal := hInProjIdeal) (hInProjRefIdeal := hInProjRefIdeal)
    ∧ preserves_AdamW_AdamWIdeal
    ∧ algebraic_AdamWIdeal_AdamWRefIdeal (hAdamWIdeal := hAdamWIdeal) (hAdamWRefIdeal := hAdamWRefIdeal)
    ∧ preserves_Gate_GateIdeal
    ∧ algebraic_GateIdeal_GateRefIdeal (hGateIdeal := hGateIdeal) (hGateRefIdeal := hGateRefIdeal)
-- ==== Pre_finite.lean ====
abbrev S2048x4096 : Shape := ⟨2, ![2048, 4096]⟩
abbrev S4096x2048 : Shape := ⟨2, ![4096, 2048]⟩
abbrev S1x2048 : Shape := ⟨2, ![1, 2048]⟩
abbrev S2048x2048 : Shape := ⟨2, ![2048, 2048]⟩
abbrev S5632x2048 : Shape := ⟨2, ![5632, 2048]⟩
abbrev S_ : Shape := ⟨0, ![]⟩

class Facts : Prop where
  bcast_S_S2048x4096 : S_.BroadcastsInDim S2048x4096 (![] : Fin 0 → Fin S2048x4096.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S2048x2048 : S_.BroadcastsInDim S2048x2048 (![] : Fin 0 → Fin S2048x2048.rank)
  bcast_S_S5632x2048 : S_.BroadcastsInDim S5632x2048 (![] : Fin 0 → Fin S5632x2048.rank)

variable [Facts]

def fn_part1 {F : FTy → Type} [FloatOps F] (main_arg6 : FVec F S5632x2048 .f32) (main_arg7 : FVec F S4096x2048 .f32) (main_v2 : IVec S2048x4096 1) (main_v5 : IVec S4096x2048 1) (main_v8 : IVec S1x2048 1) (main_v11 : IVec S2048x2048 1) (main_v14 : IVec S5632x2048 1) (main_v17 : IVec S5632x2048 1) : IVec S2048x4096 1 × IVec S4096x2048 1 × IVec S1x2048 1 × IVec S2048x2048 1 × IVec S5632x2048 1 × IVec S5632x2048 1 × IVec S5632x2048 1 × IVec S4096x2048 1 :=
  let main_v18 : FVec F S5632x2048 .f32 := subf main_arg6 main_arg6
  let main_cst_5 : FVec F S_ .f32 := constant S_ .f32 0x00000000#32
  let main_v19 : FVec F S5632x2048 .f32 := broadcastInDim S5632x2048 ![] bcast_S_S5632x2048 main_cst_5
  let main_v20 : IVec S5632x2048 1 := cmpf .oeq main_v18 main_v19
  let main_v21 : FVec F S4096x2048 .f32 := subf main_arg7 main_arg7
  let main_cst_6 : FVec F S_ .f32 := constant S_ .f32 0x00000000#32
  let main_v22 : FVec F S4096x2048 .f32 := broadcastInDim S4096x2048 ![] bcast_S_S4096x2048 main_cst_6
  let main_v23 : IVec S4096x2048 1 := cmpf .oeq main_v21 main_v22
  (main_v2, main_v5, main_v8, main_v11, main_v14, main_v17, main_v20, main_v23)

def fn {F : FTy → Type} [FloatOps F] (main_arg0 : FVec F S2048x4096 .f32) (main_arg1 : FVec F S4096x2048 .f32) (main_arg2 : FVec F S1x2048 .f32) (main_arg3 : FVec F S2048x2048 .f32) (main_arg4 : FVec F S5632x2048 .f32) (main_arg5 : FVec F S5632x2048 .f32) (main_arg6 : FVec F S5632x2048 .f32) (main_arg7 : FVec F S4096x2048 .f32) : IVec S2048x4096 1 × IVec S4096x2048 1 × IVec S1x2048 1 × IVec S2048x2048 1 × IVec S5632x2048 1 × IVec S5632x2048 1 × IVec S5632x2048 1 × IVec S4096x2048 1 :=
  let main_v0 : FVec F S2048x4096 .f32 := subf main_arg0 main_arg0
  let main_cst : FVec F S_ .f32 := constant S_ .f32 0x00000000#32
  let main_v1 : FVec F S2048x4096 .f32 := broadcastInDim S2048x4096 ![] bcast_S_S2048x4096 main_cst
  let main_v2 : IVec S2048x4096 1 := cmpf .oeq main_v0 main_v1
  let main_v3 : FVec F S4096x2048 .f32 := subf main_arg1 main_arg1
  let main_cst_0 : FVec F S_ .f32 := constant S_ .f32 0x00000000#32
  let main_v4 : FVec F S4096x2048 .f32 := broadcastInDim S4096x2048 ![] bcast_S_S4096x2048 main_cst_0
  let main_v5 : IVec S4096x2048 1 := cmpf .oeq main_v3 main_v4
  let main_v6 : FVec F S1x2048 .f32 := subf main_arg2 main_arg2
  let main_cst_1 : FVec F S_ .f32 := constant S_ .f32 0x00000000#32
  let main_v7 : FVec F S1x2048 .f32 := broadcastInDim S1x2048 ![] bcast_S_S1x2048 main_cst_1
  let main_v8 : IVec S1x2048 1 := cmpf .oeq main_v6 main_v7
  let main_v9 : FVec F S2048x2048 .f32 := subf main_arg3 main_arg3
  let main_cst_2 : FVec F S_ .f32 := constant S_ .f32 0x00000000#32
  let main_v10 : FVec F S2048x2048 .f32 := broadcastInDim S2048x2048 ![] bcast_S_S2048x2048 main_cst_2
  let main_v11 : IVec S2048x2048 1 := cmpf .oeq main_v9 main_v10
  let main_v12 : FVec F S5632x2048 .f32 := subf main_arg4 main_arg4
  let main_cst_3 : FVec F S_ .f32 := constant S_ .f32 0x00000000#32
  let main_v13 : FVec F S5632x2048 .f32 := broadcastInDim S5632x2048 ![] bcast_S_S5632x2048 main_cst_3
  let main_v14 : IVec S5632x2048 1 := cmpf .oeq main_v12 main_v13
  let main_v15 : FVec F S5632x2048 .f32 := subf main_arg5 main_arg5
  let main_cst_4 : FVec F S_ .f32 := constant S_ .f32 0x00000000#32
  let main_v16 : FVec F S5632x2048 .f32 := broadcastInDim S5632x2048 ![] bcast_S_S5632x2048 main_cst_4
  let main_v17 : IVec S5632x2048 1 := cmpf .oeq main_v15 main_v16
  fn_part1 (F := F) main_arg6 main_arg7 main_v2 main_v5 main_v8 main_v11 main_v14 main_v17
-- ==== Ffn.lean ====
abbrev S2048x4096 : Shape := ⟨2, ![2048, 4096]⟩
abbrev S4096x2048 : Shape := ⟨2, ![4096, 2048]⟩
abbrev S1x2048 : Shape := ⟨2, ![1, 2048]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S4096x5632 : Shape := ⟨2, ![4096, 5632]⟩
abbrev S32x512 : Shape := ⟨2, ![32, 512]⟩
abbrev S1024x5632 : Shape := ⟨2, ![1024, 5632]⟩
abbrev S5632x512 : Shape := ⟨2, ![5632, 512]⟩
abbrev S1024x512 : Shape := ⟨2, ![1024, 512]⟩
abbrev S8x128 : Shape := ⟨2, ![8, 128]⟩
abbrev S1x1024x512 : Shape := ⟨3, ![1, 1024, 512]⟩
abbrev S1 : Shape := ⟨1, ![1]⟩
abbrev S1x1x1 : Shape := ⟨3, ![1, 1, 1]⟩
abbrev S4x4 : Shape := ⟨2, ![4, 4]⟩
abbrev S_ : Shape := ⟨0, ![]⟩
abbrev S4096x1408 : Shape := ⟨2, ![4096, 1408]⟩
abbrev S4096x1024 : Shape := ⟨2, ![4096, 1024]⟩
abbrev S1408x1024 : Shape := ⟨2, ![1408, 1024]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2048 : Shape := ⟨1, ![2048]⟩
abbrev S4096x512 : Shape := ⟨2, ![4096, 512]⟩

abbrev nBuf : Space → Nat
  | .hbm => 39
  | .vmem => 108
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S1x2048, .f32⟩
  | .hbm, ⟨3, _⟩ => ⟨S2048x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S4096x2048, .f32⟩
  | .hbm, ⟨8, _⟩ => ⟨S2048x4096, .bf16⟩
  | .hbm, ⟨9, _⟩ => ⟨S2048x2048, .bf16⟩
  | .hbm, ⟨10, _⟩ => ⟨S5632x2048, .bf16⟩
  | .hbm, ⟨11, _⟩ => ⟨S5632x2048, .bf16⟩
  | .hbm, ⟨12, _⟩ => ⟨S5632x2048, .bf16⟩
  | .hbm, ⟨13, _⟩ => ⟨S4096x2048, .f32⟩
  | .hbm, ⟨14, _⟩ => ⟨S4096x2048, .bf16⟩
  | .hbm, ⟨15, _⟩ => ⟨S4096x5632, .bf16⟩
  | .hbm, ⟨16, _⟩ => ⟨S4096x5632, .bf16⟩
  | .hbm, ⟨17, _⟩ => ⟨S4096x5632, .bf16⟩
  | .hbm, ⟨18, _⟩ => ⟨S4096x5632, .bf16⟩
  | .hbm, ⟨19, _⟩ => ⟨S4096x2048, .f32⟩
  | .hbm, ⟨20, _⟩ => ⟨S4096x2048, .bf16⟩
  | .hbm, ⟨21, _⟩ => ⟨S32x512, .f32⟩
  | .hbm, ⟨22, _⟩ => ⟨S4x4, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S5632x2048, .bf16⟩
  | .hbm, ⟨28, _⟩ => ⟨S4096x5632, .bf16⟩
  | .hbm, ⟨29, _⟩ => ⟨S4096x5632, .bf16⟩
  | .hbm, ⟨30, _⟩ => ⟨S5632x2048, .bf16⟩
  | .hbm, ⟨31, _⟩ => ⟨S5632x2048, .bf16⟩
  | .hbm, ⟨32, _⟩ => ⟨S4096x2048, .f32⟩
  | .hbm, ⟨33, _⟩ => ⟨S4096x2048, .f32⟩
  | .hbm, ⟨34, _⟩ => ⟨S2048x4096, .f32⟩
  | .hbm, ⟨35, _⟩ => ⟨S4096x2048, .f32⟩
  | .hbm, ⟨36, _⟩ => ⟨S4096x2048, .bf16⟩
  | .hbm, ⟨37, _⟩ => ⟨S1x2048, .f32⟩
  | .hbm, ⟨38, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S2048x2048, .bf16⟩
  | .local _ .vmem, ⟨12, _⟩ => ⟨S512x2048, .bf16⟩
  | .local _ .vmem, ⟨13, _⟩ => ⟨S512x2048, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x2048, .bf16⟩
  | .local _ .vmem, ⟨19, _⟩ => ⟨S2048x2048, .bf16⟩
  | .local _ .vmem, ⟨20, _⟩ => ⟨S512x2048, .bf16⟩
  | .local _ .vmem, ⟨21, _⟩ => ⟨S512x2048, .bf16⟩
  | .local _ .vmem, ⟨22, _⟩ => ⟨S2048x512, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S1024x5632, .bf16⟩
  | .local _ .vmem, ⟨31, _⟩ => ⟨S1024x5632, .bf16⟩
  | .local _ .vmem, ⟨32, _⟩ => ⟨S5632x512, .bf16⟩
  | .local _ .vmem, ⟨33, _⟩ => ⟨S5632x512, .bf16⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | .local _ .vmem, ⟨42, _⟩ => ⟨S8x128, .f32⟩
  | .local _ .vmem, ⟨43, _⟩ => ⟨S8x128, .f32⟩
  | .local _ .vmem, ⟨44, _⟩ => ⟨S4096x1408, .bf16⟩
  | .local _ .vmem, ⟨45, _⟩ => ⟨S4096x1408, .bf16⟩
  | .local _ .vmem, ⟨46, _⟩ => ⟨S4096x1024, .bf16⟩
  | .local _ .vmem, ⟨47, _⟩ => ⟨S4096x1024, .bf16⟩
  | .local _ .vmem, ⟨48, _⟩ => ⟨S1408x1024, .bf16⟩
  | .local _ .vmem, ⟨49, _⟩ => ⟨S1408x1024, .bf16⟩
  | .local _ .vmem, ⟨50, _⟩ => ⟨S2048x2048, .bf16⟩
  | .local _ .vmem, ⟨51, _⟩ => ⟨S2048x2048, .bf16⟩
  | .local _ .vmem, ⟨52, _⟩ => ⟨S512x2048, .bf16⟩
  | .local _ .vmem, ⟨53, _⟩ => ⟨S512x2048, .bf16⟩
  | .local _ .vmem, ⟨54, _⟩ => ⟨S2048x512, .bf16⟩
  | .local _ .vmem, ⟨55, _⟩ => ⟨S2048x512, .bf16⟩
  | .local _ .vmem, ⟨56, _⟩ => ⟨S2048x512, .bf16⟩
  | .local _ .vmem, ⟨57, _⟩ => ⟨S2048x512, .bf16⟩
  | .local _ .vmem, ⟨58, _⟩ => ⟨S2048x512, .bf16⟩
  | .local _ .vmem, ⟨59, _⟩ => ⟨S2048x512, .bf16⟩
  | .local _ .vmem, ⟨60, _⟩ => ⟨S2048x512, .bf16⟩
  | .local _ .vmem, ⟨61, _⟩ => ⟨S2048x512, .bf16⟩
  | .local _ .vmem, ⟨62, _⟩ => ⟨S4096x1408, .bf16⟩
  | .local _ .vmem, ⟨63, _⟩ => ⟨S4096x1408, .bf16⟩
  | .local _ .vmem, ⟨64, _⟩ => ⟨S4096x1024, .bf16⟩
  | .local _ .vmem, ⟨65, _⟩ => ⟨S4096x1024, .bf16⟩
  | .local _ .vmem, ⟨66, _⟩ => ⟨S1408x1024, .bf16⟩
  | .local _ .vmem, ⟨67, _⟩ => ⟨S1408x1024, .bf16⟩
  | .local _ .vmem, ⟨68, _⟩ => ⟨S4096x1408, .bf16⟩
  | .local _ .vmem, ⟨69, _⟩ => ⟨S4096x1408, .bf16⟩
  | .local _ .vmem, ⟨70, _⟩ => ⟨S4096x1024, .bf16⟩
  | .local _ .vmem, ⟨71, _⟩ => ⟨S4096x1024, .bf16⟩
  | .local _ .vmem, ⟨72, _⟩ => ⟨S1408x1024, .bf16⟩
  | .local _ .vmem, ⟨73, _⟩ => ⟨S1408x1024, .bf16⟩
  | .local _ .vmem, ⟨74, _⟩ => ⟨S1024x5632, .bf16⟩
  | .local _ .vmem, ⟨75, _⟩ => ⟨S1024x5632, .bf16⟩
  | .local _ .vmem, ⟨76, _⟩ => ⟨S5632x512, .bf16⟩
  | .local _ .vmem, ⟨77, _⟩ => ⟨S5632x512, .bf16⟩
  | .local _ .vmem, ⟨78, _⟩ => ⟨S1024x512, .f32⟩
  | .local _ .vmem, ⟨79, _⟩ => ⟨S1024x512, .f32⟩
  | .local _ .vmem, ⟨80, _⟩ => ⟨S1024x5632, .bf16⟩
  | .local _ .vmem, ⟨81, _⟩ => ⟨S1024x5632, .bf16⟩
  | .local _ .vmem, ⟨82, _⟩ => ⟨S5632x512, .bf16⟩
  | .local _ .vmem, ⟨83, _⟩ => ⟨S5632x512, .bf16⟩
  | .local _ .vmem, ⟨84, _⟩ => ⟨S1024x512, .f32⟩
  | .local _ .vmem, ⟨85, _⟩ => ⟨S1024x512, .f32⟩
  | .local _ .vmem, ⟨86, _⟩ => ⟨S1024x512, .f32⟩
  | .local _ .vmem, ⟨87, _⟩ => ⟨S1024x512, .f32⟩
  | .local _ .vmem, ⟨88, _⟩ => ⟨S2048x2048, .bf16⟩
  | .local _ .vmem, ⟨89, _⟩ => ⟨S256x2048, .f32⟩
  | .local _ .vmem, ⟨90, _⟩ => ⟨S256x2048, .f32⟩
  | .local _ .vmem, ⟨91, _⟩ => ⟨S256x2048, .f32⟩
  | .local _ .vmem, ⟨92, _⟩ => ⟨S256x2048, .f32⟩
  | .local _ .vmem, ⟨93, _⟩ => ⟨S1x2048, .f32⟩
  | .local _ .vmem, ⟨94, _⟩ => ⟨S256x2048, .f32⟩
  | .local _ .vmem, ⟨95, _⟩ => ⟨S256x2048, .f32⟩
  | .local _ .vmem, ⟨96, _⟩ => ⟨S2048x256, .f32⟩
  | .local _ .vmem, ⟨97, _⟩ => ⟨S2048x256, .f32⟩
  | .local _ .vmem, ⟨98, _⟩ => ⟨S256x2048, .f32⟩
  | .local _ .vmem, ⟨99, _⟩ => ⟨S256x2048, .f32⟩
  | .local _ .vmem, ⟨100, _⟩ => ⟨S256x2048, .bf16⟩
  | .local _ .vmem, ⟨101, _⟩ => ⟨S256x2048, .bf16⟩
  | .local _ .vmem, ⟨102, _⟩ => ⟨S1x2048, .f32⟩
  | .local _ .vmem, ⟨103, _⟩ => ⟨S2048x4096, .bf16⟩
  | .local _ .vmem, ⟨104, _⟩ => ⟨S4096x512, .bf16⟩
  | .local _ .vmem, ⟨105, _⟩ => ⟨S4096x512, .bf16⟩
  | .local _ .vmem, ⟨106, _⟩ => ⟨S2048x512, .bf16⟩
  | .local _ .vmem, ⟨107, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6_0 : Ref sig .tc := ⟨.hbm, 15, rfl⟩
abbrev main_v6_1 : Ref sig .tc := ⟨.hbm, 16, rfl⟩
abbrev main_v7_0 : Ref sig .tc := ⟨.hbm, 17, rfl⟩
abbrev main_v7_1 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg2_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg1_1 : Ref sig .tc := ⟨.vmem, 77, rfl⟩
abbrev cc8_stg2_0 : Ref sig .tc := ⟨.vmem, 78, rfl⟩
abbrev cc8_stg2_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg1_1 : Ref sig .tc := ⟨.vmem, 83, rfl⟩
abbrev cc9_stg2_0 : Ref sig .tc := ⟨.vmem, 84, rfl⟩
abbrev cc9_stg2_1 : Ref sig .tc := ⟨.vmem, 85, rfl⟩
abbrev cc9_stg3_0 : Ref sig .tc := ⟨.vmem, 86, rfl⟩
abbrev cc9_stg3_1 : Ref sig .tc := ⟨.vmem, 87, rfl⟩
abbrev cc10_stg0_0 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg2_1 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg4_1 : Ref sig .tc := ⟨.vmem, 95, rfl⟩
abbrev cc10_stg5_0 : Ref sig .tc := ⟨.vmem, 96, rfl⟩
abbrev cc10_stg5_1 : Ref sig .tc := ⟨.vmem, 97, rfl⟩
abbrev cc10_stg6_0 : Ref sig .tc := ⟨.vmem, 98, rfl⟩
abbrev cc10_stg6_1 : Ref sig .tc := ⟨.vmem, 99, rfl⟩
abbrev cc10_stg7_0 : Ref sig .tc := ⟨.vmem, 100, rfl⟩
abbrev cc10_stg7_1 : Ref sig .tc := ⟨.vmem, 101, rfl⟩
abbrev cc10_stg8_0 : Ref sig .tc := ⟨.vmem, 102, rfl⟩
abbrev cc11_stg0_0 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg2_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc5_sem5_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem2_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem2_1 : DmaSem sig := 73
abbrev cc8_sem0_0 : DmaSem sig := 74
abbrev cc8_sem0_1 : DmaSem sig := 75
abbrev cc8_sem1_0 : DmaSem sig := 76
abbrev cc8_sem1_1 : DmaSem sig := 77
abbrev cc8_sem2_0 : DmaSem sig := 78
abbrev cc8_sem2_1 : DmaSem sig := 79
abbrev cc9_sem0_0 : DmaSem sig := 80
abbrev cc9_sem0_1 : DmaSem sig := 81
abbrev cc9_sem1_0 : DmaSem sig := 82
abbrev cc9_sem1_1 : DmaSem sig := 83
abbrev cc9_sem2_0 : DmaSem sig := 84
abbrev cc9_sem2_1 : DmaSem sig := 85
abbrev cc9_sem3_0 : DmaSem sig := 86
abbrev cc9_sem3_1 : DmaSem sig := 87
abbrev cc10_sem0_0 : DmaSem sig := 88
abbrev cc10_sem1_0 : DmaSem sig := 89
abbrev cc10_sem1_1 : DmaSem sig := 90
abbrev cc10_sem2_0 : DmaSem sig := 91
abbrev cc10_sem2_1 : DmaSem sig := 92
abbrev cc10_sem3_0 : DmaSem sig := 93
abbrev cc10_sem4_0 : DmaSem sig := 94
abbrev cc10_sem4_1 : DmaSem sig := 95
abbrev cc10_sem5_0 : DmaSem sig := 96
abbrev cc10_sem5_1 : DmaSem sig := 97
abbrev cc10_sem6_0 : DmaSem sig := 98
abbrev cc10_sem6_1 : DmaSem sig := 99
abbrev cc10_sem7_0 : DmaSem sig := 100
abbrev cc10_sem7_1 : DmaSem sig := 101
abbrev cc10_sem8_0 : DmaSem sig := 102
abbrev cc11_sem0_0 : DmaSem sig := 103
abbrev cc11_sem1_0 : DmaSem sig := 104
abbrev cc11_sem1_1 : DmaSem sig := 105
abbrev cc11_sem2_0 : DmaSem sig := 106
abbrev cc11_sem2_1 : DmaSem sig := 107

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2048x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S5632x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S2048x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S2048x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S2048x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1408x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S4096x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1408x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![4, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S5632x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S5632x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1024x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S2048x2048 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S256x2048 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S256x2048 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x2048 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S256x2048 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S2048x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S256x2048 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S256x2048 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x2048 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev grid11 : Pipeline.Grid := ⟨2, ![1, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S2048x4096 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 2 → Memref sig .tc .vmem S4096x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S2048x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]
-- ==== FfnRefIdeal.lean ====
abbrev S2048x4096 : Shape := ⟨2, ![2048, 4096]⟩
abbrev S4096x2048 : Shape := ⟨2, ![4096, 2048]⟩
abbrev S1x2048 : Shape := ⟨2, ![1, 2048]⟩
abbrev S2048x2048 : Shape := ⟨2, ![2048, 2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S2048x5632 : Shape := ⟨2, ![2048, 5632]⟩
abbrev S4096x5632 : Shape := ⟨2, ![4096, 5632]⟩
abbrev S2048 : Shape := ⟨1, ![2048]⟩

abbrev nBuf : Space → Nat
  | .hbm => 123
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S1x2048, .f32⟩
  | .hbm, ⟨3, _⟩ => ⟨S2048x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S2048x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4096x5632, .f32⟩
  | .hbm, ⟨36, _⟩ => ⟨S4096x5632, .f32⟩
  | .hbm, ⟨37, _⟩ => ⟨S_, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S2048x5632, .f32⟩
  | .hbm, ⟨46, _⟩ => ⟨S4096x5632, .f32⟩
  | .hbm, ⟨47, _⟩ => ⟨S4096x5632, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S2048x5632, .f32⟩
  | .hbm, ⟨74, _⟩ => ⟨S5632x2048, .f32⟩
  | .hbm, ⟨75, _⟩ => ⟨S4096x5632, .f32⟩
  | .hbm, ⟨76, _⟩ => ⟨S4096x5632, .f32⟩
  | .hbm, ⟨77, _⟩ => ⟨S4096x5632, .f32⟩
  | .hbm, ⟨78, _⟩ => ⟨S5632x2048, .f32⟩
  | .hbm, ⟨79, _⟩ => ⟨S2048x5632, .f32⟩
  | .hbm, ⟨80, _⟩ => ⟨S4096x2048, .f32⟩
  | .hbm, ⟨81, _⟩ => ⟨S5632x2048, .f32⟩
  | .hbm, ⟨82, _⟩ => ⟨S4096x5632, .f32⟩
  | .hbm, ⟨83, _⟩ => ⟨S4096x5632, .f32⟩
  | .hbm, ⟨84, _⟩ => ⟨S4096x5632, .f32⟩
  | .hbm, ⟨85, _⟩ => ⟨S4096x5632, .f32⟩
  | .hbm, ⟨86, _⟩ => ⟨S5632x2048, .f32⟩
  | .hbm, ⟨87, _⟩ => ⟨S2048x5632, .f32⟩
  | .hbm, ⟨88, _⟩ => ⟨S4096x2048, .f32⟩
  | .hbm, ⟨89, _⟩ => ⟨S4096x2048, .f32⟩
  | .hbm, ⟨90, _⟩ => ⟨S5632x2048, .f32⟩
  | .hbm, ⟨91, _⟩ => ⟨S4096x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x2048, .f32⟩
  | .hbm, ⟨111, _⟩ => ⟨S4096x2048, .f32⟩
  | .hbm, ⟨112, _⟩ => ⟨S4096x2048, .f32⟩
  | .hbm, ⟨113, _⟩ => ⟨S4096x2048, .f32⟩
  | .hbm, ⟨114, _⟩ => ⟨S4096x2048, .f32⟩
  | .hbm, ⟨115, _⟩ => ⟨S2048x2048, .f32⟩
  | .hbm, ⟨116, _⟩ => ⟨S2048x2048, .f32⟩
  | .hbm, ⟨117, _⟩ => ⟨S4096x2048, .f32⟩
  | .hbm, ⟨118, _⟩ => ⟨S2048x4096, .f32⟩
  | .hbm, ⟨119, _⟩ => ⟨S5632x2048, .bf16⟩
  | .hbm, ⟨120, _⟩ => ⟨S5632x2048, .bf16⟩
  | .hbm, ⟨121, _⟩ => ⟨S5632x2048, .bf16⟩
  | .hbm, ⟨122, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v20_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v20_1 : Ref sig .tc := ⟨.hbm, 43, rfl⟩
abbrev main_v20_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_cst_8 : Ref sig .tc := ⟨.hbm, 64, rfl⟩
abbrev main_cst_9 : Ref sig .tc := ⟨.hbm, 65, rfl⟩
abbrev main_v35 : Ref sig .tc := ⟨.hbm, 66, rfl⟩
abbrev main_v36 : Ref sig .tc := ⟨.hbm, 67, rfl⟩
abbrev main_cst_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]
-- ==== InProj.lean ====
abbrev S4096x2048 : Shape := ⟨2, ![4096, 2048]⟩
abbrev S1x2048 : Shape := ⟨2, ![1, 2048]⟩
abbrev S3328x2048 : Shape := ⟨2, ![3328, 2048]⟩
abbrev S3328x4096 : Shape := ⟨2, ![3328, 4096]⟩
abbrev S512x2048 : Shape := ⟨2, ![512, 2048]⟩
abbrev S512 : Shape := ⟨1, ![512]⟩
abbrev S512x1 : Shape := ⟨2, ![512, 1]⟩
abbrev S1664x2048 : Shape := ⟨2, ![1664, 2048]⟩
abbrev S1024x2048 : Shape := ⟨2, ![1024, 2048]⟩
abbrev S1664x1024 : Shape := ⟨2, ![1664, 1024]⟩
abbrev S1664x4096 : Shape := ⟨2, ![1664, 4096]⟩
abbrev S4096x512 : Shape := ⟨2, ![4096, 512]⟩
abbrev S1664x512 : Shape := ⟨2, ![1664, 512]⟩
abbrev S3328x256 : Shape := ⟨2, ![3328, 256]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S3328x2048, .f32⟩
  | .hbm, ⟨3, _⟩ => ⟨S3328x4096, .f32⟩
  | .hbm, ⟨4, _⟩ => ⟨S4096x2048, .f32⟩
  | .hbm, ⟨5, _⟩ => ⟨S3328x2048, .bf16⟩
  | .hbm, ⟨6, _⟩ => ⟨S3328x4096, .bf16⟩
  | .hbm, ⟨7, _⟩ => ⟨S4096x2048, .bf16⟩
  | .hbm, ⟨8, _⟩ => ⟨S3328x4096, .f32⟩
  | .hbm, ⟨9, _⟩ => ⟨S3328x2048, .bf16⟩
  | .hbm, ⟨10, _⟩ => ⟨S4096x2048, .f32⟩
  | .hbm, ⟨11, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1664x2048, .bf16⟩
  | .local _ .vmem, ⟨6, _⟩ => ⟨S1664x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1664x1024, .f32⟩
  | .local _ .vmem, ⟨10, _⟩ => ⟨S1664x1024, .f32⟩
  | .local _ .vmem, ⟨11, _⟩ => ⟨S1664x4096, .bf16⟩
  | .local _ .vmem, ⟨12, _⟩ => ⟨S1664x4096, .bf16⟩
  | .local _ .vmem, ⟨13, _⟩ => ⟨S4096x512, .bf16⟩
  | .local _ .vmem, ⟨14, _⟩ => ⟨S4096x512, .bf16⟩
  | .local _ .vmem, ⟨15, _⟩ => ⟨S1664x512, .bf16⟩
  | .local _ .vmem, ⟨16, _⟩ => ⟨S1664x512, .bf16⟩
  | .local _ .vmem, ⟨17, _⟩ => ⟨S3328x256, .bf16⟩
  | .local _ .vmem, ⟨18, _⟩ => ⟨S3328x256, .bf16⟩
  | .local _ .vmem, ⟨19, _⟩ => ⟨S3328x2048, .bf16⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26
abbrev cc3_sem6_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1664x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1664x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1664x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1664x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage3_0 : Fin 2 → Memref sig .tc .vmem S3328x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S3328x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, true]
-- ==== InProjRefIdeal.lean ====
abbrev S4096x2048 : Shape := ⟨2, ![4096, 2048]⟩
abbrev S1x2048 : Shape := ⟨2, ![1, 2048]⟩
abbrev S3328x2048 : Shape := ⟨2, ![3328, 2048]⟩
abbrev S3328x4096 : Shape := ⟨2, ![3328, 4096]⟩
abbrev S_ : Shape := ⟨0, ![]⟩
abbrev S4096 : Shape := ⟨1, ![4096]⟩
abbrev S4096x1 : Shape := ⟨2, ![4096, 1]⟩
abbrev S2048x3328 : Shape := ⟨2, ![2048, 3328]⟩
abbrev S4096x3328 : Shape := ⟨2, ![4096, 3328]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S3328x2048, .f32⟩
  | .hbm, ⟨3, _⟩ => ⟨S3328x4096, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x3328, .f32⟩
  | .hbm, ⟨25, _⟩ => ⟨S4096x3328, .f32⟩
  | .hbm, ⟨26, _⟩ => ⟨S4096x3328, .f32⟩
  | .hbm, ⟨27, _⟩ => ⟨S3328x2048, .f32⟩
  | .hbm, ⟨28, _⟩ => ⟨S2048x3328, .f32⟩
  | .hbm, ⟨29, _⟩ => ⟨S4096x2048, .f32⟩
  | .hbm, ⟨30, _⟩ => ⟨S3328x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S3328x4096, .f32⟩
  | .hbm, ⟨56, _⟩ => ⟨S3328x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== AdamW.lean ====
abbrev S8x704x2048 : Shape := ⟨3, ![8, 704, 2048]⟩
abbrev S704x2048 : Shape := ⟨2, ![704, 2048]⟩
abbrev S8x256x2048 : Shape := ⟨3, ![8, 256, 2048]⟩
abbrev S256x2048 : Shape := ⟨2, ![256, 2048]⟩
abbrev S8x416x2048 : Shape := ⟨3, ![8, 416, 2048]⟩
abbrev S416x2048 : Shape := ⟨2, ![416, 2048]⟩
abbrev S8x176x2048 : Shape := ⟨3, ![8, 176, 2048]⟩
abbrev S176x2048 : Shape := ⟨2, ![176, 2048]⟩
abbrev S1x176x2048 : Shape := ⟨3, ![1, 176, 2048]⟩
abbrev S8x128x2048 : Shape := ⟨3, ![8, 128, 2048]⟩
abbrev S128x2048 : Shape := ⟨2, ![128, 2048]⟩
abbrev S1x128x2048 : Shape := ⟨3, ![1, 128, 2048]⟩
abbrev S8x208x2048 : Shape := ⟨3, ![8, 208, 2048]⟩
abbrev S208x2048 : Shape := ⟨2, ![208, 2048]⟩
abbrev S1x208x2048 : Shape := ⟨3, ![1, 208, 2048]⟩

abbrev nBuf : Space → Nat
  | .hbm => 45
  | .vmem => 80
  | .smem => 0
  | _ => 0

abbrev bufTy : (tb : Table) → Fin (tcTables nBuf tb) → BufTy
  | .hbm, ⟨0, _⟩ => ⟨S8x704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S8x704x2048, .f32⟩
  | .hbm, ⟨9, _⟩ => ⟨S704x2048, .f32⟩
  | .hbm, ⟨10, _⟩ => ⟨S704x2048, .f32⟩
  | .hbm, ⟨11, _⟩ => ⟨S704x2048, .f32⟩
  | .hbm, ⟨12, _⟩ => ⟨S8x256x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S8x416x2048, .f32⟩
  | .hbm, ⟨17, _⟩ => ⟨S416x2048, .f32⟩
  | .hbm, ⟨18, _⟩ => ⟨S416x2048, .f32⟩
  | .hbm, ⟨19, _⟩ => ⟨S416x2048, .f32⟩
  | .hbm, ⟨20, _⟩ => ⟨S8x704x2048, .bf16⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S704x2048, .f32⟩
  | .hbm, ⟨25, _⟩ => ⟨S8x704x2048, .bf16⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S8x704x2048, .bf16⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S8x256x2048, .bf16⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S8x416x2048, .bf16⟩
  | .hbm, ⟨41, _⟩ => ⟨S416x2048, .f32⟩
  | .hbm, ⟨42, _⟩ => ⟨S416x2048, .f32⟩
  | .hbm, ⟨43, _⟩ => ⟨S416x2048, .f32⟩
  | .hbm, ⟨44, _⟩ => ⟨S416x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x176x2048, .bf16⟩
  | .local _ .vmem, ⟨17, _⟩ => ⟨S8x176x2048, .bf16⟩
  | .local _ .vmem, ⟨18, _⟩ => ⟨S176x2048, .f32⟩
  | .local _ .vmem, ⟨19, _⟩ => ⟨S176x2048, .f32⟩
  | .local _ .vmem, ⟨20, _⟩ => ⟨S176x2048, .f32⟩
  | .local _ .vmem, ⟨21, _⟩ => ⟨S176x2048, .f32⟩
  | .local _ .vmem, ⟨22, _⟩ => ⟨S176x2048, .f32⟩
  | .local _ .vmem, ⟨23, _⟩ => ⟨S176x2048, .f32⟩
  | .local _ .vmem, ⟨24, _⟩ => ⟨S176x2048, .f32⟩
  | .local _ .vmem, ⟨25, _⟩ => ⟨S176x2048, .f32⟩
  | .local _ .vmem, ⟨26, _⟩ => ⟨S176x2048, .f32⟩
  | .local _ .vmem, ⟨27, _⟩ => ⟨S176x2048, .f32⟩
  | .local _ .vmem, ⟨28, _⟩ => ⟨S176x2048, .f32⟩
  | .local _ .vmem, ⟨29, _⟩ => ⟨S176x2048, .f32⟩
  | .local _ .vmem, ⟨30, _⟩ => ⟨S176x2048, .f32⟩
  | .local _ .vmem, ⟨31, _⟩ => ⟨S176x2048, .f32⟩
  | .local _ .vmem, ⟨32, _⟩ => ⟨S8x176x2048, .bf16⟩
  | .local _ .vmem, ⟨33, _⟩ => ⟨S8x176x2048, .bf16⟩
  | .local _ .vmem, ⟨34, _⟩ => ⟨S176x2048, .f32⟩
  | .local _ .vmem, ⟨35, _⟩ => ⟨S176x2048, .f32⟩
  | .local _ .vmem, ⟨36, _⟩ => ⟨S176x2048, .f32⟩
  | .local _ .vmem, ⟨37, _⟩ => ⟨S176x2048, .f32⟩
  | .local _ .vmem, ⟨38, _⟩ => ⟨S176x2048, .f32⟩
  | .local _ .vmem, ⟨39, _⟩ => ⟨S176x2048, .f32⟩
  | .local _ .vmem, ⟨40, _⟩ => ⟨S176x2048, .f32⟩
  | .local _ .vmem, ⟨41, _⟩ => ⟨S176x2048, .f32⟩
  | .local _ .vmem, ⟨42, _⟩ => ⟨S176x2048, .f32⟩
  | .local _ .vmem, ⟨43, _⟩ => ⟨S176x2048, .f32⟩
  | .local _ .vmem, ⟨44, _⟩ => ⟨S176x2048, .f32⟩
  | .local _ .vmem, ⟨45, _⟩ => ⟨S176x2048, .f32⟩
  | .local _ .vmem, ⟨46, _⟩ => ⟨S176x2048, .f32⟩
  | .local _ .vmem, ⟨47, _⟩ => ⟨S176x2048, .f32⟩
  | .local _ .vmem, ⟨48, _⟩ => ⟨S8x128x2048, .bf16⟩
  | .local _ .vmem, ⟨49, _⟩ => ⟨S8x128x2048, .bf16⟩
  | .local _ .vmem, ⟨50, _⟩ => ⟨S128x2048, .f32⟩
  | .local _ .vmem, ⟨51, _⟩ => ⟨S128x2048, .f32⟩
  | .local _ .vmem, ⟨52, _⟩ => ⟨S128x2048, .f32⟩
  | .local _ .vmem, ⟨53, _⟩ => ⟨S128x2048, .f32⟩
  | .local _ .vmem, ⟨54, _⟩ => ⟨S128x2048, .f32⟩
  | .local _ .vmem, ⟨55, _⟩ => ⟨S128x2048, .f32⟩
  | .local _ .vmem, ⟨56, _⟩ => ⟨S128x2048, .f32⟩
  | .local _ .vmem, ⟨57, _⟩ => ⟨S128x2048, .f32⟩
  | .local _ .vmem, ⟨58, _⟩ => ⟨S128x2048, .f32⟩
  | .local _ .vmem, ⟨59, _⟩ => ⟨S128x2048, .f32⟩
  | .local _ .vmem, ⟨60, _⟩ => ⟨S128x2048, .f32⟩
  | .local _ .vmem, ⟨61, _⟩ => ⟨S128x2048, .f32⟩
  | .local _ .vmem, ⟨62, _⟩ => ⟨S128x2048, .f32⟩
  | .local _ .vmem, ⟨63, _⟩ => ⟨S128x2048, .f32⟩
  | .local _ .vmem, ⟨64, _⟩ => ⟨S8x208x2048, .bf16⟩
  | .local _ .vmem, ⟨65, _⟩ => ⟨S8x208x2048, .bf16⟩
  | .local _ .vmem, ⟨66, _⟩ => ⟨S208x2048, .f32⟩
  | .local _ .vmem, ⟨67, _⟩ => ⟨S208x2048, .f32⟩
  | .local _ .vmem, ⟨68, _⟩ => ⟨S208x2048, .f32⟩
  | .local _ .vmem, ⟨69, _⟩ => ⟨S208x2048, .f32⟩
  | .local _ .vmem, ⟨70, _⟩ => ⟨S208x2048, .f32⟩
  | .local _ .vmem, ⟨71, _⟩ => ⟨S208x2048, .f32⟩
  | .local _ .vmem, ⟨72, _⟩ => ⟨S208x2048, .f32⟩
  | .local _ .vmem, ⟨73, _⟩ => ⟨S208x2048, .f32⟩
  | .local _ .vmem, ⟨74, _⟩ => ⟨S208x2048, .f32⟩
  | .local _ .vmem, ⟨75, _⟩ => ⟨S208x2048, .f32⟩
  | .local _ .vmem, ⟨76, _⟩ => ⟨S208x2048, .f32⟩
  | .local _ .vmem, ⟨77, _⟩ => ⟨S208x2048, .f32⟩
  | .local _ .vmem, ⟨78, _⟩ => ⟨S208x2048, .f32⟩
  | .local _ .vmem, ⟨79, _⟩ => ⟨S208x2048, .f32⟩
  | _, _ => ⟨S8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1_0 : Ref sig .tc := ⟨.hbm, 21, rfl⟩
abbrev main_v1_1 : Ref sig .tc := ⟨.hbm, 22, rfl⟩
abbrev main_v1_2 : Ref sig .tc := ⟨.hbm, 23, rfl⟩
abbrev main_v1_3 : Ref sig .tc := ⟨.hbm, 24, rfl⟩
abbrev main_v2 : Ref sig .tc := ⟨.hbm, 25, rfl⟩
abbrev main_v3_0 : Ref sig .tc := ⟨.hbm, 26, rfl⟩
abbrev main_v3_1 : Ref sig .tc := ⟨.hbm, 27, rfl⟩
abbrev main_v3_2 : Ref sig .tc := ⟨.hbm, 28, rfl⟩
abbrev main_v3_3 : Ref sig .tc := ⟨.hbm, 29, rfl⟩
abbrev main_v4 : Ref sig .tc := ⟨.hbm, 30, rfl⟩
abbrev main_v5_0 : Ref sig .tc := ⟨.hbm, 31, rfl⟩
abbrev main_v5_1 : Ref sig .tc := ⟨.hbm, 32, rfl⟩
abbrev main_v5_2 : Ref sig .tc := ⟨.hbm, 33, rfl⟩
abbrev main_v5_3 : Ref sig .tc := ⟨.hbm, 34, rfl⟩
abbrev main_v6 : Ref sig .tc := ⟨.hbm, 35, rfl⟩
abbrev main_v7_0 : Ref sig .tc := ⟨.hbm, 36, rfl⟩
abbrev main_v7_1 : Ref sig .tc := ⟨.hbm, 37, rfl⟩
abbrev main_v7_2 : Ref sig .tc := ⟨.hbm, 38, rfl⟩
abbrev main_v7_3 : Ref sig .tc := ⟨.hbm, 39, rfl⟩
abbrev main_v8 : Ref sig .tc := ⟨.hbm, 40, rfl⟩
abbrev main_v9_0 : Ref sig .tc := ⟨.hbm, 41, rfl⟩
abbrev main_v9_1 : Ref sig .tc := ⟨.hbm, 42, rfl⟩
abbrev main_v9_2 : Ref sig .tc := ⟨.hbm, 43, rfl⟩
abbrev main_v9_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x176x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S176x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S176x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S176x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S176x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S176x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S176x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x176x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S176x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S176x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S176x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S176x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S176x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S176x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S176x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x208x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S208x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S208x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S208x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S208x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S208x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S208x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S208x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== AdamWRefIdeal.lean ====
abbrev S8x704x2048 : Shape := ⟨3, ![8, 704, 2048]⟩
abbrev S704x2048 : Shape := ⟨2, ![704, 2048]⟩
abbrev S8x256x2048 : Shape := ⟨3, ![8, 256, 2048]⟩
abbrev S256x2048 : Shape := ⟨2, ![256, 2048]⟩
abbrev S8x416x2048 : Shape := ⟨3, ![8, 416, 2048]⟩
abbrev S416x2048 : Shape := ⟨2, ![416, 2048]⟩
abbrev S_ : Shape := ⟨0, ![]⟩

abbrev nBuf : Space → Nat
  | .hbm => 195
  | .vmem => 0
  | .smem => 0
  | _ => 0

abbrev hbmTy0_0 (i : Nat) : BufTy := match i % 128 with
  | 0 => ⟨S8x704x2048, .f32⟩
  | 1 => ⟨S704x2048, .f32⟩
  | 2 => ⟨S704x2048, .f32⟩
  | 3 => ⟨S704x2048, .f32⟩
  | 4 => ⟨S8x704x2048, .f32⟩
  | 5 => ⟨S704x2048, .f32⟩
  | 6 => ⟨S704x2048, .f32⟩
  | 7 => ⟨S704x2048, .f32⟩
  | 8 => ⟨S8x704x2048, .f32⟩
  | 9 => ⟨S704x2048, .f32⟩
  | 10 => ⟨S704x2048, .f32⟩
  | 11 => ⟨S704x2048, .f32⟩
  | 12 => ⟨S8x256x2048, .f32⟩
  | 13 => ⟨S256x2048, .f32⟩
  | 14 => ⟨S256x2048, .f32⟩
  | 15 => ⟨S256x2048, .f32⟩
  | 16 => ⟨S8x416x2048, .f32⟩
  | 17 => ⟨S416x2048, .f32⟩
  | 18 => ⟨S416x2048, .f32⟩
  | 19 => ⟨S416x2048, .f32⟩
  | 20 => ⟨S_, .f32⟩
  | 21 => ⟨S704x2048, .f32⟩
  | 22 => ⟨S_, .f32⟩
  | 23 => ⟨S704x2048, .f32⟩
  | 24 => ⟨S704x2048, .f32⟩
  | 25 => ⟨S_, .f32⟩
  | 26 => ⟨S704x2048, .f32⟩
  | 27 => ⟨S704x2048, .f32⟩
  | 28 => ⟨S704x2048, .f32⟩
  | 29 => ⟨S_, .f32⟩
  | 30 => ⟨S704x2048, .f32⟩
  | 31 => ⟨S704x2048, .f32⟩
  | 32 => ⟨S704x2048, .f32⟩
  | 33 => ⟨S_, .f32⟩
  | 34 => ⟨S704x2048, .f32⟩
  | 35 => ⟨S704x2048, .f32⟩
  | 36 => ⟨S704x2048, .f32⟩
  | 37 => ⟨S_, .f32⟩
  | 38 => ⟨S704x2048, .f32⟩
  | 39 => ⟨S704x2048, .f32⟩
  | 40 => ⟨S_, .f32⟩
  | 41 => ⟨S704x2048, .f32⟩
  | 42 => ⟨S704x2048, .f32⟩
  | 43 => ⟨S704x2048, .f32⟩
  | 44 => ⟨S_, .f32⟩
  | 45 => ⟨S704x2048, .f32⟩
  | 46 => ⟨S704x2048, .f32⟩
  | 47 => ⟨S704x2048, .f32⟩
  | 48 => ⟨S_, .f32⟩
  | 49 => ⟨S704x2048, .f32⟩
  | 50 => ⟨S704x2048, .f32⟩
  | 51 => ⟨S704x2048, .f32⟩
  | 52 => ⟨S_, .f32⟩
  | 53 => ⟨S704x2048, .f32⟩
  | 54 => ⟨S704x2048, .f32⟩
  | 55 => ⟨S_, .f32⟩
  | 56 => ⟨S704x2048, .f32⟩
  | 57 => ⟨S_, .f32⟩
  | 58 => ⟨S704x2048, .f32⟩
  | 59 => ⟨S704x2048, .f32⟩
  | 60 => ⟨S_, .f32⟩
  | 61 => ⟨S704x2048, .f32⟩
  | 62 => ⟨S704x2048, .f32⟩
  | 63 => ⟨S704x2048, .f32⟩
  | 64 => ⟨S_, .f32⟩
  | 65 => ⟨S704x2048, .f32⟩
  | 66 => ⟨S704x2048, .f32⟩
  | 67 => ⟨S704x2048, .f32⟩
  | 68 => ⟨S_, .f32⟩
  | 69 => ⟨S704x2048, .f32⟩
  | 70 => ⟨S704x2048, .f32⟩
  | 71 => ⟨S704x2048, .f32⟩
  | 72 => ⟨S_, .f32⟩
  | 73 => ⟨S704x2048, .f32⟩
  | 74 => ⟨S704x2048, .f32⟩
  | 75 => ⟨S_, .f32⟩
  | 76 => ⟨S704x2048, .f32⟩
  | 77 => ⟨S704x2048, .f32⟩
  | 78 => ⟨S704x2048, .f32⟩
  | 79 => ⟨S_, .f32⟩
  | 80 => ⟨S704x2048, .f32⟩
  | 81 => ⟨S704x2048, .f32⟩
  | 82 => ⟨S704x2048, .f32⟩
  | 83 => ⟨S_, .f32⟩
  | 84 => ⟨S704x2048, .f32⟩
  | 85 => ⟨S704x2048, .f32⟩
  | 86 => ⟨S704x2048, .f32⟩
  | 87 => ⟨S_, .f32⟩
  | 88 => ⟨S704x2048, .f32⟩
  | 89 => ⟨S704x2048, .f32⟩
  | 90 => ⟨S_, .f32⟩
  | 91 => ⟨S704x2048, .f32⟩
  | 92 => ⟨S_, .f32⟩
  | 93 => ⟨S704x2048, .f32⟩
  | 94 => ⟨S704x2048, .f32⟩
  | 95 => ⟨S_, .f32⟩
  | 96 => ⟨S704x2048, .f32⟩
  | 97 => ⟨S704x2048, .f32⟩
  | 98 => ⟨S704x2048, .f32⟩
  | 99 => ⟨S_, .f32⟩
  | 100 => ⟨S704x2048, .f32⟩
  | 101 => ⟨S704x2048, .f32⟩
  | 102 => ⟨S704x2048, .f32⟩
  | 103 => ⟨S_, .f32⟩
  | 104 => ⟨S704x2048, .f32⟩
  | 105 => ⟨S704x2048, .f32⟩
  | 106 => ⟨S704x2048, .f32⟩
  | 107 => ⟨S_, .f32⟩
  | 108 => ⟨S704x2048, .f32⟩
  | 109 => ⟨S704x2048, .f32⟩
  | 110 => ⟨S_, .f32⟩
  | 111 => ⟨S704x2048, .f32⟩
  | 112 => ⟨S704x2048, .f32⟩
  | 113 => ⟨S704x2048, .f32⟩
  | 114 => ⟨S_, .f32⟩
  | 115 => ⟨S704x2048, .f32⟩
  | 116 => ⟨S704x2048, .f32⟩
  | 117 => ⟨S704x2048, .f32⟩
  | 118 => ⟨S_, .f32⟩
  | 119 => ⟨S704x2048, .f32⟩
  | 120 => ⟨S704x2048, .f32⟩
  | 121 => ⟨S704x2048, .f32⟩
  | 122 => ⟨S_, .f32⟩
  | 123 => ⟨S704x2048, .f32⟩
  | 124 => ⟨S704x2048, .f32⟩
  | 125 => ⟨S_, .f32⟩
  | 126 => ⟨S256x2048, .f32⟩
  | 127 => ⟨S_, .f32⟩
  | _ => ⟨S8x704x2048, .f32⟩

abbrev hbmTy0_1 (i : Nat) : BufTy := match i % 128 with
  | 0 => ⟨S256x2048, .f32⟩
  | 1 => ⟨S256x2048, .f32⟩
  | 2 => ⟨S_, .f32⟩
  | 3 => ⟨S256x2048, .f32⟩
  | 4 => ⟨S256x2048, .f32⟩
  | 5 => ⟨S256x2048, .f32⟩
  | 6 => ⟨S_, .f32⟩
  | 7 => ⟨S256x2048, .f32⟩
  | 8 => ⟨S256x2048, .f32⟩
  | 9 => ⟨S256x2048, .f32⟩
  | 10 => ⟨S_, .f32⟩
  | 11 => ⟨S256x2048, .f32⟩
  | 12 => ⟨S256x2048, .f32⟩
  | 13 => ⟨S256x2048, .f32⟩
  | 14 => ⟨S_, .f32⟩
  | 15 => ⟨S256x2048, .f32⟩
  | 16 => ⟨S256x2048, .f32⟩
  | 17 => ⟨S_, .f32⟩
  | 18 => ⟨S256x2048, .f32⟩
  | 19 => ⟨S256x2048, .f32⟩
  | 20 => ⟨S256x2048, .f32⟩
  | 21 => ⟨S_, .f32⟩
  | 22 => ⟨S256x2048, .f32⟩
  | 23 => ⟨S256x2048, .f32⟩
  | 24 => ⟨S256x2048, .f32⟩
  | 25 => ⟨S_, .f32⟩
  | 26 => ⟨S256x2048, .f32⟩
  | 27 => ⟨S256x2048, .f32⟩
  | 28 => ⟨S256x2048, .f32⟩
  | 29 => ⟨S_, .f32⟩
  | 30 => ⟨S256x2048, .f32⟩
  | 31 => ⟨S256x2048, .f32⟩
  | 32 => ⟨S_, .f32⟩
  | 33 => ⟨S416x2048, .f32⟩
  | 34 => ⟨S_, .f32⟩
  | 35 => ⟨S416x2048, .f32⟩
  | 36 => ⟨S416x2048, .f32⟩
  | 37 => ⟨S_, .f32⟩
  | 38 => ⟨S416x2048, .f32⟩
  | 39 => ⟨S416x2048, .f32⟩
  | 40 => ⟨S416x2048, .f32⟩
  | 41 => ⟨S_, .f32⟩
  | 42 => ⟨S416x2048, .f32⟩
  | 43 => ⟨S416x2048, .f32⟩
  | 44 => ⟨S416x2048, .f32⟩
  | 45 => ⟨S_, .f32⟩
  | 46 => ⟨S416x2048, .f32⟩
  | 47 => ⟨S416x2048, .f32⟩
  | 48 => ⟨S416x2048, .f32⟩
  | 49 => ⟨S_, .f32⟩
  | 50 => ⟨S416x2048, .f32⟩
  | 51 => ⟨S416x2048, .f32⟩
  | 52 => ⟨S_, .f32⟩
  | 53 => ⟨S416x2048, .f32⟩
  | 54 => ⟨S416x2048, .f32⟩
  | 55 => ⟨S416x2048, .f32⟩
  | 56 => ⟨S_, .f32⟩
  | 57 => ⟨S416x2048, .f32⟩
  | 58 => ⟨S416x2048, .f32⟩
  | 59 => ⟨S416x2048, .f32⟩
  | 60 => ⟨S_, .f32⟩
  | 61 => ⟨S416x2048, .f32⟩
  | 62 => ⟨S416x2048, .f32⟩
  | 63 => ⟨S416x2048, .f32⟩
  | 64 => ⟨S_, .f32⟩
  | 65 => ⟨S416x2048, .f32⟩
  | 66 => ⟨S416x2048, .f32⟩
  | _ => ⟨S8x704x2048, .f32⟩

abbrev hbmTy (i : Nat) : BufTy := match i / 128 with
  | 0 => hbmTy0_0 i
  | 1 => hbmTy0_1 i
  | _ => ⟨S8x704x2048, .f32⟩

abbrev bufTy : (tb : Table) → Fin (tcTables nBuf tb) → BufTy
  | .hbm, ⟨i, _⟩ => hbmTy i
  | _, _ => ⟨S8x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_cst_5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_6 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_7 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_8 : Ref sig .tc := ⟨.hbm, 52, rfl⟩
abbrev main_v23 : Ref sig .tc := ⟨.hbm, 53, rfl⟩
abbrev main_v24 : Ref sig .tc := ⟨.hbm, 54, rfl⟩
abbrev main_cst_9 : Ref sig .tc := ⟨.hbm, 55, rfl⟩
abbrev main_v25 : Ref sig .tc := ⟨.hbm, 56, rfl⟩
abbrev main_cst_10 : Ref sig .tc := ⟨.hbm, 57, rfl⟩
abbrev main_v26 : Ref sig .tc := ⟨.hbm, 58, rfl⟩
abbrev main_v27 : Ref sig .tc := ⟨.hbm, 59, rfl⟩
abbrev main_cst_11 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_12 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_13 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_v37 : Ref sig .tc := ⟨.hbm, 73, rfl⟩
abbrev main_v38 : Ref sig .tc := ⟨.hbm, 74, rfl⟩
abbrev main_cst_15 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_16 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_17 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_18 : Ref sig .tc := ⟨.hbm, 87, rfl⟩
abbrev main_v48 : Ref sig .tc := ⟨.hbm, 88, rfl⟩
abbrev main_v49 : Ref sig .tc := ⟨.hbm, 89, rfl⟩
abbrev main_cst_19 : Ref sig .tc := ⟨.hbm, 90, rfl⟩
abbrev main_v50 : Ref sig .tc := ⟨.hbm, 91, rfl⟩
abbrev main_cst_20 : Ref sig .tc := ⟨.hbm, 92, rfl⟩
abbrev main_v51 : Ref sig .tc := ⟨.hbm, 93, rfl⟩
abbrev main_v52 : Ref sig .tc := ⟨.hbm, 94, rfl⟩
abbrev main_cst_21 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_22 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_23 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_24 : Ref sig .tc := ⟨.hbm, 107, rfl⟩
abbrev main_v62 : Ref sig .tc := ⟨.hbm, 108, rfl⟩
abbrev main_v63 : Ref sig .tc := ⟨.hbm, 109, rfl⟩
abbrev main_cst_25 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_26 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_27 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_28 : Ref sig .tc := ⟨.hbm, 122, rfl⟩
abbrev main_v73 : Ref sig .tc := ⟨.hbm, 123, rfl⟩
abbrev main_v74 : Ref sig .tc := ⟨.hbm, 124, rfl⟩
abbrev main_cst_29 : Ref sig .tc := ⟨.hbm, 125, rfl⟩
abbrev main_v75 : Ref sig .tc := ⟨.hbm, 126, rfl⟩
abbrev main_cst_30 : Ref sig .tc := ⟨.hbm, 127, rfl⟩
abbrev main_v76 : Ref sig .tc := ⟨.hbm, 128, rfl⟩
abbrev main_v77 : Ref sig .tc := ⟨.hbm, 129, rfl⟩
abbrev main_cst_31 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_32 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_33 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_34 : Ref sig .tc := ⟨.hbm, 142, rfl⟩
abbrev main_v87 : Ref sig .tc := ⟨.hbm, 143, rfl⟩
abbrev main_v88 : Ref sig .tc := ⟨.hbm, 144, rfl⟩
abbrev main_cst_35 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_36 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_37 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_38 : Ref sig .tc := ⟨.hbm, 157, rfl⟩
abbrev main_v98 : Ref sig .tc := ⟨.hbm, 158, rfl⟩
abbrev main_v99 : Ref sig .tc := ⟨.hbm, 159, rfl⟩
abbrev main_cst_39 : Ref sig .tc := ⟨.hbm, 160, rfl⟩
abbrev main_v100 : Ref sig .tc := ⟨.hbm, 161, rfl⟩
abbrev main_cst_40 : Ref sig .tc := ⟨.hbm, 162, rfl⟩
abbrev main_v101 : Ref sig .tc := ⟨.hbm, 163, rfl⟩
abbrev main_v102 : Ref sig .tc := ⟨.hbm, 164, rfl⟩
abbrev main_cst_41 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_42 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_43 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_44 : Ref sig .tc := ⟨.hbm, 177, rfl⟩
abbrev main_v112 : Ref sig .tc := ⟨.hbm, 178, rfl⟩
abbrev main_v113 : Ref sig .tc := ⟨.hbm, 179, rfl⟩
abbrev main_cst_45 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_46 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_47 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_48 : Ref sig .tc := ⟨.hbm, 192, rfl⟩
abbrev main_v123 : Ref sig .tc := ⟨.hbm, 193, rfl⟩
abbrev main_v124 : Ref sig .tc := ⟨.hbm, 194, rfl⟩

abbrev nD : Nat := 1
abbrev τ : Topo := Topo.v7x

variable {F : FTy → Type} [FloatOps F]
-- ==== Gate.lean ====
abbrev S3328x4096 : Shape := ⟨2, ![3328, 4096]⟩
abbrev S1x64 : Shape := ⟨2, ![1, 64]⟩
abbrev S1x16 : Shape := ⟨2, ![1, 16]⟩
abbrev S1x8x128 : Shape := ⟨3, ![1, 8, 128]⟩
abbrev S1x8x128x128 : Shape := ⟨4, ![1, 8, 128, 128]⟩
abbrev S1x1024 : Shape := ⟨2, ![1, 1024]⟩
abbrev S64x1 : Shape := ⟨2, ![64, 1]⟩
abbrev S64x1024 : Shape := ⟨2, ![64, 1024]⟩
abbrev S64x256 : Shape := ⟨2, ![64, 256]⟩
abbrev S16 : Shape := ⟨1, ![16]⟩
abbrev S1024x1 : Shape := ⟨2, ![1024, 1]⟩
abbrev S1024x128 : Shape := ⟨2, ![1024, 128]⟩
abbrev S8x128x128 : Shape := ⟨3, ![8, 128, 128]⟩
abbrev S8x128 : Shape := ⟨2, ![8, 128]⟩
abbrev S2048x4096 : Shape := ⟨2, ![2048, 4096]⟩
abbrev S16x4096 : Shape := ⟨2, ![16, 4096]⟩
abbrev S1024x4096 : Shape := ⟨2, ![1024, 4096]⟩
abbrev S3328x128 : Shape := ⟨2, ![3328, 128]⟩
abbrev S256x128 : Shape := ⟨2, ![256, 128]⟩
abbrev S2048x128 : Shape := ⟨2, ![2048, 128]⟩
abbrev S16x128 : Shape := ⟨2, ![16, 128]⟩
abbrev S128x128 : Shape := ⟨2, ![128, 128]⟩
abbrev S64x128 : Shape := ⟨2, ![64, 128]⟩
abbrev S256 : Shape := ⟨1, ![256]⟩
abbrev S1x256 : Shape := ⟨2, ![1, 256]⟩
abbrev S256x64 : Shape := ⟨2, ![256, 64]⟩
abbrev S1024 : Shape := ⟨1, ![1024]⟩
abbrev S256x1024 : Shape := ⟨2, ![256, 1024]⟩
abbrev S1 : Shape := ⟨1, ![1]⟩
abbrev S128 : Shape := ⟨1, ![128]⟩
abbrev S1x128 : Shape := ⟨2, ![1, 128]⟩
abbrev S8x1x128 : Shape := ⟨3, ![8, 1, 128]⟩
abbrev S1x128x128 : Shape := ⟨3, ![1, 128, 128]⟩

abbrev nBuf : Space → Nat
  | .hbm => 30
  | .vmem => 20
  | .smem => 1
  | _ => 0

abbrev bufTy : (tb : Table) → Fin (tcTables nBuf tb) → BufTy
  | .hbm, ⟨0, _⟩ => ⟨S3328x4096, .f32⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S1x8x128, .f32⟩
  | .hbm, ⟨5, _⟩ => ⟨S1x8x128, .f32⟩
  | .hbm, ⟨6, _⟩ => ⟨S1x8x128x128, .f32⟩
  | .hbm, ⟨7, _⟩ => ⟨S1x8x128, .f32⟩
  | .hbm, ⟨8, _⟩ => ⟨S1x1024, .f32⟩
  | .hbm, ⟨9, _⟩ => ⟨S1x1024, .f32⟩
  | .hbm, ⟨10, _⟩ => ⟨S64x1, .f32⟩
  | .hbm, ⟨11, _⟩ => ⟨S64x1024, .f32⟩
  | .hbm, ⟨12, _⟩ => ⟨S64x1, .f32⟩
  | .hbm, ⟨13, _⟩ => ⟨S64x256, .f32⟩
  | .hbm, ⟨14, _⟩ => ⟨S16, .f32⟩
  | .hbm, ⟨15, _⟩ => ⟨S1024x1, .f32⟩
  | .hbm, ⟨16, _⟩ => ⟨S1024x128, .f32⟩
  | .hbm, ⟨17, _⟩ => ⟨S1024x1, .f32⟩
  | .hbm, ⟨18, _⟩ => ⟨S1024x128, .f32⟩
  | .hbm, ⟨19, _⟩ => ⟨S8x128x128, .f32⟩
  | .hbm, ⟨20, _⟩ => ⟨S8x128, .f32⟩
  | .hbm, ⟨21, _⟩ => ⟨S1024x1, .f32⟩
  | .hbm, ⟨22, _⟩ => ⟨S1024x128, .f32⟩
  | .hbm, ⟨23, _⟩ => ⟨S1024x1, .f32⟩
  | .hbm, ⟨24, _⟩ => ⟨S1024x128, .f32⟩
  | .hbm, ⟨25, _⟩ => ⟨S2048x4096, .bf16⟩
  | .hbm, ⟨26, _⟩ => ⟨S2048x4096, .f32⟩
  | .hbm, ⟨27, _⟩ => ⟨S16x4096, .f32⟩
  | .hbm, ⟨28, _⟩ => ⟨S1024x4096, .f32⟩
  | .hbm, ⟨29, _⟩ => ⟨S1024x4096, .bf16⟩
  | .local _ .vmem, ⟨0, _⟩ => ⟨S3328x128, .f32⟩
  | .local _ .vmem, ⟨1, _⟩ => ⟨S3328x128, .f32⟩
  | .local _ .vmem, ⟨2, _⟩ => ⟨S256x128, .f32⟩
  | .local _ .vmem, ⟨3, _⟩ => ⟨S256x128, .f32⟩
  | .local _ .vmem, ⟨4, _⟩ => ⟨S64x1024, .f32⟩
  | .local _ .vmem, ⟨5, _⟩ => ⟨S64x256, .f32⟩
  | .local _ .vmem, ⟨6, _⟩ => ⟨S1024x128, .f32⟩
  | .local _ .vmem, ⟨7, _⟩ => ⟨S1024x128, .f32⟩
  | .local _ .vmem, ⟨8, _⟩ => ⟨S8x128x128, .f32⟩
  | .local _ .vmem, ⟨9, _⟩ => ⟨S8x128, .f32⟩
  | .local _ .vmem, ⟨10, _⟩ => ⟨S1024x128, .f32⟩
  | .local _ .vmem, ⟨11, _⟩ => ⟨S1024x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | .local _ .vmem, ⟨16, _⟩ => ⟨S16x128, .f32⟩
  | .local _ .vmem, ⟨17, _⟩ => ⟨S16x128, .f32⟩
  | .local _ .vmem, ⟨18, _⟩ => ⟨S1024x128, .f32⟩
  | .local _ .vmem, ⟨19, _⟩ => ⟨S1024x128, .f32⟩
  | .local _ .smem, ⟨0, _⟩ => ⟨S16, .f32⟩
  | _, _ => ⟨S3328x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![c4_i32.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S3328x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== GateRefIdeal.lean ====
abbrev S3328x4096 : Shape := ⟨2, ![3328, 4096]⟩
abbrev S1x64 : Shape := ⟨2, ![1, 64]⟩
abbrev S1x16 : Shape := ⟨2, ![1, 16]⟩
abbrev S1x8x128 : Shape := ⟨3, ![1, 8, 128]⟩
abbrev S1x8x128x128 : Shape := ⟨4, ![1, 8, 128, 128]⟩
abbrev S1x1024 : Shape := ⟨2, ![1, 1024]⟩
abbrev S2048x4096 : Shape := ⟨2, ![2048, 4096]⟩
abbrev S4096x2048 : Shape := ⟨2, ![4096, 2048]⟩
abbrev S_ : Shape := ⟨0, ![]⟩
abbrev S4096x1024 : Shape := ⟨2, ![4096, 1024]⟩
abbrev S32x128x8x128 : Shape := ⟨4, ![32, 128, 8, 128]⟩
abbrev S32x128x8 : Shape := ⟨3, ![32, 128, 8]⟩
abbrev S32x128x8x1 : Shape := ⟨4, ![32, 128, 8, 1]⟩
abbrev S8x128 : Shape := ⟨2, ![8, 128]⟩
abbrev S1x1x8x128 : Shape := ⟨4, ![1, 1, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x128x128 : Shape := ⟨3, ![8, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 96
  | .vmem => 0
  | .smem => 0
  | _ => 0

abbrev bufTy : (tb : Table) → Fin (tcTables nBuf tb) → BufTy
  | .hbm, ⟨0, _⟩ => ⟨S3328x4096, .f32⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S1x8x128, .f32⟩
  | .hbm, ⟨5, _⟩ => ⟨S1x8x128, .f32⟩
  | .hbm, ⟨6, _⟩ => ⟨S1x8x128x128, .f32⟩
  | .hbm, ⟨7, _⟩ => ⟨S1x8x128, .f32⟩
  | .hbm, ⟨8, _⟩ => ⟨S1x1024, .f32⟩
  | .hbm, ⟨9, _⟩ => ⟨S1x1024, .f32⟩
  | .hbm, ⟨10, _⟩ => ⟨S2048x4096, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S32x128x8x128, .f32⟩
  | .hbm, ⟨24, _⟩ => ⟨S_, .f32⟩
  | .hbm, ⟨25, _⟩ => ⟨S32x128x8, .f32⟩
  | .hbm, ⟨26, _⟩ => ⟨S32x128x8x1, .f32⟩
  | .hbm, ⟨27, _⟩ => ⟨S_, .f32⟩
  | .hbm, ⟨28, _⟩ => ⟨S32x128x8x1, .f32⟩
  | .hbm, ⟨29, _⟩ => ⟨S32x128x8x1, .f32⟩
  | .hbm, ⟨30, _⟩ => ⟨S32x128x8x128, .f32⟩
  | .hbm, ⟨31, _⟩ => ⟨S32x128x8x128, .f32⟩
  | .hbm, ⟨32, _⟩ => ⟨S32x128x8x128, .f32⟩
  | .hbm, ⟨33, _⟩ => ⟨S_, .f32⟩
  | .hbm, ⟨34, _⟩ => ⟨S32x128x8, .f32⟩
  | .hbm, ⟨35, _⟩ => ⟨S32x128x8x1, .f32⟩
  | .hbm, ⟨36, _⟩ => ⟨S_, .f32⟩
  | .hbm, ⟨37, _⟩ => ⟨S32x128x8x1, .f32⟩
  | .hbm, ⟨38, _⟩ => ⟨S32x128x8x1, .f32⟩
  | .hbm, ⟨39, _⟩ => ⟨S32x128x8x128, .f32⟩
  | .hbm, ⟨40, _⟩ => ⟨S32x128x8x128, .f32⟩
  | .hbm, ⟨41, _⟩ => ⟨S_, .f32⟩
  | .hbm, ⟨42, _⟩ => ⟨S32x128x8x1, .f32⟩
  | .hbm, ⟨43, _⟩ => ⟨S32x128x8x1, .f32⟩
  | .hbm, ⟨44, _⟩ => ⟨S32x128x8x1, .f32⟩
  | .hbm, ⟨45, _⟩ => ⟨S32x128x8x128, .f32⟩
  | .hbm, ⟨46, _⟩ => ⟨S32x128x8x128, .f32⟩
  | .hbm, ⟨47, _⟩ => ⟨S8x128, .f32⟩
  | .hbm, ⟨48, _⟩ => ⟨S1x1x8x128, .f32⟩
  | .hbm, ⟨49, _⟩ => ⟨S32x128x8x128, .f32⟩
  | .hbm, ⟨50, _⟩ => ⟨S32x128x8x128, .f32⟩
  | .hbm, ⟨51, _⟩ => ⟨S8x128, .f32⟩
  | .hbm, ⟨52, _⟩ => ⟨S1x1x8x128, .f32⟩
  | .hbm, ⟨53, _⟩ => ⟨S32x128x8x128, .f32⟩
  | .hbm, ⟨54, _⟩ => ⟨S32x128x8x128, .f32⟩
  | .hbm, ⟨55, _⟩ => ⟨S128, .i32⟩
  | .hbm, ⟨56, _⟩ => ⟨S128x1, .i32⟩
  | .hbm, ⟨57, _⟩ => ⟨S1x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S8x128x128, .f32⟩
  | .hbm, ⟨62, _⟩ => ⟨S_, .f32⟩
  | .hbm, ⟨63, _⟩ => ⟨S_, .f32⟩
  | .hbm, ⟨64, _⟩ => ⟨S8x128x128, .i1⟩
  | .hbm, ⟨65, _⟩ => ⟨S8x128x128, .f32⟩
  | .hbm, ⟨66, _⟩ => ⟨S8x128x128, .f32⟩
  | .hbm, ⟨67, _⟩ => ⟨S8x32x128x128, .f32⟩
  | .hbm, ⟨68, _⟩ => ⟨S32x128x8x128, .f32⟩
  | .hbm, ⟨69, _⟩ => ⟨S8x128, .f32⟩
  | .hbm, ⟨70, _⟩ => ⟨S128x8, .f32⟩
  | .hbm, ⟨71, _⟩ => ⟨S128x8x1, .f32⟩
  | .hbm, ⟨72, _⟩ => ⟨S1x128x8x1, .f32⟩
  | .hbm, ⟨73, _⟩ => ⟨S32x128x8x128, .f32⟩
  | .hbm, ⟨74, _⟩ => ⟨S32x128x8x128, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S1024x4096, .f32⟩
  | .hbm, ⟨95, _⟩ => ⟨S1024x4096, .bf16⟩
  | _, _ => ⟨S3328x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.Layer.lean ====
/-
  THE MATHEMATICS of the step's second half, free of arrays, tiles and programs: the output projection, the RMS norm,
  the SwiGLU feed-forward network, the loss, and their gradients, over extended reals. `Layer` holds the arguments, the
  functions after it are what the twelve kernel calls compute (`gateK`, `dHiddenK`, …: the kernel's own order of
  operations), the functions ending in `R` are what the reference differentiated by `jax.vjp` computes where it goes
  about it differently, and the theorems say that for real arguments they agree:

    * the kernel writes the logistic function as ½ + ½·tanh(a/2) and the reference as 1 / (1 + e⁻ᵃ);
    * the kernel multiplies the hidden gradient by σ·(1 + a·(1 − σ)), the reference adds the two terms of the product
      rule;
    * the kernel's norm backward is r·(d − x̂·mean(d·x̂)), the reference carries the derivative −½·r/(mean + ε) of the
      reciprocal root through the mean;
    * the kernel divides the summed squares once, the reference takes each row's mean first.
-/
module

public import Idealize.ShloMosaic.PureOps.Ideal.Laws
public import Mathlib.Tactic.Ring
public import Mathlib.Tactic.FieldSimp
public import Mathlib.Tactic.Linarith
public import Mathlib.Analysis.SpecialFunctions.Trigonometric.DerivHyp

@[expose] public section

noncomputable section

namespace Cert.Layer

open Idealize.ShloMosaic
open scoped BigOperators

/-! ## Extended reals that are real numbers -/

/-- `x` is a real number: neither infinity. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A finite sum of real numbers is real. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- The real numbers ½, 1/2048, 1/4096, 2048 and 2, as extended reals. -/
def half : EReal := ((1 / 2 : ℝ) : EReal)
def inv2048 : EReal := ((1 / 2048 : ℝ) : EReal)
def inv4096 : EReal := ((1 / 4096 : ℝ) : EReal)
def n2048 : EReal := ((2048 : ℝ) : EReal)
def two : EReal := ((2 : ℝ) : EReal)

/-- Division by 2048 is multiplication by 1/2048. -/
theorem div_n2048 (x : EReal) : Ideal.div x n2048 = x * inv2048 :=
  Ideal.div_coe (by norm_num) x

/-! ## The logistic function -/

/-- The logistic function the kernel's way. -/
def sigK (a : EReal) : EReal := half + half * Ideal.tanh (half * a)
/-- The logistic function the reference's way. -/
def sigR (a : EReal) : EReal := Ideal.div 1 (1 + Ideal.exp (-a))

/-- ½ + ½·tanh(a/2) = 1 / (1 + e⁻ᵃ) over the reals. -/
theorem sig_real (a : ℝ) : 1 / 2 + 1 / 2 * Real.tanh (1 / 2 * a) = 1 / (1 + Real.exp (-a)) := by
  rw [Real.tanh_eq_sinh_div_cosh, Real.sinh_eq, Real.cosh_eq]
  have h1 : Real.exp (1 / 2 * a) ≠ 0 := (Real.exp_pos _).ne'
  have e1 : Real.exp (-(1 / 2 * a)) = (Real.exp (1 / 2 * a))⁻¹ := Real.exp_neg _
  have e2 : Real.exp (-a) = (Real.exp (1 / 2 * a))⁻¹ * (Real.exp (1 / 2 * a))⁻¹ := by
    rw [← e1, ← Real.exp_add]; congr 1; ring
  rw [e1, e2]
  have h2 : Real.exp (1 / 2 * a) ^ 2 + 1 ≠ 0 := by positivity
  have h3 : 1 + Real.exp (1 / 2 * a) ^ 2 ≠ 0 := by positivity
  field_simp
  ring

/-- The kernel's logistic function at a real number. -/
theorem sigK_coe (a : ℝ) : sigK (a : EReal) = ((1 / 2 + 1 / 2 * Real.tanh (1 / 2 * a) : ℝ) : EReal) := by
  unfold sigK half
  rw [← EReal.coe_mul]
  show ((1 / 2 : ℝ) : EReal) + ((1 / 2 : ℝ) : EReal) * ((Real.tanh (1 / 2 * a) : ℝ) : EReal) = _
  rw [← EReal.coe_mul, ← EReal.coe_add]

/-- The two ways agree at a real number. -/
theorem sigR_eq {a : EReal} (ha : IsReal a) : sigR a = sigK a := by
  obtain ⟨a, rfl⟩ := ha
  rw [sigK_coe, sig_real]
  unfold sigR
  rw [← EReal.coe_neg]
  show Ideal.div 1 (1 + ((Real.exp (-a) : ℝ) : EReal)) = _
  rw [show (1 : EReal) + ((Real.exp (-a) : ℝ) : EReal) = ((1 + Real.exp (-a) : ℝ) : EReal) by push_cast; rfl,
    Ideal.div_coe (by positivity), one_mul]

theorem IsReal.sigK {a : EReal} (ha : IsReal a) : IsReal (sigK a) := by
  obtain ⟨a, rfl⟩ := ha; exact ⟨_, sigK_coe a⟩

/-! ## The arguments and the forward pass -/

/-- The arguments: the mixer's output `Y` (transposed), the residual stream `X`, the norm's gain `G`, the projection `Wo`,
    the network's three weights, the targets `T`, and the constant ε of the norm. -/
structure Layer (R D E : Type) where
  Y : D → R → EReal
  X : R → D → EReal
  G : D → EReal
  Wo : D → D → EReal
  Wg : E → D → EReal
  Wu : E → D → EReal
  Wd : E → D → EReal
  T : R → D → EReal
  ε : ℝ
  hε : 0 < ε

namespace Layer

variable {R D E : Type} [Fintype R] [Fintype D] [Fintype E] (L : Layer R D E)

/-- The residual stream after the output projection. -/
def x2 (r : R) (c : D) : EReal := L.X r c + ∑ k, L.Y k r * L.Wo k c
/-- A row's mean square plus ε. -/
def ms (r : R) : EReal := Ideal.div (∑ c, L.x2 r c * L.x2 r c) n2048 + (L.ε : EReal)
/-- The reciprocal root mean square of a row. -/
def rs (r : R) : EReal := Ideal.rsqrt (L.ms r)
/-- The normalised row, -/
def xh (r : R) (c : D) : EReal := L.x2 r c * L.rs r
/-- with the gain. -/
def h (r : R) (c : D) : EReal := L.xh r c * L.G c
/-- The gate's and the up projection's products. -/
def gate (r : R) (f : E) : EReal := ∑ c, L.h r c * L.Wg f c
def up (r : R) (f : E) : EReal := ∑ c, L.h r c * L.Wu f c
/-- The gate, and the gate's derivative. -/
def silu (r : R) (f : E) : EReal := L.gate r f * sigK (L.gate r f)
def dsilu (r : R) (f : E) : EReal := sigK (L.gate r f) * (1 + L.gate r f * (1 - sigK (L.gate r f)))
/-- The hidden layer, and the gate's derivative times the up projection. -/
def hid (r : R) (f : E) : EReal := L.silu r f * L.up r f
def dsiluUp (r : R) (f : E) : EReal := L.dsilu r f * L.up r f
/-- The error: the layer's output less the target. -/
def err (r : R) (c : D) : EReal := L.x2 r c + ∑ f, L.hid r f * L.Wd f c - L.T r c

/-! ## The kernel's loss and gradients -/

/-- The loss: the summed squares times 1/4096. -/
def lossK : EReal := inv4096 * ∑ r, ∑ c, L.err r c * L.err r c
/-- The gradient at the layer's output. -/
def dOut (r : R) (c : D) : EReal := L.err r c * inv2048
/-- The down projection's gradient, and the hidden layer's. -/
def dWd (f : E) (c : D) : EReal := ∑ r, L.hid r f * L.dOut r c
def dHid (r : R) (f : E) : EReal := ∑ c, L.dOut r c * L.Wd f c
/-- The gradients of the gate's and the up projection's products, -/
def dGate (r : R) (f : E) : EReal := L.dHid r f * L.dsiluUp r f
def dUp (r : R) (f : E) : EReal := L.dHid r f * L.silu r f
/-- of their weights, -/
def dWg (f : E) (c : D) : EReal := ∑ r, L.dGate r f * L.h r c
def dWu (f : E) (c : D) : EReal := ∑ r, L.dUp r f * L.h r c
/-- and of the normalised row with its gain. -/
def dH (r : R) (c : D) : EReal := (∑ f, L.dGate r f * L.Wg f c) + ∑ f, L.dUp r f * L.Wu f c
/-- The gain's gradient. -/
def dG (c : D) : EReal := ∑ r, L.dH r c * L.xh r c
/-- The gradient at the normalised row, its mean with the row, -/
def dXh (r : R) (c : D) : EReal := L.dH r c * L.G c
def meanK (r : R) : EReal := Ideal.div (∑ c, L.dXh r c * L.xh r c) n2048
/-- and the gradient at the residual stream after the projection. -/
def dX2 (r : R) (c : D) : EReal := L.dOut r c + L.rs r * (L.dXh r c - L.xh r c * L.meanK r)
/-- The gradients of the mixer's output and of the projection. -/
def dY (k : D) (r : R) : EReal := ∑ c, L.Wo k c * L.dX2 r c
def dWo (k c : D) : EReal := ∑ r, L.Y k r * L.dX2 r c

/-! ## The reference's loss and gradients, where it computes them differently -/

def lossR : EReal := half * ∑ r, Ideal.div (∑ c, L.err r c * L.err r c) n2048
def dOutR (r : R) (c : D) : EReal := Ideal.div (half * 1) n2048 * (two * L.err r c)
/-- The gate's derivative by the product rule: the gradient at the gate's product, from `d` at the hidden layer. -/
def dGateR (d : EReal) (r : R) (f : E) : EReal :=
  d * L.up r f * sigK (L.gate r f) + L.gate r f * (d * L.up r f) * (sigK (L.gate r f) * (1 - sigK (L.gate r f)))
/-- The mean's share of the norm's backward pass. -/
def meanR (r : R) : EReal :=
  Ideal.div ((∑ c, L.x2 r c * L.dXh r c) * (-half * Ideal.div (L.rs r) (L.ms r))) n2048
def dX2R (r : R) (c : D) : EReal :=
  L.dOut r c + L.dXh r c * L.rs r + L.x2 r c * L.meanR r + L.meanR r * L.x2 r c

/-! ## Real arguments -/

/-- Every argument is a real number. -/
structure AllReal : Prop where
  Y : ∀ k r, IsReal (L.Y k r)
  X : ∀ r c, IsReal (L.X r c)
  G : ∀ c, IsReal (L.G c)
  Wo : ∀ k c, IsReal (L.Wo k c)
  Wg : ∀ f c, IsReal (L.Wg f c)
  Wu : ∀ f c, IsReal (L.Wu f c)
  Wd : ∀ f c, IsReal (L.Wd f c)
  T : ∀ r c, IsReal (L.T r c)

variable {L} (hL : L.AllReal)
include hL

theorem x2_real (r : R) (c : D) : IsReal (L.x2 r c) :=
  (hL.X r c).add (IsReal.sum fun k => (hL.Y k r).mul (hL.Wo k c))

/-- A row's mean square plus ε is a positive real number, and the reciprocal root's square is its inverse. -/
theorem ms_rs (r : R) : ∃ m s : ℝ, 0 < m ∧ L.ms r = (m : EReal) ∧ L.rs r = (s : EReal) ∧ s * s = 1 / m := by
  choose x hx using fun c => L.x2_real hL r c
  have hm : L.ms r = (((∑ c, x c * x c) * (1 / 2048) + L.ε : ℝ) : EReal) := by
    unfold ms; rw [div_n2048]; unfold inv2048
    rw [EReal.coe_add, EReal.coe_mul, coe_sum]
    simp only [hx, ← EReal.coe_mul]
  have h0 : 0 ≤ ∑ c, x c * x c := Finset.sum_nonneg fun c _ => mul_self_nonneg _
  have hp : 0 < (∑ c, x c * x c) * (1 / 2048) + L.ε := by have := L.hε; positivity
  refine ⟨_, (Real.sqrt ((∑ c, x c * x c) * (1 / 2048) + L.ε))⁻¹, hp, hm, ?_, ?_⟩
  · unfold rs; rw [hm, Ideal.rsqrt_coe, if_neg (not_lt.2 hp.le), if_neg hp.ne']
  · rw [← mul_inv, Real.mul_self_sqrt hp.le]; exact (one_div _).symm

theorem rs_real (r : R) : IsReal (L.rs r) := by
  obtain ⟨_, s, _, _, h, _⟩ := ms_rs hL r; exact ⟨s, h⟩
theorem xh_real (r : R) (c : D) : IsReal (L.xh r c) := (x2_real hL r c).mul (rs_real hL r)
theorem h_real (r : R) (c : D) : IsReal (L.h r c) := (xh_real hL r c).mul (hL.G c)
theorem gate_real (r : R) (f : E) : IsReal (L.gate r f) := IsReal.sum fun c => (h_real hL r c).mul (hL.Wg f c)
theorem up_real (r : R) (f : E) : IsReal (L.up r f) := IsReal.sum fun c => (h_real hL r c).mul (hL.Wu f c)
theorem sig_real' (r : R) (f : E) : IsReal (sigK (L.gate r f)) := (gate_real hL r f).sigK
theorem silu_real (r : R) (f : E) : IsReal (L.silu r f) := (gate_real hL r f).mul (sig_real' hL r f)
theorem dsilu_real (r : R) (f : E) : IsReal (L.dsilu r f) :=
  (sig_real' hL r f).mul ((IsReal.coe 1).add ((gate_real hL r f).mul ((IsReal.coe 1).sub (sig_real' hL r f))))
theorem hid_real (r : R) (f : E) : IsReal (L.hid r f) := (silu_real hL r f).mul (up_real hL r f)
theorem dsiluUp_real (r : R) (f : E) : IsReal (L.dsiluUp r f) := (dsilu_real hL r f).mul (up_real hL r f)
theorem err_real (r : R) (c : D) : IsReal (L.err r c) :=
  ((x2_real hL r c).add (IsReal.sum fun f => (hid_real hL r f).mul (hL.Wd f c))).sub (hL.T r c)
theorem dOut_real (r : R) (c : D) : IsReal (L.dOut r c) := (err_real hL r c).mul (IsReal.coe _)
theorem dHid_real (r : R) (f : E) : IsReal (L.dHid r f) := IsReal.sum fun c => (dOut_real hL r c).mul (hL.Wd f c)
theorem dGate_real (r : R) (f : E) : IsReal (L.dGate r f) := (dHid_real hL r f).mul (dsiluUp_real hL r f)
theorem dUp_real (r : R) (f : E) : IsReal (L.dUp r f) := (dHid_real hL r f).mul (silu_real hL r f)
theorem dH_real (r : R) (c : D) : IsReal (L.dH r c) :=
  (IsReal.sum fun f => (dGate_real hL r f).mul (hL.Wg f c)).add (IsReal.sum fun f => (dUp_real hL r f).mul (hL.Wu f c))
theorem dXh_real (r : R) (c : D) : IsReal (L.dXh r c) := (dH_real hL r c).mul (hL.G c)

/-! ## The two ways agree -/

/-- The gradient at the layer's output. -/
theorem dOutR_eq (r : R) (c : D) : L.dOutR r c = L.dOut r c := by
  obtain ⟨e, he⟩ := err_real hL r c
  unfold dOutR dOut
  rw [div_n2048, mul_one, he]; unfold half inv2048 two
  simp only [← EReal.coe_mul]; congr 1; ring

/-- The gate's derivative. -/
theorem dGateR_eq (r : R) (f : E) : L.dGateR (L.dHid r f) r f = L.dGate r f := by
  obtain ⟨d, hd⟩ := dHid_real hL r f
  obtain ⟨u, hu⟩ := up_real hL r f
  obtain ⟨g, hg⟩ := gate_real hL r f
  obtain ⟨s, hs⟩ := sig_real' hL r f
  unfold dGateR dGate dsiluUp dsilu
  rw [hs, hd, hu, hg]
  norm_cast; congr 1; ring

/-- The norm's backward pass. -/
theorem dX2R_eq (r : R) (c : D) : L.dX2R r c = L.dX2 r c := by
  obtain ⟨m, s, hm, hms, hrs, hss⟩ := ms_rs hL r
  choose x hx using fun c => x2_real hL r c
  choose d hd using fun c => dXh_real hL r c
  obtain ⟨o, ho⟩ := dOut_real hL r c
  unfold dX2R dX2 meanR meanK xh
  rw [div_n2048, div_n2048, hms, Ideal.div_coe hm.ne', hrs, ho]
  simp only [hx, hd]
  unfold half inv2048
  simp only [← EReal.coe_mul, ← coe_sum, ← EReal.coe_neg, ← EReal.coe_add, ← EReal.coe_sub]
  congr 1
  have e : ∑ c, d c * (x c * s) = (∑ c, x c * d c) * s := by
    rw [Finset.sum_mul]; exact Finset.sum_congr rfl fun c _ => by ring
  rw [e, ← hss]; ring

/-- The loss. -/
theorem lossR_eq : L.lossR = L.lossK := by
  choose e he using fun r => fun c => err_real hL r c
  unfold lossR lossK
  simp only [div_n2048, he]
  unfold half inv2048 inv4096
  simp only [← EReal.coe_mul, ← coe_sum]
  congr 1
  rw [← Finset.sum_mul]; ring

end Layer

end Cert.Layer

end
-- ==== Proof.Tiles.lean ====
/-
  WHAT THE CALLS' BODIES COMPUTE ON ONE TILE: each payload the twelve kernels store, read at an index over the extended
  reals, as sums and products of the elements of the tiles it was computed from. Narrowing to bf16 and widening back are
  the identity there.
-/
module

public import proofs.«01_k».proof.Proof.Gen.FfnIdeal.Skeleton
public import proofs.«01_k».proof.Proof.Layer
public import Idealize.ShloMosaic.Lib.Pointwise

@[expose] public section

set_option maxRecDepth 16384

noncomputable section

namespace Cert.Tiles

open Cert.FfnIdeal Cert.FfnIdeal.Gen Cert.Layer
open Idealize.ShloMosaic
open scoped BigOperators

/-! ## The printed constants -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_half : Ideal.ofBits .f32 0x3F000000#32 = half := by
  unfold half; simp [Ideal.ofBits, Ideal.ieee, -EReal.coe_mul]; norm_num
theorem ofBits_neg_half : Ideal.ofBits .f32 0xBF000000#32 = -half := by
  unfold half; rw [← EReal.coe_neg]; simp [Ideal.ofBits, Ideal.ieee, -EReal.coe_mul, -EReal.coe_neg]; norm_num
theorem ofBits_two : Ideal.ofBits .f32 0x40000000#32 = two := by
  unfold two; simp [Ideal.ofBits, Ideal.ieee, -EReal.coe_mul]; norm_num
theorem ofBits_n2048 : Ideal.ofBits .f32 0x45000000#32 = n2048 := by
  unfold n2048; simp [Ideal.ofBits, Ideal.ieee, -EReal.coe_mul]; norm_num
theorem ofBits_inv2048 : Ideal.ofBits .f32 0x3A000000#32 = inv2048 := by
  unfold inv2048; simp [Ideal.ofBits, Ideal.ieee, -EReal.coe_mul]; norm_num
theorem ofBits_inv4096 : Ideal.ofBits .f32 0x39800000#32 = inv4096 := by
  unfold inv4096; simp [Ideal.ofBits, Ideal.ieee, -EReal.coe_mul]; norm_num
/-- The norm's ε, the float nearest to a millionth: a positive real number. -/
def eps : ℝ := (2 ^ 23 + 407485 : ℕ) * (2 : ℝ) ^ (-43 : ℤ)
theorem eps_pos : 0 < eps := by unfold eps; positivity
theorem ofBits_eps : Ideal.ofBits .f32 0x358637BD#32 = (eps : EReal) := by
  unfold eps; simp [Ideal.ofBits, Ideal.ieee, -EReal.coe_mul]

/-! ## `mm_out`: the output projection, the residual sum and the norm -/

theorem out_x2 (y : FVec Ideal S2048x512 .bf16) (w : FVec Ideal S2048x2048 .bf16) (x : FVec Ideal S512x2048 .f32)
    (p : Fin 512) (q : Fin 2048) :
    k0_pay1 (F := Ideal) y w x (ix2 p q) = x (ix2 p q) + ∑ k : Fin 2048, y (ix2 k p) * w (ix2 k q) := by
  pointwise [k0_pay1, ofBits_zero]

/-- The normalised row with its gain, from the row `v` of the residual stream. -/
theorem out_h (y : FVec Ideal S2048x512 .bf16) (w : FVec Ideal S2048x2048 .bf16) (x : FVec Ideal S512x2048 .f32)
    (g : FVec Ideal S1x2048 .f32) (v : FVec Ideal S512x2048 .f32) (hv : k0_pay1 (F := Ideal) y w x = v) (p : Fin 512) (q : Fin 2048) :
    k0_pay2 (F := Ideal) y w x g (ix2 p q)
      = v (ix2 p q) * Ideal.rsqrt (Ideal.div (∑ c : Fin 2048, v (ix2 p c) * v (ix2 p c)) n2048 + (eps : EReal)) * g (ix2 0 q) := by
  unfold k0_pay2
  rw [hv, ← ofBits_eps, ← ofBits_n2048]
  pointwise

/-! ## `mm_gate`, `mm_up`: the two products, the gate and its derivative -/

theorem gate_prod (a : FVec Ideal S2048x2048 .bf16) (b : FVec Ideal S512x2048 .bf16) (p : Fin 2048) (q : Fin 512) :
    k1_pay1 (F := Ideal) a b (ix2 p q) = ∑ k : Fin 2048, a (ix2 p k) * b (ix2 q k) := by
  pointwise [k1_pay1, ofBits_zero]

theorem gate_silu (a : FVec Ideal S2048x2048 .bf16) (b : FVec Ideal S512x2048 .bf16) (p : Fin 2048) (q : Fin 512)
    (v : EReal) (hv : ∑ k : Fin 2048, a (ix2 p k) * b (ix2 q k) = v) :
    k1_pay3 (F := Ideal) a b (ix2 p q) = v * sigK v := by
  rw [← hv, ← gate_prod]
  unfold k1_pay3 k1_pay2 sigK
  rw [← ofBits_half]
  generalize k1_pay1 (F := Ideal) a b = v
  pointwise

theorem gate_dsilu (a : FVec Ideal S2048x2048 .bf16) (b : FVec Ideal S512x2048 .bf16) (p : Fin 2048) (q : Fin 512)
    (v : EReal) (hv : ∑ k : Fin 2048, a (ix2 p k) * b (ix2 q k) = v) :
    k1_pay4 (F := Ideal) a b (ix2 p q) = sigK v * (1 + v * (1 - sigK v)) := by
  rw [← hv, ← gate_prod]
  unfold k1_pay4 k1_pay2 sigK
  rw [← ofBits_half, ← ofBits_one]
  generalize k1_pay1 (F := Ideal) a b = v
  pointwise

theorem up_prod (a : FVec Ideal S2048x2048 .bf16) (b : FVec Ideal S512x2048 .bf16) (p : Fin 2048) (q : Fin 512) :
    k2_pay1 (F := Ideal) a b (ix2 p q) = ∑ k : Fin 2048, a (ix2 p k) * b (ix2 q k) := by
  pointwise [k2_pay1, ofBits_zero]

theorem up_hid (a : FVec Ideal S2048x2048 .bf16) (b : FVec Ideal S512x2048 .bf16) (s : FVec Ideal S2048x512 .bf16)
    (p : Fin 2048) (q : Fin 512) :
    k2_pay2 (F := Ideal) a b s (ix2 p q) = s (ix2 p q) * ∑ k : Fin 2048, a (ix2 p k) * b (ix2 q k) := by
  pointwise [k2_pay2, k2_pay1, ofBits_zero]

theorem up_dhid (a : FVec Ideal S2048x2048 .bf16) (b : FVec Ideal S512x2048 .bf16) (s : FVec Ideal S2048x512 .bf16)
    (p : Fin 2048) (q : Fin 512) :
    k2_pay3 (F := Ideal) a b s (ix2 p q) = s (ix2 p q) * ∑ k : Fin 2048, a (ix2 p k) * b (ix2 q k) := by
  pointwise [k2_pay3, k2_pay1, ofBits_zero]

/-! ## `mm_down`: the error, its gradient and the tile's share of the loss -/

theorem down_err (a : FVec Ideal S1024x5632 .bf16) (b : FVec Ideal S5632x512 .bf16) (x t : FVec Ideal S1024x512 .f32)
    (p : Fin 1024) (q : Fin 512) :
    k3_pay1 (F := Ideal) a b x t (ix2 p q) = x (ix2 p q) + ∑ k : Fin 5632, a (ix2 p k) * b (ix2 k q) - t (ix2 p q) := by
  pointwise [k3_pay1, ofBits_zero]

theorem down_dOut (a : FVec Ideal S1024x5632 .bf16) (b : FVec Ideal S5632x512 .bf16) (x t : FVec Ideal S1024x512 .f32)
    (p : Fin 1024) (q : Fin 512) :
    k3_pay2 (F := Ideal) a b x t (ix2 p q)
      = (x (ix2 p q) + ∑ k : Fin 5632, a (ix2 p k) * b (ix2 k q) - t (ix2 p q)) * inv2048 := by
  rw [← down_err, ← ofBits_inv2048]
  unfold k3_pay2
  generalize k3_pay1 (F := Ideal) a b x t = v
  pointwise

theorem down_dOut_narrow (a : FVec Ideal S1024x5632 .bf16) (b : FVec Ideal S5632x512 .bf16) (x t : FVec Ideal S1024x512 .f32)
    (p : Fin 1024) (q : Fin 512) :
    k3_pay3 (F := Ideal) a b x t (ix2 p q)
      = (x (ix2 p q) + ∑ k : Fin 5632, a (ix2 p k) * b (ix2 k q) - t (ix2 p q)) * inv2048 := by
  rw [← down_dOut]
  unfold k3_pay3
  generalize k3_pay2 (F := Ideal) a b x t = v
  pointwise

theorem down_loss (a : FVec Ideal S1024x5632 .bf16) (b : FVec Ideal S5632x512 .bf16) (x t : FVec Ideal S1024x512 .f32)
    (v : FVec Ideal S1024x512 .f32) (hv : k3_pay1 (F := Ideal) a b x t = v) (y : S8x128.Idx) :
    k3_pay4 (F := Ideal) a b x t y = ∑ p : Fin 1024, ∑ q : Fin 512, v (ix2 p q) * v (ix2 p q) := by
  unfold k3_pay4
  rw [hv]
  pointwise

/-! ## The plain products: `mm_gw_down`, `mm_d_down`, `mm_gw_gate`, `mm_gw_up`, `mm_dh2_gate`, `mm_dh2_up`, `mm_gw_out` -/

theorem gwDown_prod (a : FVec Ideal S4096x1408 .bf16) (b : FVec Ideal S4096x1024 .bf16) (p : Fin 1408) (q : Fin 1024) :
    k4_pay1 (F := Ideal) a b (ix2 p q) = ∑ k : Fin 4096, a (ix2 k p) * b (ix2 k q) := by
  pointwise [k4_pay1, ofBits_zero]

theorem dDown_prod (a : FVec Ideal S2048x2048 .bf16) (b : FVec Ideal S512x2048 .bf16) (p : Fin 2048) (q : Fin 512) :
    k5_pay1 (F := Ideal) a b (ix2 p q) = ∑ k : Fin 2048, a (ix2 p k) * b (ix2 q k) := by
  pointwise [k5_pay1, ofBits_zero]

theorem dDown_gate (a : FVec Ideal S2048x2048 .bf16) (b : FVec Ideal S512x2048 .bf16) (s : FVec Ideal S2048x512 .bf16)
    (p : Fin 2048) (q : Fin 512) :
    k5_pay2 (F := Ideal) a b s (ix2 p q) = (∑ k : Fin 2048, a (ix2 p k) * b (ix2 q k)) * s (ix2 p q) := by
  pointwise [k5_pay2, k5_pay1, ofBits_zero]

theorem dDown_up (a : FVec Ideal S2048x2048 .bf16) (b : FVec Ideal S512x2048 .bf16) (s : FVec Ideal S2048x512 .bf16)
    (p : Fin 2048) (q : Fin 512) :
    k5_pay3 (F := Ideal) a b s (ix2 p q) = (∑ k : Fin 2048, a (ix2 p k) * b (ix2 q k)) * s (ix2 p q) := by
  pointwise [k5_pay3, k5_pay1, ofBits_zero]

theorem gwGate_prod (a : FVec Ideal S4096x1408 .bf16) (b : FVec Ideal S4096x1024 .bf16) (p : Fin 1408) (q : Fin 1024) :
    k6_pay1 (F := Ideal) a b (ix2 p q) = ∑ k : Fin 4096, a (ix2 k p) * b (ix2 k q) := by
  pointwise [k6_pay1, ofBits_zero]

theorem gwUp_prod (a : FVec Ideal S4096x1408 .bf16) (b : FVec Ideal S4096x1024 .bf16) (p : Fin 1408) (q : Fin 1024) :
    k7_pay1 (F := Ideal) a b (ix2 p q) = ∑ k : Fin 4096, a (ix2 k p) * b (ix2 k q) := by
  pointwise [k7_pay1, ofBits_zero]

theorem dhGate_prod (a : FVec Ideal S1024x5632 .bf16) (b : FVec Ideal S5632x512 .bf16) (p : Fin 1024) (q : Fin 512) :
    k8_pay1 (F := Ideal) a b (ix2 p q) = ∑ k : Fin 5632, a (ix2 p k) * b (ix2 k q) := by
  pointwise [k8_pay1, ofBits_zero]

theorem dhUp_sum (a : FVec Ideal S1024x5632 .bf16) (b : FVec Ideal S5632x512 .bf16) (d : FVec Ideal S1024x512 .f32)
    (p : Fin 1024) (q : Fin 512) :
    k9_pay1 (F := Ideal) a b d (ix2 p q) = d (ix2 p q) + ∑ k : Fin 5632, a (ix2 p k) * b (ix2 k q) := by
  pointwise [k9_pay1, ofBits_zero]

theorem gwOut_prod (a : FVec Ideal S2048x4096 .bf16) (b : FVec Ideal S4096x512 .bf16) (p : Fin 2048) (q : Fin 512) :
    k11_pay1 (F := Ideal) a b (ix2 p q) = ∑ k : Fin 4096, a (ix2 p k) * b (ix2 k q) := by
  pointwise [k11_pay1, ofBits_zero]

/-! ## `mm_d_out`: the norm's backward pass and the product with the projection -/

/-- The reciprocal root mean square of row `p` of the residual stream. -/
def rsOf (x : FVec Ideal S256x2048 .f32) (p : Fin 256) : EReal :=
  Ideal.rsqrt (Ideal.div (∑ c : Fin 2048, x (ix2 p c) * x (ix2 p c)) n2048 + (eps : EReal))

theorem dOut_rs (x : FVec Ideal S256x2048 .f32) (p : Fin 256) : k10_pay7 (F := Ideal) x (ix2 p 0) = rsOf x p := by
  unfold rsOf
  rw [← ofBits_eps, ← ofBits_n2048]
  pointwise [k10_pay7, k10_pay5]

theorem dOut_xh (x : FVec Ideal S256x2048 .f32) (p : Fin 256) (q : Fin 2048) :
    k10_pay8 (F := Ideal) x (ix2 p q) = x (ix2 p q) * rsOf x p := by
  rw [← dOut_rs]
  unfold k10_pay8
  generalize k10_pay7 (F := Ideal) x = v
  pointwise [k10_pay5]

theorem dOut_dG (x d : FVec Ideal S256x2048 .f32) (a : FVec Ideal S1x2048 .f32) (q : Fin 2048) :
    k10_pay9 (F := Ideal) x d a (ix2 0 q) = a (ix2 0 q) + ∑ p : Fin 256, d (ix2 p q) * (x (ix2 p q) * rsOf x p) := by
  simp only [← dOut_xh]
  unfold k10_pay9
  generalize k10_pay8 (F := Ideal) x = v
  pointwise [k10_pay6]

theorem dOut_zero (q : Fin 2048) : k10_pay4 (F := Ideal) (ix2 0 q) = 0 := by
  pointwise [k10_pay4, ofBits_zero]

theorem dOut_inner (x d : FVec Ideal S256x2048 .f32) (g : FVec Ideal S1x2048 .f32) (p : Fin 256) (q : Fin 2048) :
    k10_pay11 (F := Ideal) x d g (ix2 p q)
      = d (ix2 p q) * g (ix2 0 q)
        - x (ix2 p q) * rsOf x p * Ideal.div (∑ c : Fin 2048, d (ix2 p c) * g (ix2 0 c) * (x (ix2 p c) * rsOf x p)) n2048 := by
  simp only [← dOut_xh, ← ofBits_n2048]
  unfold k10_pay11
  generalize k10_pay8 (F := Ideal) x = v
  pointwise [k10_pay6]

theorem dOut_dX2 (x d o : FVec Ideal S256x2048 .f32) (g : FVec Ideal S1x2048 .f32) (p : Fin 256) (q : Fin 2048) :
    k10_pay1 (F := Ideal) (k10_pay7 (F := Ideal) x) (k10_pay10 (F := Ideal) o) (k10_pay11 (F := Ideal) x d g) (ix2 p q)
      = o (ix2 p q) + rsOf x p * (d (ix2 p q) * g (ix2 0 q)
        - x (ix2 p q) * rsOf x p * Ideal.div (∑ c : Fin 2048, d (ix2 p c) * g (ix2 0 c) * (x (ix2 p c) * rsOf x p)) n2048) := by
  rw [← dOut_inner, ← dOut_rs]
  generalize k10_pay11 (F := Ideal) x d g = u
  generalize k10_pay7 (F := Ideal) x = v
  pointwise [k10_pay1, k10_pay10]

theorem dOut_narrow (r : FVec Ideal S256x1 .f32) (o u : FVec Ideal S256x2048 .f32) : k10_pay2 (F := Ideal) r o u = k10_pay1 (F := Ideal) r o u := by
  funext y
  unfold k10_pay2
  generalize k10_pay1 (F := Ideal) r o u = v
  pointwise

theorem dOut_prod (r : FVec Ideal S256x1 .f32) (o u : FVec Ideal S256x2048 .f32) (w : FVec Ideal S2048x2048 .bf16)
    (p : Fin 2048) (q : Fin 256) :
    k10_pay3 (F := Ideal) r o u w (ix2 p q) = ∑ k : Fin 2048, w (ix2 p k) * k10_pay1 (F := Ideal) r o u (ix2 q k) := by
  rw [← dOut_narrow]
  unfold k10_pay3
  generalize k10_pay2 (F := Ideal) r o u = v
  pointwise [ofBits_zero]

end Cert.Tiles

end
-- ==== Proof.Forward.lean ====
module

public import proofs.«01_k».proof.Proof.Gen.FfnIdeal.Frame.Region0
public import proofs.«01_k».proof.Proof.Gen.FfnIdeal.Frame.Region1
public import proofs.«01_k».proof.Proof.Gen.FfnIdeal.Frame.Region2
public import proofs.«01_k».proof.Proof.Tiles
public import Idealize.ShloMosaic.Lib.Pipeline.ValueKit

/-! # The forward calls: what each leaves in its result buffers

Every theorem takes the buffers a call reads as tables of the layer's functions and concludes that the
buffer it fills is the table of the function named. -/

@[expose] public section

set_option maxRecDepth 16384

noncomputable section

namespace Cert.Forward

open Cert.FfnIdeal Cert.FfnIdeal.Gen Cert.Layer Cert.Tiles
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : Layer (Fin 4096) (Fin 2048) (Fin 5632))

/-- Where the blocks of the first call lie: rows of 512. -/
theorem idx0 : ∀ t : Fin cfg0.N, win0_0.index t = ![0, t.val] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- Of the gate's call: rows of 2048 by columns of 512, -/
theorem idx1 : ∀ t : Fin cfg1.N, win1_0.index t = ![t.val / 11, 0] ∧ win1_1.index t = ![t.val % 11, 0]
    ∧ win1_2.index t = ![t.val / 11, t.val % 11] ∧ win1_3.index t = ![t.val / 11, t.val % 11] :=
  (by decide +kernel : ∀ t : Fin grid1.N, _)

/-- and of the up projection's. -/
theorem idx2 : ∀ t : Fin cfg2.N, win2_0.index t = ![t.val / 11, 0] ∧ win2_1.index t = ![t.val % 11, 0]
    ∧ win2_2.index t = ![t.val / 11, t.val % 11] ∧ win2_3.index t = ![t.val / 11, t.val % 11]
    ∧ win2_4.index t = ![t.val / 11, t.val % 11] ∧ win2_5.index t = ![t.val / 11, t.val % 11] :=
  (by decide +kernel : ∀ t : Fin grid2.N, _)

/-! ## The output projection, its residual and the norm -/

section
variable {c : Dev nD} (hY : V c main_v0 = fun i => L.Y (i 0) (i 1)) (hO : V c main_v1 = fun i => L.Wo (i 0) (i 1))
  (hX : V c main_arg1 = fun i => L.X (i 0) (i 1))
include hY hO hX

/-- A tile of the residual stream: the rows `512 t, …`. -/
theorem x2_tile (t : Fin cfg0.N) (p : Fin 512) (q : Fin 2048) (r : Fin 4096) (hr : r.val = t.val * 512 + p.val) :
    k0_pay1 (F := Ideal) (iblk0 V c 0 t) (iblk0 V c 1 t) (iblk0 V c 2 t) (ix2 p q) = L.x2 r q := by
  rw [out_x2]
  unfold Layer.x2
  refine congrArg₂ _ ?_ (Finset.sum_congr rfl fun k _ => congrArg₂ _ ?_ ?_)
  · blk_simp [iblk0, hX]
    refine congrArg₂ _ ?_ ?_ <;> apply Fin.ext <;> blk_simp [idx0, hr]
  · blk_simp [iblk0, hY]
    refine congrArg₂ _ ?_ ?_ <;> apply Fin.ext <;> blk_simp [idx0, hr]
  · blk_simp [iblk0, hO]
    refine congrArg₂ _ ?_ ?_ <;> apply Fin.ext <;> blk_simp [idx0]

/-- The first call leaves the residual stream -/
theorem x2_eq : (dat0 V c).arrAt 4 cfg0.N = fun i : S4096x2048.Idx => L.x2 (i 0) (i 1) := by
  refine (dat0 V c).arrAt_eq_of_covers 4 _ (by decide +kernel) fun t hf y => ?_
  blk_simp
  rw [after0_4]
  frame_out
  idx_vars y
  rw [x2_tile V L hY hO hX t _ _ ((win0_4.blk t).view.emb (ix2 y0 y1) 0) (by blk_simp [idx0])]
  refine congrArg _ (Fin.ext ?_)
  blk_simp [idx0]

/-- and its normalised rows with the gain. -/
theorem h_eq (hε : (L.ε : ℝ) = eps) (hG : V c main_arg2 = fun i => L.G (i 1)) :
    (dat0 V c).arrAt 5 cfg0.N = fun i : S4096x2048.Idx => L.h (i 0) (i 1) := by
  refine (dat0 V c).arrAt_eq_of_covers 5 _ (by decide +kernel) fun t hf y => ?_
  blk_simp
  rw [after0_5]
  frame_out
  idx_vars y
  have hr : ∀ p : Fin 512, t.val * 512 + p.val < 4096 := fun p => by
    have : t.val < 8 := t.isLt
    omega
  rw [out_h _ _ _ _ (fun j => L.x2 ⟨t.val * 512 + (j 0).val, hr (j 0)⟩ (j 1)) (by
    funext j
    idx_vars j
    exact x2_tile V L hY hO hX t _ _ _ rfl), ← hε]
  have e : (win0_5.blk t).view.emb (ix2 y0 y1) 0 = ⟨t.val * 512 + y0.val, hr y0⟩ := by
    apply Fin.ext; blk_simp [idx0]
  have e' : (win0_5.blk t).view.emb (ix2 y0 y1) 1 = y1 := by
    apply Fin.ext; blk_simp [idx0]
  rw [e, e']
  unfold Layer.h Layer.xh Layer.rs Layer.ms
  refine congrArg₂ _ rfl ?_
  blk_simp [iblk0, hG]
  refine congrArg _ (Fin.ext ?_)
  blk_simp [idx0]

end

/-! ## The gate -/

section
variable {c : Dev nD} (hH : V c main_v5_1 = fun i => L.h (i 0) (i 1)) (hW : V c main_v2 = fun i => L.Wg (i 0) (i 1))
include hH hW

/-- A tile of the gate's product. -/
theorem gate_tile (t : Fin cfg1.N) (p : Fin 2048) (q : Fin 512) (r : Fin 4096) (hr : r.val = t.val / 11 * 2048 + p.val)
    (f : Fin 5632) (hf : f.val = t.val % 11 * 512 + q.val) :
    k1_pay1 (F := Ideal) (iblk1 V c 0 t) (iblk1 V c 1 t) (ix2 p q) = L.gate r f := by
  rw [gate_prod]
  refine Finset.sum_congr rfl fun k _ => congrArg₂ _ ?_ ?_
  · blk_simp [iblk1, hH]
    refine congrArg₂ _ ?_ ?_ <;> apply Fin.ext <;> blk_simp [idx1, hr]
  · blk_simp [iblk1, hW]
    refine congrArg₂ _ ?_ ?_ <;> apply Fin.ext <;> blk_simp [idx1, hf]

/-- The gate's call leaves the gate -/
theorem silu_eq : (dat1 V c).arrAt 2 cfg1.N = fun i : S4096x5632.Idx => L.silu (i 0) (i 1) := by
  refine (dat1 V c).arrAt_eq_of_covers 2 _ (by decide +kernel) fun t hf y => ?_
  blk_simp
  rw [after1_2]
  frame_out
  idx_vars y
  exact gate_silu _ _ _ _ _ ((gate_prod _ _ _ _).symm.trans (gate_tile V L hH hW t _ _ ((win1_2.blk t).view.emb (ix2 y0 y1) 0) (by blk_simp [idx1])
    ((win1_2.blk t).view.emb (ix2 y0 y1) 1) (by blk_simp [idx1])))

/-- and its derivative. -/
theorem dsilu_eq : (dat1 V c).arrAt 3 cfg1.N = fun i : S4096x5632.Idx => L.dsilu (i 0) (i 1) := by
  refine (dat1 V c).arrAt_eq_of_covers 3 _ (by decide +kernel) fun t hf y => ?_
  blk_simp
  rw [after1_3]
  frame_out
  idx_vars y
  exact gate_dsilu _ _ _ _ _ ((gate_prod _ _ _ _).symm.trans (gate_tile V L hH hW t _ _ ((win1_3.blk t).view.emb (ix2 y0 y1) 0) (by blk_simp [idx1])
    ((win1_3.blk t).view.emb (ix2 y0 y1) 1) (by blk_simp [idx1])))

end

/-! ## The up projection -/

section
variable {c : Dev nD} (hH : V c main_v5_1 = fun i => L.h (i 0) (i 1)) (hW : V c main_v3 = fun i => L.Wu (i 0) (i 1))
include hH hW

/-- A tile of the up projection. -/
theorem up_tile (t : Fin cfg2.N) (p : Fin 2048) (q : Fin 512) (r : Fin 4096) (hr : r.val = t.val / 11 * 2048 + p.val)
    (f : Fin 5632) (hf : f.val = t.val % 11 * 512 + q.val) :
    k2_pay1 (F := Ideal) (iblk2 V c 0 t) (iblk2 V c 1 t) (ix2 p q) = L.up r f := by
  rw [up_prod]
  refine Finset.sum_congr rfl fun k _ => congrArg₂ _ ?_ ?_
  · blk_simp [iblk2, hH]
    refine congrArg₂ _ ?_ ?_ <;> apply Fin.ext <;> blk_simp [idx2, hr]
  · blk_simp [iblk2, hW]
    refine congrArg₂ _ ?_ ?_ <;> apply Fin.ext <;> blk_simp [idx2, hf]

/-- The up projection's call leaves the hidden layer -/
theorem hid_eq (hS : V c main_v6_0 = fun i => L.silu (i 0) (i 1)) :
    (dat2 V c).arrAt 4 cfg2.N = fun i : S4096x5632.Idx => L.hid (i 0) (i 1) := by
  refine (dat2 V c).arrAt_eq_of_covers 4 _ (by decide +kernel) fun t hf y => ?_
  blk_simp
  rw [after2_4]
  frame_out
  idx_vars y
  refine (up_hid _ _ _ _ _).trans (congrArg₂ _ ?_ ((up_prod _ _ _ _).symm.trans
    (up_tile V L hH hW t _ _ ((win2_4.blk t).view.emb (ix2 y0 y1) 0) (by blk_simp [idx2]) ((win2_4.blk t).view.emb (ix2 y0 y1) 1) (by blk_simp [idx2]))))
  blk_simp [iblk2, hS]
  refine congrArg₂ _ ?_ ?_ <;> apply Fin.ext <;> blk_simp [idx2]

/-- and the gate's derivative times the up projection. -/
theorem dsiluUp_eq (hS : V c main_v6_1 = fun i => L.dsilu (i 0) (i 1)) :
    (dat2 V c).arrAt 5 cfg2.N = fun i : S4096x5632.Idx => L.dsiluUp (i 0) (i 1) := by
  refine (dat2 V c).arrAt_eq_of_covers 5 _ (by decide +kernel) fun t hf y => ?_
  blk_simp
  rw [after2_5]
  frame_out
  idx_vars y
  refine (up_dhid _ _ _ _ _).trans (congrArg₂ _ ?_ ((up_prod _ _ _ _).symm.trans
    (up_tile V L hH hW t _ _ ((win2_5.blk t).view.emb (ix2 y0 y1) 0) (by blk_simp [idx2]) ((win2_5.blk t).view.emb (ix2 y0 y1) 1) (by blk_simp [idx2]))))
  blk_simp [iblk2, hS]
  refine congrArg₂ _ ?_ ?_ <;> apply Fin.ext <;> blk_simp [idx2]

end

end Cert.Forward

end
-- ==== Proof.Down.lean ====
module

public import proofs.«01_k».proof.Proof.Gen.FfnIdeal.Frame.Region3
public import proofs.«01_k».proof.Proof.Tiles
public import Idealize.ShloMosaic.Lib.Pipeline.ValueKit

/-! # The down projection: the loss and the gradient at the output

The call multiplies the hidden layer by the down projection's weight, adds the residual stream and takes
the target away. What it leaves is the error over 2048, and each block's summed squares. -/

@[expose] public section

set_option maxRecDepth 16384

noncomputable section

namespace Cert.Down

open Cert.FfnIdeal Cert.FfnIdeal.Gen Cert.Layer Cert.Tiles
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : Layer (Fin 4096) (Fin 2048) (Fin 5632))

/-- Where the blocks of the down projection lie: rows of 1024 by columns of 512. -/
theorem idx3 : ∀ t : Fin cfg3.N, win3_0.index t = ![t.val / 4, 0] ∧ win3_1.index t = ![0, t.val % 4]
    ∧ win3_2.index t = ![t.val / 4, t.val % 4] ∧ win3_3.index t = ![t.val / 4, t.val % 4]
    ∧ win3_4.index t = ![t.val / 4, t.val % 4] ∧ win3_5.index t = ![t.val / 4, t.val % 4]
    ∧ win3_6.index t = ![t.val / 4, t.val % 4] :=
  (by decide +kernel : ∀ t : Fin grid3.N, _)

/-- The summed squares of the error's block of 1024 rows and 512 columns with the numbers `a` and `b`. -/
def blockLoss (a b : ℕ) (ha : a < 4) (hb : b < 4) : EReal :=
  ∑ p : Fin 1024, ∑ q : Fin 512, L.err ⟨a * 1024 + p.val, by omega⟩ ⟨b * 512 + q.val, by omega⟩
    * L.err ⟨a * 1024 + p.val, by omega⟩ ⟨b * 512 + q.val, by omega⟩

section
variable {c : Dev nD} (hU : V c main_v7_0 = fun i => L.hid (i 0) (i 1)) (hW : V c main_v4 = fun i => L.Wd (i 0) (i 1))
  (hX : V c main_v5_0 = fun i => L.x2 (i 0) (i 1)) (hT : V c main_arg7 = fun i => L.T (i 0) (i 1))
include hU hW hX hT

/-- A tile of the error. -/
theorem err_tile (t : Fin cfg3.N) (p : Fin 1024) (q : Fin 512) (r : Fin 4096) (hr : r.val = t.val / 4 * 1024 + p.val)
    (d : Fin 2048) (hd : d.val = t.val % 4 * 512 + q.val) :
    k3_pay1 (F := Ideal) (iblk3 V c 0 t) (iblk3 V c 1 t) (iblk3 V c 2 t) (iblk3 V c 3 t) (ix2 p q) = L.err r d := by
  rw [down_err]
  unfold Layer.err
  refine congrArg₂ _ (congrArg₂ _ ?_ (Finset.sum_congr rfl fun k _ => congrArg₂ _ ?_ ?_)) ?_
  · blk_simp [iblk3, hX]
    refine congrArg₂ _ ?_ ?_ <;> apply Fin.ext <;> blk_simp [idx3, hr, hd]
  · blk_simp [iblk3, hU]
    refine congrArg₂ _ ?_ ?_ <;> apply Fin.ext <;> blk_simp [idx3, hr, hd]
  · blk_simp [iblk3, hW]
    refine congrArg₂ _ ?_ ?_ <;> apply Fin.ext <;> blk_simp [idx3, hr, hd]
  · blk_simp [iblk3, hT]
    refine congrArg₂ _ ?_ ?_ <;> apply Fin.ext <;> blk_simp [idx3, hr, hd]

/-- The down projection's call leaves the gradient at the output, -/
theorem dOut_eq : (dat3 V c).arrAt 4 cfg3.N = fun i : S4096x2048.Idx => L.dOut (i 0) (i 1) := by
  refine (dat3 V c).arrAt_eq_of_covers 4 _ (by decide +kernel) fun t hf y => ?_
  blk_simp
  rw [after3_4]
  frame_out
  idx_vars y
  rw [down_dOut, ← down_err, err_tile V L hU hW hX hT t _ _ ((win3_4.blk t).view.emb (ix2 y0 y1) 0) (by blk_simp [idx3])
    ((win3_4.blk t).view.emb (ix2 y0 y1) 1) (by blk_simp [idx3])]
  rfl

/-- the same for the products that follow, -/
theorem dOut_narrow_eq : (dat3 V c).arrAt 5 cfg3.N = fun i : S4096x2048.Idx => L.dOut (i 0) (i 1) := by
  refine (dat3 V c).arrAt_eq_of_covers 5 _ (by decide +kernel) fun t hf y => ?_
  blk_simp
  rw [after3_5]
  frame_out
  idx_vars y
  rw [down_dOut_narrow, ← down_err, err_tile V L hU hW hX hT t _ _ ((win3_5.blk t).view.emb (ix2 y0 y1) 0) (by blk_simp [idx3])
    ((win3_5.blk t).view.emb (ix2 y0 y1) 1) (by blk_simp [idx3])]
  rfl

/-- A block's loss is the summed squares of its errors. -/
theorem loss_tile (t : Fin cfg3.N) (y : S8x128.Idx) (a b : ℕ) (ha : a < 4) (hb : b < 4) (hta : a = t.val / 4) (htb : b = t.val % 4) :
    k3_pay4 (F := Ideal) (iblk3 V c 0 t) (iblk3 V c 1 t) (iblk3 V c 2 t) (iblk3 V c 3 t) y = blockLoss L a b ha hb := by
  rw [down_loss _ _ _ _ _ rfl]
  refine Finset.sum_congr rfl fun p _ => Finset.sum_congr rfl fun q _ => ?_
  rw [err_tile V L hU hW hX hT t p q ⟨a * 1024 + p.val, by omega⟩ (by simp only [hta]) ⟨b * 512 + q.val, by omega⟩ (by simp only [htb])]

/-- and a block's summed squares in each of the block's 8 × 128 cells. -/
theorem loss_eq : (dat3 V c).arrAt 6 cfg3.N = fun i : S32x512.Idx =>
    blockLoss L ((i 0).val / 8) ((i 1).val / 128) (by have : (i 0).val < 32 := (i 0).isLt; omega)
      (by have : (i 1).val < 512 := (i 1).isLt; omega) := by
  refine (dat3 V c).arrAt_eq_of_covers 6 _ (by decide +kernel) fun t hf y => ?_
  blk_simp
  rw [after3_6]
  frame_out
  refine loss_tile V L hU hW hX hT t y _ _ _ _ ?_ ?_
  · idx_bounds y
    blk_simp [idx3]; omega
  · idx_bounds y
    blk_simp [idx3]; omega

end

end Cert.Down

end
-- ==== Proof.Hidden.lean ====
module

public import proofs.«01_k».proof.Proof.Gen.FfnIdeal.Frame.Region5
public import proofs.«01_k».proof.Proof.Gen.FfnIdeal.Frame.Region8
public import proofs.«01_k».proof.Proof.Gen.FfnIdeal.Frame.Region9
public import proofs.«01_k».proof.Proof.Tiles
public import Idealize.ShloMosaic.Lib.Pipeline.ValueKit

/-! # The gradients through the hidden layer

The gradient at the output is multiplied back through the down projection, split at the gate, and brought
back to the normalised row through the gate's and the up projection's weights. -/

@[expose] public section

set_option maxRecDepth 16384

noncomputable section

namespace Cert.Hidden

open Cert.FfnIdeal Cert.FfnIdeal.Gen Cert.Layer Cert.Tiles
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : Layer (Fin 4096) (Fin 2048) (Fin 5632))

/-- Where the blocks of the down projection's backward pass lie: rows of 2048 by columns of 512, -/
theorem idx5 : ∀ t : Fin cfg5.N, win5_0.index t = ![t.val / 11, 0] ∧ win5_1.index t = ![t.val % 11, 0]
    ∧ win5_2.index t = ![t.val / 11, t.val % 11] ∧ win5_3.index t = ![t.val / 11, t.val % 11]
    ∧ win5_4.index t = ![t.val / 11, t.val % 11] ∧ win5_5.index t = ![t.val / 11, t.val % 11] :=
  (by decide +kernel : ∀ t : Fin grid5.N, _)

/-- of the gate's: rows of 1024 by columns of 512, -/
theorem idx8 : ∀ t : Fin cfg8.N, win8_0.index t = ![t.val / 4, 0] ∧ win8_1.index t = ![0, t.val % 4]
    ∧ win8_2.index t = ![t.val / 4, t.val % 4] :=
  (by decide +kernel : ∀ t : Fin grid8.N, _)

/-- and of the up projection's, the same. -/
theorem idx9 : ∀ t : Fin cfg9.N, win9_0.index t = ![t.val / 4, 0] ∧ win9_1.index t = ![0, t.val % 4]
    ∧ win9_2.index t = ![t.val / 4, t.val % 4] ∧ win9_3.index t = ![t.val / 4, t.val % 4] :=
  (by decide +kernel : ∀ t : Fin grid9.N, _)

/-! What each point leaves in its blocks: the body's result on the blocks it reads. -/

theorem out5_gate (c : Dev nD) (t : Fin cfg5.N) :
    (outsAt5 V c t).1 = k5_pay2 (F := Ideal) (iblk5 V c 0 t) (iblk5 V c 1 t) (iblk5 V c 2 t) := by
  unfold outsAt5
  frame_out
theorem out5_up (c : Dev nD) (t : Fin cfg5.N) :
    (outsAt5 V c t).2 = k5_pay3 (F := Ideal) (iblk5 V c 0 t) (iblk5 V c 1 t) (iblk5 V c 3 t) := by
  unfold outsAt5
  frame_out
theorem out8 (c : Dev nD) (t : Fin cfg8.N) : outsAt8 V c t = k8_pay1 (F := Ideal) (iblk8 V c 0 t) (iblk8 V c 1 t) := by
  unfold outsAt8
  frame_out

section
variable {c : Dev nD} (hO : V c main_v8_1 = fun i => L.dOut (i 0) (i 1)) (hW : V c main_v4 = fun i => L.Wd (i 0) (i 1))
include hO hW

/-- A tile of the gradient at the hidden layer. -/
theorem dHid_tile (t : Fin cfg5.N) (p : Fin 2048) (q : Fin 512) (r : Fin 4096) (hr : r.val = t.val / 11 * 2048 + p.val)
    (f : Fin 5632) (hf : f.val = t.val % 11 * 512 + q.val) :
    k5_pay1 (F := Ideal) (iblk5 V c 0 t) (iblk5 V c 1 t) (ix2 p q) = L.dHid r f := by
  rw [dDown_prod]
  refine Finset.sum_congr rfl fun k _ => congrArg₂ _ ?_ ?_
  · blk_simp [iblk5, hO]
    refine congrArg₂ _ ?_ ?_ <;> apply Fin.ext <;> blk_simp [idx5, hr]
  · blk_simp [iblk5, hW]
    refine congrArg₂ _ ?_ ?_ <;> apply Fin.ext <;> blk_simp [idx5, hf]

/-- The gradient at the gate's product -/
theorem dGate_eq (hS : V c main_v7_1 = fun i => L.dsiluUp (i 0) (i 1)) :
    (dat5 V c).arrAt 4 cfg5.N = fun i : S4096x5632.Idx => L.dGate (i 0) (i 1) := by
  refine (dat5 V c).arrAt_eq_of_covers 4 _ (by decide +kernel) fun t hf y => ?_
  blk_simp
  rw [after5_4, out5_gate]
  idx_vars y
  refine (dDown_gate _ _ _ _ _).trans (congrArg₂ _ ((dDown_prod _ _ _ _).symm.trans
    (dHid_tile V L hO hW t _ _ ((win5_4.blk t).view.emb (ix2 y0 y1) 0) (by blk_simp [idx5]) ((win5_4.blk t).view.emb (ix2 y0 y1) 1) (by blk_simp [idx5]))) ?_)
  blk_simp [iblk5, hS]
  refine congrArg₂ _ ?_ ?_ <;> apply Fin.ext <;> blk_simp [idx5]

/-- and at the up projection's. -/
theorem dUp_eq (hS : V c main_v6_0 = fun i => L.silu (i 0) (i 1)) :
    (dat5 V c).arrAt 5 cfg5.N = fun i : S4096x5632.Idx => L.dUp (i 0) (i 1) := by
  refine (dat5 V c).arrAt_eq_of_covers 5 _ (by decide +kernel) fun t hf y => ?_
  blk_simp
  rw [after5_5, out5_up]
  idx_vars y
  refine (dDown_up _ _ _ _ _).trans (congrArg₂ _ ((dDown_prod _ _ _ _).symm.trans
    (dHid_tile V L hO hW t _ _ ((win5_5.blk t).view.emb (ix2 y0 y1) 0) (by blk_simp [idx5]) ((win5_5.blk t).view.emb (ix2 y0 y1) 1) (by blk_simp [idx5]))) ?_)
  blk_simp [iblk5, hS]
  refine congrArg₂ _ ?_ ?_ <;> apply Fin.ext <;> blk_simp [idx5]

end

/-- The gate's share of the gradient at the normalised row. -/
theorem dhGate_eq {c : Dev nD} (hD : V c main_v13_0 = fun i => L.dGate (i 0) (i 1)) (hW : V c main_v2 = fun i => L.Wg (i 0) (i 1)) :
    (dat8 V c).arrAt 2 cfg8.N = fun i : S4096x2048.Idx => ∑ f, L.dGate (i 0) f * L.Wg f (i 1) := by
  refine (dat8 V c).arrAt_eq_of_covers 2 _ (by decide +kernel) fun t hf y => ?_
  blk_simp
  rw [after8_2, out8]
  idx_vars y
  refine (dhGate_prod _ _ _ _).trans (Finset.sum_congr rfl fun k _ => congrArg₂ _ ?_ ?_)
  · blk_simp [iblk8, hD]
    refine congrArg₂ _ ?_ ?_ <;> apply Fin.ext <;> blk_simp [idx8]
  · blk_simp [iblk8, hW]
    refine congrArg₂ _ ?_ ?_ <;> apply Fin.ext <;> blk_simp [idx8]

/-- With the up projection's share: the gradient at the normalised row. -/
theorem dH_eq {c : Dev nD} (hD : V c main_v13_1 = fun i => L.dUp (i 0) (i 1)) (hW : V c main_v3 = fun i => L.Wu (i 0) (i 1))
    (hS : V c main_v16 = fun i => ∑ f, L.dGate (i 0) f * L.Wg f (i 1)) :
    (dat9 V c).arrAt 3 cfg9.N = fun i : S4096x2048.Idx => L.dH (i 0) (i 1) := by
  refine (dat9 V c).arrAt_eq_of_covers 3 _ (by decide +kernel) fun t hf y => ?_
  blk_simp
  rw [after9_3]
  frame_out
  idx_vars y
  refine (dhUp_sum _ _ _ _ _).trans (congrArg₂ _ ?_ (Finset.sum_congr rfl fun k _ => congrArg₂ _ ?_ ?_))
  · blk_simp [iblk9, hS]
    refine congrArg₂ (fun r d => ∑ f, L.dGate r f * L.Wg f d) ?_ ?_ <;> apply Fin.ext <;> blk_simp [idx9]
  · blk_simp [iblk9, hD]
    refine congrArg₂ _ ?_ ?_ <;> apply Fin.ext <;> blk_simp [idx9]
  · blk_simp [iblk9, hW]
    refine congrArg₂ _ ?_ ?_ <;> apply Fin.ext <;> blk_simp [idx9]

end Cert.Hidden

end
-- ==== Proof.Weights.lean ====
module

public import proofs.«01_k».proof.Proof.Gen.FfnIdeal.Frame.Region4
public import proofs.«01_k».proof.Proof.Gen.FfnIdeal.Frame.Region6
public import proofs.«01_k».proof.Proof.Gen.FfnIdeal.Frame.Region7
public import proofs.«01_k».proof.Proof.Gen.FfnIdeal.Frame.Region11
public import proofs.«01_k».proof.Proof.Tiles
public import Idealize.ShloMosaic.Lib.Pipeline.ValueKit

/-! # The weights' gradients

Each is a product summed over the 4096 rows of the batch. -/

@[expose] public section

set_option maxRecDepth 16384

noncomputable section

namespace Cert.Weights

open Cert.FfnIdeal Cert.FfnIdeal.Gen Cert.Layer Cert.Tiles
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : Layer (Fin 4096) (Fin 2048) (Fin 5632))

/-- Where the blocks of the weights' gradients lie: rows of 1408 by columns of 1024, -/
theorem idx4 : ∀ t : Fin cfg4.N, win4_0.index t = ![0, t.val / 2] ∧ win4_1.index t = ![0, t.val % 2]
    ∧ win4_2.index t = ![t.val / 2, t.val % 2] :=
  (by decide +kernel : ∀ t : Fin grid4.N, _)
theorem idx6 : ∀ t : Fin cfg6.N, win6_0.index t = ![0, t.val / 2] ∧ win6_1.index t = ![0, t.val % 2]
    ∧ win6_2.index t = ![t.val / 2, t.val % 2] :=
  (by decide +kernel : ∀ t : Fin grid6.N, _)
theorem idx7 : ∀ t : Fin cfg7.N, win7_0.index t = ![0, t.val / 2] ∧ win7_1.index t = ![0, t.val % 2]
    ∧ win7_2.index t = ![t.val / 2, t.val % 2] :=
  (by decide +kernel : ∀ t : Fin grid7.N, _)

/-- and of the output projection's: all rows by columns of 512. -/
theorem idx11 : ∀ t : Fin cfg11.N, win11_0.index t = ![0, 0] ∧ win11_1.index t = ![0, t.val]
    ∧ win11_2.index t = ![0, t.val] :=
  (by decide +kernel : ∀ t : Fin grid11.N, _)

/-! What each point leaves in its block: the body's result on the blocks it reads. -/

theorem out7 (c : Dev nD) (t : Fin cfg7.N) : outsAt7 V c t = k7_pay1 (F := Ideal) (iblk7 V c 0 t) (iblk7 V c 1 t) := by
  unfold outsAt7
  frame_out
theorem out11 (c : Dev nD) (t : Fin cfg11.N) : outsAt11 V c t = k11_pay1 (F := Ideal) (iblk11 V c 0 t) (iblk11 V c 1 t) := by
  unfold outsAt11
  frame_out

/-- The down projection's gradient. -/
theorem dWd_eq {c : Dev nD} (hU : V c main_v7_0 = fun i => L.hid (i 0) (i 1)) (hO : V c main_v8_1 = fun i => L.dOut (i 0) (i 1)) :
    (dat4 V c).arrAt 2 cfg4.N = fun i : S5632x2048.Idx => L.dWd (i 0) (i 1) := by
  refine (dat4 V c).arrAt_eq_of_covers 2 _ (by decide +kernel) fun t hf y => ?_
  blk_simp
  rw [after4_2]
  frame_out
  idx_vars y
  refine (gwDown_prod _ _ _ _).trans (Finset.sum_congr rfl fun k _ => congrArg₂ _ ?_ ?_)
  · blk_simp [iblk4, hU]
    refine congrArg₂ _ ?_ ?_ <;> apply Fin.ext <;> blk_simp [idx4]
  · blk_simp [iblk4, hO]
    refine congrArg₂ _ ?_ ?_ <;> apply Fin.ext <;> blk_simp [idx4]

/-- The gate's. -/
theorem dWg_eq {c : Dev nD} (hD : V c main_v13_0 = fun i => L.dGate (i 0) (i 1)) (hH : V c main_v5_1 = fun i => L.h (i 0) (i 1)) :
    (dat6 V c).arrAt 2 cfg6.N = fun i : S5632x2048.Idx => L.dWg (i 0) (i 1) := by
  refine (dat6 V c).arrAt_eq_of_covers 2 _ (by decide +kernel) fun t hf y => ?_
  blk_simp
  rw [after6_2]
  frame_out
  idx_vars y
  refine (gwGate_prod _ _ _ _).trans (Finset.sum_congr rfl fun k _ => congrArg₂ _ ?_ ?_)
  · blk_simp [iblk6, hD]
    refine congrArg₂ _ ?_ ?_ <;> apply Fin.ext <;> blk_simp [idx6]
  · blk_simp [iblk6, hH]
    refine congrArg₂ _ ?_ ?_ <;> apply Fin.ext <;> blk_simp [idx6]

/-- The up projection's. -/
theorem dWu_eq {c : Dev nD} (hD : V c main_v13_1 = fun i => L.dUp (i 0) (i 1)) (hH : V c main_v5_1 = fun i => L.h (i 0) (i 1)) :
    (dat7 V c).arrAt 2 cfg7.N = fun i : S5632x2048.Idx => L.dWu (i 0) (i 1) := by
  refine (dat7 V c).arrAt_eq_of_covers 2 _ (by decide +kernel) fun t hf y => ?_
  blk_simp
  rw [after7_2, out7]
  idx_vars y
  refine (gwUp_prod _ _ _ _).trans (Finset.sum_congr rfl fun k _ => congrArg₂ _ ?_ ?_)
  · blk_simp [iblk7, hD]
    refine congrArg₂ _ ?_ ?_ <;> apply Fin.ext <;> blk_simp [idx7]
  · blk_simp [iblk7, hH]
    refine congrArg₂ _ ?_ ?_ <;> apply Fin.ext <;> blk_simp [idx7]

/-- The output projection's. -/
theorem dWo_eq {c : Dev nD} (hY : V c main_v0 = fun i => L.Y (i 0) (i 1)) (hD : V c main_v18_2 = fun i => L.dX2 (i 0) (i 1)) :
    (dat11 V c).arrAt 2 cfg11.N = fun i : S2048x2048.Idx => L.dWo (i 0) (i 1) := by
  refine (dat11 V c).arrAt_eq_of_covers 2 _ (by decide +kernel) fun t hf y => ?_
  blk_simp
  rw [after11_2, out11]
  idx_vars y
  refine (gwOut_prod _ _ _ _).trans (Finset.sum_congr rfl fun k _ => congrArg₂ _ ?_ ?_)
  · blk_simp [iblk11, hY]
    refine congrArg₂ _ ?_ ?_ <;> apply Fin.ext <;> blk_simp [idx11]
  · blk_simp [iblk11, hD]
    refine congrArg₂ _ ?_ ?_ <;> apply Fin.ext <;> blk_simp [idx11]

end Cert.Weights

end
-- ==== Proof.Out.lean ====
module

public import proofs.«01_k».proof.Proof.Gen.FfnIdeal.Frame.Region10
public import proofs.«01_k».proof.Proof.Tiles
public import Idealize.ShloMosaic.Lib.Pipeline.ValueKit

/-! # The norm's backward pass and the output projection's

The call takes 256 rows at a time: it brings the gradient at the normalised rows back through the norm, adds
the gradient that came past the feed-forward part, multiplies by the output projection's weight, and adds
the rows' share of the gain's gradient to a row it keeps. -/

@[expose] public section

set_option maxRecDepth 16384

noncomputable section

namespace Cert.Out

open Cert.FfnIdeal Cert.FfnIdeal.Gen Cert.Layer Cert.Tiles
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : Layer (Fin 4096) (Fin 2048) (Fin 5632))

/-- Where the call's blocks lie: rows of 256. -/
theorem idx10 : ∀ t : Fin cfg10.N, win10_0.index t = ![0, 0] ∧ win10_1.index t = ![t.val, 0] ∧ win10_2.index t = ![t.val, 0]
    ∧ win10_3.index t = ![0, 0] ∧ win10_4.index t = ![t.val, 0] ∧ win10_5.index t = ![0, t.val] ∧ win10_6.index t = ![t.val, 0]
    ∧ win10_7.index t = ![t.val, 0] :=
  (by decide +kernel : ∀ t : Fin grid10.N, _)

/-! What each point leaves in its blocks: the body's results on the blocks it reads. -/

theorem out10_dY (c : Dev nD) (t : Fin cfg10.N) : (outsAt10 V c t.val t.isLt).1
    = k10_pay3 (F := Ideal) (k10_pay7 (iblk10 V c 2 t)) (k10_pay10 (iblk10 V c 4 t))
        (k10_pay11 (iblk10 V c 2 t) (iblk10 V c 1 t) (iblk10 V c 3 t)) (iblk10 V c 0 t) := by
  by_cases h : t.val % 16 = 0
  · rw [outsAt10_A V c t h]
    dsimp only
    frame_out
  · rw [outsAt10_B V c t h]
    dsimp only
    frame_out
theorem out10_dX2 (c : Dev nD) (t : Fin cfg10.N) : (outsAt10 V c t.val t.isLt).2.1
    = k10_pay1 (F := Ideal) (k10_pay7 (iblk10 V c 2 t)) (k10_pay10 (iblk10 V c 4 t))
        (k10_pay11 (iblk10 V c 2 t) (iblk10 V c 1 t) (iblk10 V c 3 t)) := by
  by_cases h : t.val % 16 = 0
  · rw [outsAt10_A V c t h]
    dsimp only
    frame_out
  · rw [outsAt10_B V c t h]
    dsimp only
    frame_out
theorem out10_narrow (c : Dev nD) (t : Fin cfg10.N) : (outsAt10 V c t.val t.isLt).2.2.1
    = k10_pay2 (F := Ideal) (k10_pay7 (iblk10 V c 2 t)) (k10_pay10 (iblk10 V c 4 t))
        (k10_pay11 (iblk10 V c 2 t) (iblk10 V c 1 t) (iblk10 V c 3 t)) := by
  by_cases h : t.val % 16 = 0
  · rw [outsAt10_A V c t h]
    dsimp only
    frame_out
  · rw [outsAt10_B V c t h]
    dsimp only
    frame_out

/-- The gain's row starts from nothing -/
theorem out10_first (c : Dev nD) (t : Fin cfg10.N) (h : t.val % 16 = 0) : (outsAt10 V c t.val t.isLt).2.2.2
    = k10_pay9 (F := Ideal) (iblk10 V c 2 t) (iblk10 V c 1 t) (k10_pay4 (F := Ideal)) := by
  rw [outsAt10_A V c t h]
  dsimp only
  frame_out

/-- and each point adds its rows' share. -/
theorem out10_next (c : Dev nD) (t : Fin cfg10.N) (h : ¬t.val % 16 = 0) : (outsAt10 V c t.val t.isLt).2.2.2
    = k10_pay9 (F := Ideal) (iblk10 V c 2 t) (iblk10 V c 1 t) (outsAt10 V c (t.val - 1) (Nat.lt_of_le_of_lt (Nat.sub_le _ _) t.isLt)).2.2.2 := by
  rw [outsAt10_B V c t h]
  dsimp only
  frame_out

/-! ## At the layer's functions -/

section
variable {c : Dev nD} (hε : (L.ε : ℝ) = eps) (hX : V c main_v5_0 = fun i => L.x2 (i 0) (i 1)) (hD : V c main_v17 = fun i => L.dH (i 0) (i 1))
include hX

/-- A block of the residual stream. -/
theorem x2_blk (t : Fin cfg10.N) (p : Fin 256) (q : Fin 2048) (r : Fin 4096) (hr : r.val = t.val * 256 + p.val) :
    (iblk10 V c 2 t : FVec Ideal S256x2048 .f32) (ix2 p q) = L.x2 r q := by
  blk_simp [iblk10, hX]
  refine congrArg₂ _ ?_ ?_ <;> apply Fin.ext <;> blk_simp [idx10, hr]

include hε in
/-- Its rows' reciprocal root mean squares. -/
theorem rs_blk (t : Fin cfg10.N) (p : Fin 256) (r : Fin 4096) (hr : r.val = t.val * 256 + p.val) :
    rsOf (iblk10 V c 2 t) p = L.rs r := by
  unfold rsOf Layer.rs Layer.ms
  rw [hε]
  simp only [x2_blk V L hX t p _ r hr]

include hD

omit hX in
/-- A block of the gradient at the normalised row. -/
theorem dH_blk (t : Fin cfg10.N) (p : Fin 256) (q : Fin 2048) (r : Fin 4096) (hr : r.val = t.val * 256 + p.val) :
    (iblk10 V c 1 t : FVec Ideal S256x2048 .f32) (ix2 p q) = L.dH r q := by
  blk_simp [iblk10, hD]
  refine congrArg₂ _ ?_ ?_ <;> apply Fin.ext <;> blk_simp [idx10, hr]

/-- The row `p` of point `t`'s block. -/
def row (t : Fin cfg10.N) (p : Fin 256) : Fin 4096 := ⟨t.val * 256 + p.val, by have : t.val < 16 := t.isLt; omega⟩

include hε in
/-- The gain's gradient: every row's share. -/
theorem dG_eq : (dat10 V c).arrAt 8 cfg10.N = fun i : S1x2048.Idx => L.dG (i 1) := by
  refine (dat10 V c).arrAt_eq_of_after_last 8 (⟨15, by decide⟩ : Fin grid10.N) (by decide +kernel) _ fun j => ?_
  refine Eq.trans (b := (outsAt10 V c 15 (by decide)).2.2.2 j) ?_ ?_
  · exact congrFun (after10_8 V c ⟨15, by decide⟩) j
  idx_vars j
  obtain rfl : j0 = 0 := Subsingleton.elim _ _
  have key := Pipeline.eq_sum_fin_of_reset_step_apply_last (N := cfg10.N) (fun n hn (q : Fin 2048) => (outsAt10 V c n hn).2.2.2 (ix2 0 q)) 16 0
    (fun t q => ∑ p : Fin 256, L.dH (row t p) q * L.xh (row t p) q)
    (fun t h q => by
      refine (congrFun (out10_first V c t h) _).trans ?_
      rw [dOut_dG, dOut_zero]
      refine congrArg₂ _ rfl (Finset.sum_congr rfl fun p _ => ?_)
      rw [dH_blk V L hD t p q (row t p) rfl, x2_blk V L hX t p q (row t p) rfl, rs_blk V L hε hX t p (row t p) rfl]
      rfl)
    (fun t h q => by
      refine (congrFun (out10_next V c t h) _).trans ?_
      rw [dOut_dG]
      refine congrArg₂ _ rfl (Finset.sum_congr rfl fun p _ => ?_)
      rw [dH_blk V L hD t p q (row t p) rfl, x2_blk V L hX t p q (row t p) rfl, rs_blk V L hε hX t p (row t p) rfl]
      rfl)
    (by decide) ⟨15, by decide⟩ rfl j1
  refine key.trans ((zero_add _).trans ?_)
  exact Fin.sum_mul_add_fin (L := 4096) 16 256 fun r => L.dH r j1 * L.xh r j1

variable (hG : V c main_arg2 = fun i => L.G (i 1)) (hO : V c main_v8_0 = fun i => L.dOut (i 0) (i 1))
include hε hG hO

/-- A tile of the gradient at the residual stream. -/
theorem dX2_tile (t : Fin cfg10.N) (p : Fin 256) (q : Fin 2048) (r : Fin 4096) (hr : r.val = t.val * 256 + p.val) :
    k10_pay1 (F := Ideal) (k10_pay7 (iblk10 V c 2 t)) (k10_pay10 (iblk10 V c 4 t))
        (k10_pay11 (iblk10 V c 2 t) (iblk10 V c 1 t) (iblk10 V c 3 t)) (ix2 p q) = L.dX2 r q := by
  have g : ∀ q : Fin 2048, (iblk10 V c 3 t : FVec Ideal S1x2048 .f32) (ix2 0 q) = L.G q := fun q => by
    blk_simp [iblk10, hG]
    refine congrArg _ (Fin.ext ?_)
    blk_simp [idx10]
  have o : (iblk10 V c 4 t : FVec Ideal S256x2048 .f32) (ix2 p q) = L.dOut r q := by
    blk_simp [iblk10, hO]
    refine congrArg₂ _ ?_ ?_ <;> apply Fin.ext <;> blk_simp [idx10, hr]
  rw [dOut_dX2, rs_blk V L hε hX t p r hr, o]
  simp only [dH_blk V L hD t p _ r hr, x2_blk V L hX t p _ r hr, g]
  rfl

/-- The gradient at the residual stream, -/
theorem dX2_eq : (dat10 V c).arrAt 6 cfg10.N = fun i : S4096x2048.Idx => L.dX2 (i 0) (i 1) := by
  refine (dat10 V c).arrAt_eq_of_covers 6 _ (by decide +kernel) fun t hf y => ?_
  blk_simp
  rw [after10_6, out10_dX2]
  idx_vars y
  rw [dX2_tile V L hε hX hD hG hO t _ _ ((win10_6.blk t).view.emb (ix2 y0 y1) 0) (by blk_simp [idx10])]
  refine congrArg _ (Fin.ext ?_)
  blk_simp [idx10]

/-- the same for the product that follows, -/
theorem dX2_narrow_eq : (dat10 V c).arrAt 7 cfg10.N = fun i : S4096x2048.Idx => L.dX2 (i 0) (i 1) := by
  refine (dat10 V c).arrAt_eq_of_covers 7 _ (by decide +kernel) fun t hf y => ?_
  blk_simp
  rw [after10_7, out10_narrow, dOut_narrow]
  idx_vars y
  rw [dX2_tile V L hε hX hD hG hO t _ _ ((win10_7.blk t).view.emb (ix2 y0 y1) 0) (by blk_simp [idx10])]
  refine congrArg _ (Fin.ext ?_)
  blk_simp [idx10]

/-- and the gradient of the mixer's output. -/
theorem dY_eq (hW : V c main_v1 = fun i => L.Wo (i 0) (i 1)) :
    (dat10 V c).arrAt 5 cfg10.N = fun i : S2048x4096.Idx => L.dY (i 0) (i 1) := by
  refine (dat10 V c).arrAt_eq_of_covers 5 _ (by decide +kernel) fun t hf y => ?_
  blk_simp
  rw [after10_5, out10_dY]
  idx_vars y
  refine (dOut_prod _ _ _ _ _ _).trans (Finset.sum_congr rfl fun k _ => congrArg₂ _ ?_ ?_)
  · blk_simp [iblk10, hW]
    refine congrArg₂ _ ?_ ?_ <;> apply Fin.ext <;> blk_simp [idx10]
  · exact dX2_tile V L hε hX hD hG hO t _ _ ((win10_5.blk t).view.emb (ix2 y0 y1) 1) (by blk_simp [idx10])

end

end Cert.Out

end
-- ==== Proof.Chain.lean ====
module

public import proofs.«01_k».proof.Proof.Gen.FfnIdeal.Frame
public import proofs.«01_k».proof.Proof.Forward
public import proofs.«01_k».proof.Proof.Down
public import proofs.«01_k».proof.Proof.Hidden
public import proofs.«01_k».proof.Proof.Weights
public import proofs.«01_k».proof.Proof.Out

/-! # From call to call: what the program's buffers hold at the end

The program is twelve calls with two stretches of host operations between. Each buffer is written once, so
what a call leaves is what every later call reads. -/

@[expose] public section

set_option maxRecDepth 16384

noncomputable section

namespace Cert.Chain

open Cert.FfnIdeal Cert.FfnIdeal.Gen Cert.Layer Cert.Tiles
open Idealize.ShloMosaic Idealize.ShloMosaic.TcCoe
open Idealize.ShloMosaic.Pipeline (Dat)
open scoped BigOperators

/-- The layer of the arguments: the mixer's output, the residual stream, the gain, the four weights, the target. -/
def layer (y : S2048x4096.Idx → EReal) (x : S4096x2048.Idx → EReal) (g : S1x2048.Idx → EReal) (wo : S2048x2048.Idx → EReal)
    (wg wu wd : S5632x2048.Idx → EReal) (tg : S4096x2048.Idx → EReal) : Layer (Fin 4096) (Fin 2048) (Fin 5632) where
  Y k r := y (ix2 k r)
  X r c := x (ix2 r c)
  G c := g (ix2 0 c)
  Wo k c := wo (ix2 k c)
  Wg f c := wg (ix2 f c)
  Wu f c := wu (ix2 f c)
  Wd f c := wd (ix2 f c)
  T r c := tg (ix2 r c)
  ε := eps
  hε := eps_pos

variable (m : (ℓ : Loc nD τ sig) → Buf (Elt Ideal) ℓ) (ρ : Dev nD → PrngReg) (c : Dev nD)

/-- The layer of core `c`'s arguments. -/
def layerAt : Layer (Fin 4096) (Fin 2048) (Fin 5632) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The stages -/

/-- The buffers after each stage of the program. -/
def stage : ℕ → Valuation τ sig (Elt Ideal)
  | 0 => W0 m ρ c | 1 => W1 m ρ c | 2 => W2 m ρ c | 3 => W3 m ρ c | 4 => W4 m ρ c | 5 => W5 m ρ c | 6 => W6 m ρ c
  | 7 => W7 m ρ c | 8 => W8 m ρ c | 9 => W9 m ρ c | 10 => W10 m ρ c | 11 => W11 m ρ c | 12 => W12 m ρ c
  | 13 => W13 m ρ c | _ => W14 m ρ c

/-- What the stage after the `n`-th writes. -/
def written : ℕ → List (Ref sig .tc)
  | 0 => hostOps0_W | 1 => [main_v5_0, main_v5_1] | 2 => [main_v6_0, main_v6_1] | 3 => [main_v7_0, main_v7_1]
  | 4 => [main_v8_0, main_v8_1, main_v8_2] | 5 => hostOps4_W | 6 => [main_v12] | 7 => [main_v13_0, main_v13_1]
  | 8 => [main_v14] | 9 => [main_v15] | 10 => [main_v16] | 11 => [main_v17]
  | 12 => [main_v18_0, main_v18_1, main_v18_2, main_v18_3] | _ => [main_v19]

/-- A call's array is a result of its, or is not written: a buffer outside the list is only read. -/
theorem reads_of {n : ℕ} {A : Fin n → Ref sig .tc} {o : Fin n → Bool} {l : List (Ref sig .tc)} {r : Ref sig .tc} (h : r ∉ l)
    (hl : ∀ w, o w = true → A w ∈ l) (w : Fin n) (e : A w = r) : o w = false := by
  cases hw : o w with
  | false => rfl
  | true => exact absurd (e ▸ hl w hw) h

/-- A stage leaves what it does not write. -/
theorem step (n : ℕ) (hn : n < 14) (r : Ref sig .tc) (h : r ∉ written n) :
    stage m ρ c (n + 1) (Proc.devRef .tc r) = stage m ρ c n (Proc.devRef .tc r) := by
  match n, hn, h with
  | 0, _, h => exact W1_of m ρ c r h
  | 1, _, h => exact W2_of m ρ c r (reads_of h (by decide +kernel))
  | 2, _, h => exact W3_of m ρ c r (reads_of h (by decide +kernel))
  | 3, _, h => exact W4_of m ρ c r (reads_of h (by decide +kernel))
  | 4, _, h => exact W5_of m ρ c r (reads_of h (by decide +kernel))
  | 5, _, h => exact W6_of m ρ c r h
  | 6, _, h => exact W7_of m ρ c r (reads_of h (by decide +kernel))
  | 7, _, h => exact W8_of m ρ c r (reads_of h (by decide +kernel))
  | 8, _, h => exact W9_of m ρ c r (reads_of h (by decide +kernel))
  | 9, _, h => exact W10_of m ρ c r (reads_of h (by decide +kernel))
  | 10, _, h => exact W11_of m ρ c r (reads_of h (by decide +kernel))
  | 11, _, h => exact W12_of m ρ c r (reads_of h (by decide +kernel))
  | 12, _, h => exact W13_of m ρ c r (reads_of h (by decide +kernel))
  | 13, _, h => exact W14_of m ρ c r (reads_of h (by decide +kernel))

/-- So does a run of stages. -/
theorem keep (a b : ℕ) (r : Ref sig .tc) (hab : a ≤ b) (hb : b ≤ 14) (h : ∀ n ∈ List.range 14, a ≤ n → n < b → r ∉ written n) :
    stage m ρ c b (Proc.devRef .tc r) = stage m ρ c a (Proc.devRef .tc r) := by
  induction b, hab using Nat.le_induction with
  | base => rfl
  | succ k hk ih =>
    exact (step m ρ c k (by omega) r (h k (List.mem_range.2 (by omega)) hk (Nat.lt_succ_self k))).trans
      (ih (by omega) fun n hn h1 h2 => h n hn h1 (by omega))

/-! ## The arguments, as the calls read them -/

/-- A table of two coordinates is its entries. -/
theorem table {a b : ℕ} (f : (⟨2, ![a, b]⟩ : Shape).Idx → EReal) : f = fun i => f (ix2 (i 0) (i 1)) :=
  funext fun i => congrArg f (eq_ix2 i)

theorem x_at1 : V1 m ρ c main_arg1 = fun i => (layerAt m c).X (i 0) (i 1) :=
  (W1_of m ρ c main_arg1 (by decide)).trans (table _)
theorem t_at1 : V1 m ρ c main_arg7 = fun i => (layerAt m c).T (i 0) (i 1) :=
  (W1_of m ρ c main_arg7 (by decide)).trans (table _)
theorem g_at1 : V1 m ρ c main_arg2 = fun i => (layerAt m c).G (i 1) :=
  (W1_of m ρ c main_arg2 (by decide)).trans (funext fun i => by
    idx_vars i
    obtain rfl : i0 = 0 := Subsingleton.elim _ _
    rfl)
theorem y_at1 : V1 m ρ c main_v0 = fun i => (layerAt m c).Y (i 0) (i 1) := by
  show StableHlo.after hostOps0 (W0 m ρ c) (Proc.devRef .tc main_v0) = _
  entry_read
  exact table _
theorem wo_at1 : V1 m ρ c main_v1 = fun i => (layerAt m c).Wo (i 0) (i 1) := by
  show StableHlo.after hostOps0 (W0 m ρ c) (Proc.devRef .tc main_v1) = _
  entry_read
  exact table _
theorem wg_at1 : V1 m ρ c main_v2 = fun i => (layerAt m c).Wg (i 0) (i 1) := by
  show StableHlo.after hostOps0 (W0 m ρ c) (Proc.devRef .tc main_v2) = _
  entry_read
  exact table _
theorem wu_at1 : V1 m ρ c main_v3 = fun i => (layerAt m c).Wu (i 0) (i 1) := by
  show StableHlo.after hostOps0 (W0 m ρ c) (Proc.devRef .tc main_v3) = _
  entry_read
  exact table _
theorem wd_at1 : V1 m ρ c main_v4 = fun i => (layerAt m c).Wd (i 0) (i 1) := by
  show StableHlo.after hostOps0 (W0 m ρ c) (Proc.devRef .tc main_v4) = _
  entry_read
  exact table _

/-! ## Call by call -/

theorem x2_at2 : V2 m ρ c main_v5_0 = fun i => (layerAt m c).x2 (i 0) (i 1) :=
  (hF0 m ρ c 4).symm.trans (Forward.x2_eq _ _ (y_at1 m ρ c) (wo_at1 m ρ c) (x_at1 m ρ c))
theorem h_at2 : V2 m ρ c main_v5_1 = fun i => (layerAt m c).h (i 0) (i 1) :=
  (hF0 m ρ c 5).symm.trans (Forward.h_eq _ _ (y_at1 m ρ c) (wo_at1 m ρ c) (x_at1 m ρ c) rfl (g_at1 m ρ c))

theorem wg_at2 : V2 m ρ c main_v2 = fun i => (layerAt m c).Wg (i 0) (i 1) :=
  (keep m ρ c 1 2 main_v2 (by decide) (by decide) (by decide)).trans (wg_at1 m ρ c)
theorem silu_at3 : V3 m ρ c main_v6_0 = fun i => (layerAt m c).silu (i 0) (i 1) :=
  (hF1 m ρ c 2).symm.trans (Forward.silu_eq _ _ (h_at2 m ρ c) (wg_at2 m ρ c))
theorem dsilu_at3 : V3 m ρ c main_v6_1 = fun i => (layerAt m c).dsilu (i 0) (i 1) :=
  (hF1 m ρ c 3).symm.trans (Forward.dsilu_eq _ _ (h_at2 m ρ c) (wg_at2 m ρ c))

theorem h_at3 : V3 m ρ c main_v5_1 = fun i => (layerAt m c).h (i 0) (i 1) :=
  (keep m ρ c 2 3 main_v5_1 (by decide) (by decide) (by decide)).trans (h_at2 m ρ c)
theorem wu_at3 : V3 m ρ c main_v3 = fun i => (layerAt m c).Wu (i 0) (i 1) :=
  (keep m ρ c 1 3 main_v3 (by decide) (by decide) (by decide)).trans (wu_at1 m ρ c)
theorem hid_at4 : V4 m ρ c main_v7_0 = fun i => (layerAt m c).hid (i 0) (i 1) :=
  (hF2 m ρ c 4).symm.trans (Forward.hid_eq _ _ (h_at3 m ρ c) (wu_at3 m ρ c) (silu_at3 m ρ c))
theorem dsiluUp_at4 : V4 m ρ c main_v7_1 = fun i => (layerAt m c).dsiluUp (i 0) (i 1) :=
  (hF2 m ρ c 5).symm.trans (Forward.dsiluUp_eq _ _ (h_at3 m ρ c) (wu_at3 m ρ c) (dsilu_at3 m ρ c))

theorem wd_at4 : V4 m ρ c main_v4 = fun i => (layerAt m c).Wd (i 0) (i 1) :=
  (keep m ρ c 1 4 main_v4 (by decide) (by decide) (by decide)).trans (wd_at1 m ρ c)
theorem x2_at4 : V4 m ρ c main_v5_0 = fun i => (layerAt m c).x2 (i 0) (i 1) :=
  (keep m ρ c 2 4 main_v5_0 (by decide) (by decide) (by decide)).trans (x2_at2 m ρ c)
theorem t_at4 : V4 m ρ c main_arg7 = fun i => (layerAt m c).T (i 0) (i 1) :=
  (keep m ρ c 1 4 main_arg7 (by decide) (by decide) (by decide)).trans (t_at1 m ρ c)
theorem dOut_at5 : V5 m ρ c main_v8_0 = fun i => (layerAt m c).dOut (i 0) (i 1) :=
  (hF3 m ρ c 4).symm.trans (Down.dOut_eq _ _ (hid_at4 m ρ c) (wd_at4 m ρ c) (x2_at4 m ρ c) (t_at4 m ρ c))
theorem dOut_narrow_at5 : V5 m ρ c main_v8_1 = fun i => (layerAt m c).dOut (i 0) (i 1) :=
  (hF3 m ρ c 5).symm.trans (Down.dOut_narrow_eq _ _ (hid_at4 m ρ c) (wd_at4 m ρ c) (x2_at4 m ρ c) (t_at4 m ρ c))
theorem loss_at5 : V5 m ρ c main_v8_2 = fun i : S32x512.Idx =>
    Down.blockLoss (layerAt m c) ((i 0).val / 8) ((i 1).val / 128) (by have : (i 0).val < 32 := (i 0).isLt; omega)
      (by have : (i 1).val < 512 := (i 1).isLt; omega) :=
  (hF3 m ρ c 6).symm.trans (Down.loss_eq _ _ (hid_at4 m ρ c) (wd_at4 m ρ c) (x2_at4 m ρ c) (t_at4 m ρ c))

/-! ### The loss: the blocks' sums, one cell of each, added on the host -/

/-- The sixteen blocks are all rows and columns. -/
theorem blocks (L : Layer (Fin 4096) (Fin 2048) (Fin 5632)) :
    ∑ a : Fin 4, ∑ b : Fin 4, Down.blockLoss L a.val b.val a.isLt b.isLt = ∑ r, ∑ d, L.err r d * L.err r d := by
  unfold Down.blockLoss
  rw [← Fin.sum_mul_add_fin 4 1024 fun r => ∑ d, L.err r d * L.err r d]
  refine Finset.sum_congr rfl fun a _ => Finset.sum_comm.trans (Finset.sum_congr rfl fun p _ => ?_)
  exact Fin.sum_mul_add_fin 4 512 fun d => L.err ⟨a.val * 1024 + p.val, by omega⟩ d * L.err ⟨a.val * 1024 + p.val, by omega⟩ d

/-- A block's sum depends on its numbers only. -/
theorem block_congr (L : Layer (Fin 4096) (Fin 2048) (Fin 5632)) {a a' b b' : ℕ} {ha hb ha' hb'} (ea : a = a') (eb : b = b') :
    Down.blockLoss L a b ha hb = Down.blockLoss L a' b' ha' hb' := by
  subst ea eb
  rfl

theorem loss_at6 : V6 m ρ c main_v11 = fun _ => (layerAt m c).lossK := by
  show StableHlo.after hostOps4 (W5 m ρ c) (Proc.devRef .tc main_v11) = _
  entry_read
  funext i
  pointwise [ofBits_zero, ofBits_inv4096]
  unfold Layer.lossK
  refine congrArg _ ((Finset.sum_congr rfl fun a _ => Finset.sum_congr rfl fun b _ => ?_).trans (blocks _))
  refine (congrFun (loss_at5 m ρ c) _).trans (block_congr _ ?_ ?_)
  · exact Nat.mul_div_cancel_left _ (by decide)
  · exact Nat.mul_div_cancel_left _ (by decide)

theorem hid_at6 : V6 m ρ c main_v7_0 = fun i => (layerAt m c).hid (i 0) (i 1) :=
  (keep m ρ c 4 6 main_v7_0 (by decide) (by decide) (by decide)).trans (hid_at4 m ρ c)
theorem dOut_at6 : V6 m ρ c main_v8_1 = fun i => (layerAt m c).dOut (i 0) (i 1) :=
  (keep m ρ c 5 6 main_v8_1 (by decide) (by decide) (by decide)).trans (dOut_narrow_at5 m ρ c)
theorem dWd_at7 : V7 m ρ c main_v12 = fun i => (layerAt m c).dWd (i 0) (i 1) :=
  (hF4 m ρ c 2).symm.trans (Weights.dWd_eq _ _ (hid_at6 m ρ c) (dOut_at6 m ρ c))

theorem dOut_at7 : V7 m ρ c main_v8_1 = fun i => (layerAt m c).dOut (i 0) (i 1) :=
  (keep m ρ c 5 7 main_v8_1 (by decide) (by decide) (by decide)).trans (dOut_narrow_at5 m ρ c)
theorem wd_at7 : V7 m ρ c main_v4 = fun i => (layerAt m c).Wd (i 0) (i 1) :=
  (keep m ρ c 1 7 main_v4 (by decide) (by decide) (by decide)).trans (wd_at1 m ρ c)
theorem dsiluUp_at7 : V7 m ρ c main_v7_1 = fun i => (layerAt m c).dsiluUp (i 0) (i 1) :=
  (keep m ρ c 4 7 main_v7_1 (by decide) (by decide) (by decide)).trans (dsiluUp_at4 m ρ c)
theorem silu_at7 : V7 m ρ c main_v6_0 = fun i => (layerAt m c).silu (i 0) (i 1) :=
  (keep m ρ c 3 7 main_v6_0 (by decide) (by decide) (by decide)).trans (silu_at3 m ρ c)
theorem dGate_at8 : V8 m ρ c main_v13_0 = fun i => (layerAt m c).dGate (i 0) (i 1) :=
  (hF5 m ρ c 4).symm.trans (Hidden.dGate_eq _ _ (dOut_at7 m ρ c) (wd_at7 m ρ c) (dsiluUp_at7 m ρ c))
theorem dUp_at8 : V8 m ρ c main_v13_1 = fun i => (layerAt m c).dUp (i 0) (i 1) :=
  (hF5 m ρ c 5).symm.trans (Hidden.dUp_eq _ _ (dOut_at7 m ρ c) (wd_at7 m ρ c) (silu_at7 m ρ c))

theorem h_at8 : V8 m ρ c main_v5_1 = fun i => (layerAt m c).h (i 0) (i 1) :=
  (keep m ρ c 2 8 main_v5_1 (by decide) (by decide) (by decide)).trans (h_at2 m ρ c)
theorem dWg_at9 : V9 m ρ c main_v14 = fun i => (layerAt m c).dWg (i 0) (i 1) :=
  (hF6 m ρ c 2).symm.trans (Weights.dWg_eq _ _ (dGate_at8 m ρ c) (h_at8 m ρ c))

theorem h_at9 : V9 m ρ c main_v5_1 = fun i => (layerAt m c).h (i 0) (i 1) :=
  (keep m ρ c 2 9 main_v5_1 (by decide) (by decide) (by decide)).trans (h_at2 m ρ c)
theorem dUp_at9 : V9 m ρ c main_v13_1 = fun i => (layerAt m c).dUp (i 0) (i 1) :=
  (keep m ρ c 8 9 main_v13_1 (by decide) (by decide) (by decide)).trans (dUp_at8 m ρ c)
theorem dWu_at10 : V10 m ρ c main_v15 = fun i => (layerAt m c).dWu (i 0) (i 1) :=
  (hF7 m ρ c 2).symm.trans (Weights.dWu_eq _ _ (dUp_at9 m ρ c) (h_at9 m ρ c))

theorem dGate_at10 : V10 m ρ c main_v13_0 = fun i => (layerAt m c).dGate (i 0) (i 1) :=
  (keep m ρ c 8 10 main_v13_0 (by decide) (by decide) (by decide)).trans (dGate_at8 m ρ c)
theorem wg_at10 : V10 m ρ c main_v2 = fun i => (layerAt m c).Wg (i 0) (i 1) :=
  (keep m ρ c 1 10 main_v2 (by decide) (by decide) (by decide)).trans (wg_at1 m ρ c)
theorem dhGate_at11 : V11 m ρ c main_v16 = fun i => ∑ f, (layerAt m c).dGate (i 0) f * (layerAt m c).Wg f (i 1) :=
  (hF8 m ρ c 2).symm.trans (Hidden.dhGate_eq _ _ (dGate_at10 m ρ c) (wg_at10 m ρ c))

theorem dUp_at11 : V11 m ρ c main_v13_1 = fun i => (layerAt m c).dUp (i 0) (i 1) :=
  (keep m ρ c 8 11 main_v13_1 (by decide) (by decide) (by decide)).trans (dUp_at8 m ρ c)
theorem wu_at11 : V11 m ρ c main_v3 = fun i => (layerAt m c).Wu (i 0) (i 1) :=
  (keep m ρ c 1 11 main_v3 (by decide) (by decide) (by decide)).trans (wu_at1 m ρ c)
theorem dH_at12 : V12 m ρ c main_v17 = fun i => (layerAt m c).dH (i 0) (i 1) :=
  (hF9 m ρ c 3).symm.trans (Hidden.dH_eq _ _ (dUp_at11 m ρ c) (wu_at11 m ρ c) (dhGate_at11 m ρ c))

theorem x2_at12 : V12 m ρ c main_v5_0 = fun i => (layerAt m c).x2 (i 0) (i 1) :=
  (keep m ρ c 2 12 main_v5_0 (by decide) (by decide) (by decide)).trans (x2_at2 m ρ c)
theorem g_at12 : V12 m ρ c main_arg2 = fun i => (layerAt m c).G (i 1) :=
  (keep m ρ c 1 12 main_arg2 (by decide) (by decide) (by decide)).trans (g_at1 m ρ c)
theorem dOut_at12 : V12 m ρ c main_v8_0 = fun i => (layerAt m c).dOut (i 0) (i 1) :=
  (keep m ρ c 5 12 main_v8_0 (by decide) (by decide) (by decide)).trans (dOut_at5 m ρ c)
theorem wo_at12 : V12 m ρ c main_v1 = fun i => (layerAt m c).Wo (i 0) (i 1) :=
  (keep m ρ c 1 12 main_v1 (by decide) (by decide) (by decide)).trans (wo_at1 m ρ c)
theorem dY_at13 : V13 m ρ c main_v18_0 = fun i => (layerAt m c).dY (i 0) (i 1) :=
  (hF10 m ρ c 5).symm.trans (Out.dY_eq _ _ rfl (x2_at12 m ρ c) (dH_at12 m ρ c) (g_at12 m ρ c) (dOut_at12 m ρ c) (wo_at12 m ρ c))
theorem dX2_at13 : V13 m ρ c main_v18_1 = fun i => (layerAt m c).dX2 (i 0) (i 1) :=
  (hF10 m ρ c 6).symm.trans (Out.dX2_eq _ _ rfl (x2_at12 m ρ c) (dH_at12 m ρ c) (g_at12 m ρ c) (dOut_at12 m ρ c))
theorem dX2_narrow_at13 : V13 m ρ c main_v18_2 = fun i => (layerAt m c).dX2 (i 0) (i 1) :=
  (hF10 m ρ c 7).symm.trans (Out.dX2_narrow_eq _ _ rfl (x2_at12 m ρ c) (dH_at12 m ρ c) (g_at12 m ρ c) (dOut_at12 m ρ c))
theorem dG_at13 : V13 m ρ c main_v18_3 = fun i => (layerAt m c).dG (i 1) :=
  (hF10 m ρ c 8).symm.trans (Out.dG_eq _ _ rfl (x2_at12 m ρ c) (dH_at12 m ρ c))

theorem y_at13 : V13 m ρ c main_v0 = fun i => (layerAt m c).Y (i 0) (i 1) :=
  (keep m ρ c 1 13 main_v0 (by decide) (by decide) (by decide)).trans (y_at1 m ρ c)
theorem dWo_at14 : V14 m ρ c main_v19 = fun i => (layerAt m c).dWo (i 0) (i 1) :=
  (hF11 m ρ c 2).symm.trans (Weights.dWo_eq _ _ (y_at13 m ρ c) (dX2_narrow_at13 m ρ c))

/-! ## The results at the end -/

theorem loss_end : V14 m ρ c main_v11 = fun _ => (layerAt m c).lossK :=
  (keep m ρ c 6 14 main_v11 (by decide) (by decide) (by decide)).trans (loss_at6 m ρ c)
theorem dWd_end : V14 m ρ c main_v12 = fun i => (layerAt m c).dWd (i 0) (i 1) :=
  (keep m ρ c 7 14 main_v12 (by decide) (by decide) (by decide)).trans (dWd_at7 m ρ c)
theorem dWg_end : V14 m ρ c main_v14 = fun i => (layerAt m c).dWg (i 0) (i 1) :=
  (keep m ρ c 9 14 main_v14 (by decide) (by decide) (by decide)).trans (dWg_at9 m ρ c)
theorem dWu_end : V14 m ρ c main_v15 = fun i => (layerAt m c).dWu (i 0) (i 1) :=
  (keep m ρ c 10 14 main_v15 (by decide) (by decide) (by decide)).trans (dWu_at10 m ρ c)
theorem dG_end : V14 m ρ c main_v18_3 = fun i => (layerAt m c).dG (i 1) :=
  (keep m ρ c 13 14 main_v18_3 (by decide) (by decide) (by decide)).trans (dG_at13 m ρ c)
theorem dY_end : V14 m ρ c main_v18_0 = fun i => (layerAt m c).dY (i 0) (i 1) :=
  (keep m ρ c 13 14 main_v18_0 (by decide) (by decide) (by decide)).trans (dY_at13 m ρ c)
theorem dX2_end : V14 m ρ c main_v18_1 = fun i => (layerAt m c).dX2 (i 0) (i 1) :=
  (keep m ρ c 13 14 main_v18_1 (by decide) (by decide) (by decide)).trans (dX2_at13 m ρ c)

end Cert.Chain

end
-- ==== Proof.Run.lean ====
/-
  THE RUN of the idealized kernel with its results: the launch over the program's segments, and the eight results read
  off the contents the program ends with (`Chain`).
-/
module

public import proofs.«01_k».proof.Proof.Gen.FfnIdeal.Frame
public import proofs.«01_k».proof.Proof.Chain

@[expose] public section

set_option maxRecDepth 16384

noncomputable section

namespace Cert.Run

open Cert.FfnIdeal Cert.FfnIdeal.Gen Cert.Layer Cert.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with the statement, which takes unfolding plain
-- definitions in a metavariable's type
set_option backward.isDefEq.respectTransparency.types false in
/-- Every fair execution of the idealized kernel ends, with every unscoped buffer of every device holding what the
    program's segments leave in it. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c b hb => h c b hb)

/-- The eight results at the end of the run, in the words of the layer, and the arguments as launched. -/
theorem results : θ_run defs (onTc (τ := τ) (main (F := Ideal))) ⟨m, fun _ => 0, ρ⟩ (fun r => ∀ c : Dev nD,
      r.2.mem ((c.tc : Thread nD τ).loc main_v11) = (fun _ => (layerAt m c).lossK)
      ∧ r.2.mem ((c.tc : Thread nD τ).loc main_v14) = (fun i => (layerAt m c).dWg (i 0) (i 1))
      ∧ r.2.mem ((c.tc : Thread nD τ).loc main_v15) = (fun i => (layerAt m c).dWu (i 0) (i 1))
      ∧ r.2.mem ((c.tc : Thread nD τ).loc main_v12) = (fun i => (layerAt m c).dWd (i 0) (i 1))
      ∧ r.2.mem ((c.tc : Thread nD τ).loc main_v18_3) = (fun i => (layerAt m c).dG (i 1))
      ∧ r.2.mem ((c.tc : Thread nD τ).loc main_v19) = (fun i => (layerAt m c).dWo (i 0) (i 1))
      ∧ r.2.mem ((c.tc : Thread nD τ).loc main_v18_0) = (fun i => (layerAt m c).dY (i 0) (i 1))
      ∧ r.2.mem ((c.tc : Thread nD τ).loc main_v18_1) = (fun i => (layerAt m c).dX2 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v11 (by decide))).trans (loss_end m ρ c),
     (h c _ (mem_uc main_v14 (by decide))).trans (dWg_end m ρ c),
     (h c _ (mem_uc main_v15 (by decide))).trans (dWu_end m ρ c),
     (h c _ (mem_uc main_v12 (by decide))).trans (dWd_end m ρ c),
     (h c _ (mem_uc main_v18_3 (by decide))).trans (dG_end m ρ c),
     (h c _ (mem_uc main_v19 (by decide))).trans (dWo_at14 m ρ c),
     (h c _ (mem_uc main_v18_0 (by decide))).trans (dY_end m ρ c),
     (h c _ (mem_uc main_v18_1 (by decide))).trans (dX2_end m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c)⟩) (ends m ρ)

end Cert.Run

end
-- ==== Proof.Reference.lean ====
/-
  THE REFERENCE, read operation by operation: what each value of the differentiated program is at an index, in the
  words of `Layer`. Where the reference goes about a value differently, the theorem of `Layer` that says the two ways
  agree on real numbers is used at that value, so every later value is the kernel's.
-/
module

public import proofs.«01_k».proof.Proof.Gen.FfnRefIdeal.Read
public import proofs.«01_k».proof.Proof.Layer
public import proofs.«01_k».proof.Proof.Tiles
public import Idealize.ShloMosaic.Lib.ValueIdxCore

@[expose] public section

set_option maxRecDepth 16384

noncomputable section

namespace Cert.Reference

open Cert.FfnRefIdeal Cert.FfnRefIdeal.Gen Cert.FfnRefIdeal.Read Cert.Layer Cert.Layer.Layer Cert.Tiles
open Idealize.ShloMosaic
open scoped BigOperators

/-- The program's eight arguments. -/
structure Args where
  y : (⟨S2048x4096, .f32⟩ : BufTy).Contents (Elt Ideal)
  x : (⟨S4096x2048, .f32⟩ : BufTy).Contents (Elt Ideal)
  g : (⟨S1x2048, .f32⟩ : BufTy).Contents (Elt Ideal)
  wo : (⟨S2048x2048, .f32⟩ : BufTy).Contents (Elt Ideal)
  wg : (⟨S5632x2048, .f32⟩ : BufTy).Contents (Elt Ideal)
  wu : (⟨S5632x2048, .f32⟩ : BufTy).Contents (Elt Ideal)
  wd : (⟨S5632x2048, .f32⟩ : BufTy).Contents (Elt Ideal)
  t : (⟨S4096x2048, .f32⟩ : BufTy).Contents (Elt Ideal)

/-- The layer of the arguments. -/
abbrev Args.L (a : Args) : Layer (Fin 4096) (Fin 2048) (Fin 5632) where
  Y k r := a.y (ix2 k r)
  X r c := a.x (ix2 r c)
  G c := a.g (ix2 0 c)
  Wo k c := a.wo (ix2 k c)
  Wg f c := a.wg (ix2 f c)
  Wu f c := a.wu (ix2 f c)
  Wd f c := a.wd (ix2 f c)
  T r c := a.t (ix2 r c)
  ε := eps
  hε := eps_pos

variable (a : Args)

/-! ## The forward pass -/

theorem y_at (i : S4096x2048.Idx) : val_main_v0 (F := Ideal) a.y i = a.L.Y (i 1) (i 0) := by
  rw [val_main_v0_apply]; exact congrArg a.y (eq_ix2 _)

theorem x2_at (i : S4096x2048.Idx) : val_main_v2 (F := Ideal) a.y a.x a.wo i = a.L.x2 (i 0) (i 1) := by
  rw [val_main_v2_apply, val_main_v1_apply]
  exact congrArg₂ (· + ·) (congrArg a.x (eq_ix2 i))
    (Finset.sum_congr rfl fun k _ => congrArg₂ (· * ·) (y_at a _) (congrArg a.wo (eq_ix2 _)))

theorem ms_at (i : S4096x1.Idx) : val_main_v9 (F := Ideal) a.y a.x a.wo i = a.L.ms (i 0) := by
  rw [val_main_v9_apply, val_main_v7_apply, val_main_v5_apply, val_main_v4_apply, val_main_v6_apply, val_main_v8_apply]
  show Ideal.div (Ideal.ofBits .f32 0x00000000#32 + ∑ k, val_main_v3 (F := Ideal) a.y a.x a.wo (idx_main_v4 (idx_main_v5 i) k))
    (Ideal.ofBits .f32 0x45000000#32) + Ideal.ofBits .f32 0x358637BD#32 = _
  rw [ofBits_zero, zero_add, ofBits_n2048, ofBits_eps]
  exact congrArg (fun s => Ideal.div s n2048 + (eps : EReal))
    (Finset.sum_congr rfl fun k _ => congrArg₂ (· * ·) (x2_at a _) (x2_at a _))

theorem rs_at (i : S4096x1.Idx) : val_main_v10 (F := Ideal) a.y a.x a.wo i = a.L.rs (i 0) := by
  rw [val_main_v10_apply, ms_at]; rfl

/-- The derivative of the reciprocal root at a row: −½·r/(mean + ε). -/
theorem drs_at (i : S4096x1.Idx) :
    val_main_v13 (F := Ideal) a.y a.x a.wo i = -half * Ideal.div (a.L.rs (i 0)) (a.L.ms (i 0)) := by
  rw [val_main_v13_apply, val_main_v12_apply, val_main_v11_apply, rs_at, ms_at]
  show Ideal.ofBits .f32 0xBF000000#32 * _ = _
  rw [ofBits_neg_half]; rfl

theorem xh_at (i : S4096x2048.Idx) : val_main_v15 (F := Ideal) a.y a.x a.wo i = a.L.xh (i 0) (i 1) := by
  rw [val_main_v15_apply, val_main_v14_apply]
  exact congrArg₂ (· * ·) (x2_at a _) (rs_at a _)

theorem h_at (i : S4096x2048.Idx) : val_main_v17 (F := Ideal) a.y a.x a.g a.wo i = a.L.h (i 0) (i 1) := by
  rw [val_main_v17_apply, val_main_v16_apply]
  exact congrArg₂ (· * ·) (xh_at a _) (congrArg a.g (eq_ix2 _))

theorem gate_at (i : S4096x5632.Idx) : val_main_v19 (F := Ideal) a.y a.x a.g a.wo a.wg i = a.L.gate (i 0) (i 1) := by
  rw [val_main_v19_apply]
  refine Finset.sum_congr rfl fun k _ => congrArg₂ (· * ·) (h_at a _) ?_
  rw [val_main_v18_apply]; exact congrArg a.wg (eq_ix2 _)

theorem up_at (i : S4096x5632.Idx) : val_main_v22 (F := Ideal) a.y a.x a.g a.wo a.wu i = a.L.up (i 0) (i 1) := by
  rw [val_main_v22_apply]
  refine Finset.sum_congr rfl fun k _ => congrArg₂ (· * ·) (h_at a _) ?_
  rw [val_main_v21_apply]; exact congrArg a.wu (eq_ix2 _)

variable {a} (hL : a.L.AllReal)
include hL

theorem sig_at (i : S4096x5632.Idx) :
    val_main_v20_2 (F := Ideal) a.y a.x a.g a.wo a.wg i = sigK (a.L.gate (i 0) (i 1)) := by
  rw [val_main_v20_2_apply, val_main_call0_v4_apply, val_main_call0_v3_apply, val_main_call0_v2_apply,
    val_main_call0_v1_apply, val_main_call0_v0_apply, gate_at]
  show Ideal.div (Ideal.ofBits .f32 0x3F800000#32) (Ideal.ofBits .f32 0x3F800000#32 + Ideal.exp (-(a.L.gate (i 0) (i 1)))) = _
  rw [ofBits_one]
  exact sigR_eq (gate_real hL _ _)

theorem dsig_at (i : S4096x5632.Idx) : val_main_v20_1 (F := Ideal) a.y a.x a.g a.wo a.wg i
    = sigK (a.L.gate (i 0) (i 1)) * (1 - sigK (a.L.gate (i 0) (i 1))) := by
  rw [val_main_v20_1_apply, val_main_call0_v7_apply, val_main_call0_v6_apply, sig_at hL]
  show _ * (Ideal.ofBits .f32 0x3F800000#32 - _) = _
  rw [ofBits_one]

theorem silu_at (i : S4096x5632.Idx) : val_main_v20_0 (F := Ideal) a.y a.x a.g a.wo a.wg i = a.L.silu (i 0) (i 1) := by
  rw [val_main_v20_0_apply]
  exact congrArg₂ (· * ·) (gate_at a _) (sig_at hL _)

theorem hid_at (i : S4096x5632.Idx) : val_main_v23 (F := Ideal) a.y a.x a.g a.wo a.wg a.wu i = a.L.hid (i 0) (i 1) := by
  rw [val_main_v23_apply]
  exact congrArg₂ (· * ·) (silu_at hL _) (up_at a _)

theorem err_at (i : S4096x2048.Idx) :
    val_main_v26 (F := Ideal) a.y a.x a.g a.wo a.wg a.wu a.wd a.t i = a.L.err (i 0) (i 1) := by
  rw [val_main_v26_apply, val_main_v25_apply, val_main_v24_apply]
  exact congrArg₂ (· - ·) (congrArg₂ (· + ·) (x2_at a _)
    (Finset.sum_congr rfl fun k _ => congrArg₂ (· * ·) (hid_at hL _) (congrArg a.wd (eq_ix2 _)))) (congrArg a.t (eq_ix2 _))

/-- A row's mean squared error. -/
theorem rowLoss_at (i : S4096.Idx) : val_main_v32 (F := Ideal) a.y a.x a.g a.wo a.wg a.wu a.wd a.t i
    = Ideal.div (∑ c, a.L.err (i 0) c * a.L.err (i 0) c) n2048 := by
  rw [val_main_v32_apply, val_main_v30_apply, val_main_v31_apply]
  show Ideal.div (Ideal.ofBits .f32 0x00000000#32
    + ∑ k, val_main_v27 (F := Ideal) a.y a.x a.g a.wo a.wg a.wu a.wd a.t (idx_main_v30 i k)) (Ideal.ofBits .f32 0x45000000#32) = _
  rw [ofBits_zero, zero_add, ofBits_n2048]
  exact congrArg (fun s => Ideal.div s n2048)
    (Finset.sum_congr rfl fun k _ => congrArg₂ (· * ·) (err_at hL _) (err_at hL _))

/-- The loss. -/
theorem loss_at (i : S_.Idx) : val_main_v34 (F := Ideal) a.y a.x a.g a.wo a.wg a.wu a.wd a.t i = a.L.lossK := by
  refine Eq.trans ?_ (lossR_eq hL)
  rw [val_main_v34_apply, val_main_v33_apply]
  show Ideal.ofBits .f32 0x3F000000#32 * (Ideal.ofBits .f32 0x00000000#32
    + ∑ j, val_main_v32 (F := Ideal) a.y a.x a.g a.wo a.wg a.wu a.wd a.t j) = _
  rw [ofBits_half, ofBits_zero, zero_add]
  refine congrArg (half * ·) ?_
  refine Fintype.sum_equiv ⟨fun j => j 0, fun r => ix1 r, fun j => (eq_ix1 j).symm, fun r => rfl⟩ _ _ fun j => ?_
  exact rowLoss_at hL j

/-! ## The backward pass -/

omit hL in
/-- The index of the gain's gradient before its reshape to one row, -/
theorem flat_row (i : S1x2048.Idx) : idx_main_v58 i = ix1 (n0 := 2048) (i 1) := by
  refine (eq_ix1 _).trans (congrArg ix1 (Fin.ext ?_))
  have h0 : (i 0).val < 1 := (i 0).isLt
  show (i 0).val * 2048 + (i 1).val = (i 1).val
  omega

omit hL in
/-- and of a row's sum before its reshape to one column. -/
theorem flat_col (i : S4096x1.Idx) : idx_main_v63 i = ix1 (n0 := 4096) (i 0) := by
  refine (eq_ix1 _).trans (congrArg ix1 (Fin.ext ?_))
  have h1 : (i 1).val < 1 := (i 1).isLt
  show (i 0).val * 1 + (i 1).val = (i 0).val
  omega

theorem dOut_at (i : S4096x2048.Idx) :
    val_main_v40 (F := Ideal) a.y a.x a.g a.wo a.wg a.wu a.wd a.t i = a.L.dOut (i 0) (i 1) := by
  refine Eq.trans ?_ (dOutR_eq hL _ _)
  rw [val_main_v40_apply, val_main_v39_apply, val_main_v38_apply, val_main_v36_apply, val_main_v37_apply,
    val_main_v29_apply, val_main_v28_apply, err_at hL]
  show Ideal.div (Ideal.ofBits .f32 0x3F000000#32 * Ideal.ofBits .f32 0x3F800000#32) (Ideal.ofBits .f32 0x45000000#32)
    * (Ideal.ofBits .f32 0x40000000#32 * _) = _
  rw [ofBits_half, ofBits_one, ofBits_n2048, ofBits_two]; rfl

theorem dWd_at (i : S5632x2048.Idx) :
    val_main_v82 (F := Ideal) a.y a.x a.g a.wo a.wg a.wu a.wd a.t i = a.L.dWd (i 0) (i 1) := by
  rw [val_main_v82_apply, val_main_v42_apply, val_main_v41_apply]
  exact Finset.sum_congr rfl fun k _ => (congrArg₂ (· * ·) (dOut_at hL _) (hid_at hL _)).trans (mul_comm _ _)

theorem dHid_at (i : S4096x5632.Idx) :
    val_main_v43 (F := Ideal) a.y a.x a.g a.wo a.wg a.wu a.wd a.t i = a.L.dHid (i 0) (i 1) := by
  rw [val_main_v43_apply]
  exact Finset.sum_congr rfl fun k _ => congrArg₂ (· * ·) (dOut_at hL _) (congrArg a.wd (eq_ix2 _))

theorem dUp_at (i : S4096x5632.Idx) :
    val_main_v44 (F := Ideal) a.y a.x a.g a.wo a.wg a.wu a.wd a.t i = a.L.dUp (i 0) (i 1) := by
  rw [val_main_v44_apply]
  exact (congrArg₂ (· * ·) (silu_at hL _) (dHid_at hL _)).trans (mul_comm _ _)

theorem dGate_at (i : S4096x5632.Idx) :
    val_main_v50 (F := Ideal) a.y a.x a.g a.wo a.wg a.wu a.wd a.t i = a.L.dGate (i 0) (i 1) := by
  refine Eq.trans ?_ (dGateR_eq hL _ _)
  rw [val_main_v50_apply, val_main_call1_v1_apply, val_main_call1_v2_apply, val_main_call1_v0_apply,
    val_main_v45_apply, sig_at hL, dsig_at hL, dHid_at hL, up_at, gate_at]
  rfl

theorem dWu_at (i : S5632x2048.Idx) :
    val_main_v81 (F := Ideal) a.y a.x a.g a.wo a.wg a.wu a.wd a.t i = a.L.dWu (i 0) (i 1) := by
  rw [val_main_v81_apply, val_main_v49_apply, val_main_v47_apply, val_main_v46_apply]
  exact Finset.sum_congr rfl fun k _ => congrArg₂ (· * ·) (dUp_at hL _) (h_at a _)

theorem dWg_at (i : S5632x2048.Idx) :
    val_main_v80 (F := Ideal) a.y a.x a.g a.wo a.wg a.wu a.wd a.t i = a.L.dWg (i 0) (i 1) := by
  rw [val_main_v80_apply, val_main_v55_apply, val_main_v52_apply, val_main_v51_apply]
  exact Finset.sum_congr rfl fun k _ => congrArg₂ (· * ·) (dGate_at hL _) (h_at a _)

theorem dH_at (i : S4096x2048.Idx) :
    val_main_v54 (F := Ideal) a.y a.x a.g a.wo a.wg a.wu a.wd a.t i = a.L.dH (i 0) (i 1) := by
  rw [val_main_v54_apply, val_main_v48_apply, val_main_v53_apply]
  refine (add_comm _ _).trans (congrArg₂ (· + ·) (Finset.sum_congr rfl fun k _ => congrArg₂ (· * ·) (dGate_at hL _) ?_)
    (Finset.sum_congr rfl fun k _ => congrArg₂ (· * ·) (dUp_at hL _) ?_))
  · rw [val_main_v18_apply]; exact congrArg a.wg (eq_ix2 _)
  · rw [val_main_v21_apply]; exact congrArg a.wu (eq_ix2 _)

theorem dG_at (i : S1x2048.Idx) :
    val_main_v58 (F := Ideal) a.y a.x a.g a.wo a.wg a.wu a.wd a.t i = a.L.dG (i 1) := by
  rw [val_main_v58_apply, flat_row, val_main_v57_apply]
  show Ideal.ofBits .f32 0x00000000#32 + _ = _
  rw [ofBits_zero, zero_add]
  refine Finset.sum_congr rfl fun k _ => ?_
  rw [val_main_v56_apply]
  exact (congrArg₂ (· * ·) (xh_at a _) (dH_at hL _)).trans (mul_comm (a.L.xh k (i 1)) (a.L.dH k (i 1)))

theorem dXh_at (i : S4096x2048.Idx) :
    val_main_v60 (F := Ideal) a.y a.x a.g a.wo a.wg a.wu a.wd a.t i = a.L.dXh (i 0) (i 1) := by
  rw [val_main_v60_apply, val_main_v59_apply]
  exact congrArg₂ (· * ·) (dH_at hL _) (congrArg a.g (eq_ix2 _))

/-- The mean's share of the norm's backward pass, the same along a row. -/
theorem mean_at (i : S4096x2048.Idx) :
    val_main_v71 (F := Ideal) a.y a.x a.g a.wo a.wg a.wu a.wd a.t i = a.L.meanR (i 0) := by
  rw [val_main_v71_apply, val_main_v70_apply]
  show Ideal.ofBits .f32 0x00000000#32 + _ = _
  rw [ofBits_zero, zero_add, Fin.sum_univ_one, val_main_v69_apply, val_main_v67_apply, val_main_v68_apply, drs_at,
    val_main_v63_apply, flat_col, val_main_v62_apply]
  show Ideal.div ((Ideal.ofBits .f32 0x00000000#32 + _) * _) (Ideal.ofBits .f32 0x45000000#32) = _
  rw [ofBits_zero, zero_add, ofBits_n2048]
  refine congrArg (fun s => Ideal.div (s * _) n2048) (Finset.sum_congr rfl fun k _ => ?_)
  rw [val_main_v61_apply]
  exact congrArg₂ (· * ·) (x2_at a _) (dXh_at hL _)

theorem dX2_at (i : S4096x2048.Idx) :
    val_main_v75 (F := Ideal) a.y a.x a.g a.wo a.wg a.wu a.wd a.t i = a.L.dX2 (i 0) (i 1) := by
  refine Eq.trans ?_ (dX2R_eq hL _ _)
  rw [val_main_v75_apply, val_main_v73_apply, val_main_v66_apply, val_main_v65_apply, val_main_v64_apply,
    val_main_v72_apply, val_main_v74_apply, dOut_at hL, dXh_at hL, rs_at, x2_at, mean_at hL]
  rfl

theorem dWo_at (i : S2048x2048.Idx) :
    val_main_v83 (F := Ideal) a.y a.x a.g a.wo a.wg a.wu a.wd a.t i = a.L.dWo (i 0) (i 1) := by
  rw [val_main_v83_apply, val_main_v77_apply, val_main_v76_apply]
  exact Finset.sum_congr rfl fun k _ => (congrArg₂ (· * ·) (dX2_at hL _) (y_at a _)).trans (mul_comm _ _)

theorem dY_at (i : S2048x4096.Idx) :
    val_main_v79 (F := Ideal) a.y a.x a.g a.wo a.wg a.wu a.wd a.t i = a.L.dY (i 0) (i 1) := by
  rw [val_main_v79_apply, val_main_v78_apply]
  exact Finset.sum_congr rfl fun k _ =>
    (congrArg₂ (· * ·) (dX2_at hL _) (congrArg a.wo (eq_ix2 _))).trans (mul_comm _ _)

end Cert.Reference

end
-- ==== Proof.Finite.lean ====
/-
  THE PRECONDITION, read: where an argument's entry less itself is zero, the entry is a real number, so the layer of
  the arguments has real arguments throughout.
-/
module

public import proofs.«01_k».proof.Defs
public import proofs.«01_k».proof.Proof.Chain

@[expose] public section

set_option maxRecDepth 16384

noncomputable section

namespace Cert.Finite

open Cert.FfnIdeal Cert.Layer Cert.Chain Cert.Tiles
open Idealize.ShloMosaic Idealize.ShloMosaic.TcCoe

/-- The shape relations the precondition's operations take. -/
theorem facts : Cert.Pre_finite.Facts where
  bcast_S_S2048x4096 := by decide
  bcast_S_S4096x2048 := by decide
  bcast_S_S1x2048 := by decide
  bcast_S_S2048x2048 := by decide
  bcast_S_S5632x2048 := by decide

/-- An extended real whose difference with itself is zero is a real number. -/
theorem real_of_sub {x : EReal} (h : x - x = 0) : IsReal x := by
  induction x with
  | bot => exact absurd h (by decide)
  | coe r => exact ⟨r, rfl⟩
  | top => exact absurd h (by decide)

/-- The comparison the precondition makes at an entry, read. -/
theorem real_of_test {s : Shape} (v : FVec Ideal s .f32) (w : FVec Ideal s .f32) (hw : ∀ i, w i = Ideal.ofBits .f32 0x00000000#32)
    (h : cmpf .oeq (subf v v) w = fun _ => 1#1) (i : s.Idx) : IsReal (v i) := by
  have hi : BitVec.ofBool (decide (v i - v i = w i)) = 1#1 := congrFun h i
  rw [hw i, ofBits_zero] at hi
  refine real_of_sub (of_decide_eq_true ?_)
  revert hi
  cases decide (v i - v i = 0) <;> decide

variable (m : (ℓ : Loc nD τ sig) → Buf (Elt Ideal) ℓ)

/-- Under the precondition every argument of the layer is a real number. -/
theorem real_of_pre (h : Pre_FfnIdeal_finite (hPre_finite := facts) m) (c : Dev nD) : (layerAt m c).AllReal := by
  obtain ⟨h0, h1, h2, h3, h4, h5, h6, h7⟩ := h c
  exact
    { Y := fun k r => real_of_test _ _ (fun _ => rfl) h0 (ix2 k r)
      X := fun r c => real_of_test _ _ (fun _ => rfl) h1 (ix2 r c)
      G := fun c => real_of_test _ _ (fun _ => rfl) h2 (ix2 0 c)
      Wo := fun k c => real_of_test _ _ (fun _ => rfl) h3 (ix2 k c)
      Wg := fun f c => real_of_test _ _ (fun _ => rfl) h4 (ix2 f c)
      Wu := fun f c => real_of_test _ _ (fun _ => rfl) h5 (ix2 f c)
      Wd := fun f c => real_of_test _ _ (fun _ => rfl) h6 (ix2 f c)
      T := fun r c => real_of_test _ _ (fun _ => rfl) h7 (ix2 r c) }

end Cert.Finite

end
-- ==== Proof.InTiles.lean ====
/-
  WHAT THE FOUR CALLS OF THE INPUT PROJECTION COMPUTE ON ONE TILE: each payload the kernels store, read at an index over
  the extended reals, as sums and products of the elements of the tiles it was computed from.
-/
module

public import proofs.«01_k».proof.Proof.Gen.InProjIdeal.Skeleton
public import proofs.«01_k».proof.Proof.Tiles
public import Idealize.ShloMosaic.Lib.Pointwise

@[expose] public section

set_option maxRecDepth 16384

noncomputable section

namespace Cert.InTiles

open Cert.InProjIdeal Cert.InProjIdeal.Gen Cert.Layer
open Cert.Tiles (eps ofBits_zero ofBits_n2048 ofBits_eps)
open Idealize.ShloMosaic
open scoped BigOperators

/-- `rms1_fwd`: the normalised row with its gain. -/
theorem norm_h (x : FVec Ideal S512x2048 .f32) (g : FVec Ideal S1x2048 .f32) (p : Fin 512) (q : Fin 2048) :
    k0_pay1 (F := Ideal) x g (ix2 p q)
      = x (ix2 p q) * Ideal.rsqrt (Ideal.div (∑ c : Fin 2048, x (ix2 p c) * x (ix2 p c)) n2048 + (eps : EReal)) * g (ix2 0 q) := by
  rw [← ofBits_eps, ← ofBits_n2048]
  pointwise [k0_pay1]

/-- `mm_in`: the product. -/
theorem in_prod (a : FVec Ideal S1664x2048 .bf16) (b : FVec Ideal S1024x2048 .bf16) (p : Fin 1664) (q : Fin 1024) :
    k1_pay1 (F := Ideal) a b (ix2 p q) = ∑ k : Fin 2048, a (ix2 p k) * b (ix2 q k) := by
  pointwise [k1_pay1, ofBits_zero]

/-- `mm_gw_in`: the product. -/
theorem gwIn_prod (a : FVec Ideal S1664x4096 .bf16) (b : FVec Ideal S4096x512 .bf16) (p : Fin 1664) (q : Fin 512) :
    k2_pay1 (F := Ideal) a b (ix2 p q) = ∑ k : Fin 4096, a (ix2 p k) * b (ix2 k q) := by
  pointwise [k2_pay1, ofBits_zero]

/-! ## `mm_d_in`: the gradient at the normalised row, and the norm's backward pass -/

/-- The reciprocal root mean square of row `p` of the input. -/
def rsOf (x : FVec Ideal S256x2048 .f32) (p : Fin 256) : EReal :=
  Ideal.rsqrt (Ideal.div (∑ c : Fin 2048, x (ix2 p c) * x (ix2 p c)) n2048 + (eps : EReal))

theorem dIn_prod (a : FVec Ideal S3328x256 .bf16) (w : FVec Ideal S3328x2048 .bf16) (p : Fin 256) (q : Fin 2048) :
    k3_pay3 (F := Ideal) a w (ix2 p q) = ∑ k : Fin 3328, a (ix2 k p) * w (ix2 k q) := by
  pointwise [k3_pay3, ofBits_zero]

theorem dIn_rs (x : FVec Ideal S256x2048 .f32) (p : Fin 256) : k3_pay4 (F := Ideal) x (ix2 p 0) = rsOf x p := by
  unfold rsOf
  rw [← ofBits_eps, ← ofBits_n2048]
  pointwise [k3_pay4]

theorem dIn_xh (x : FVec Ideal S256x2048 .f32) (p : Fin 256) (q : Fin 2048) :
    k3_pay5 (F := Ideal) x (ix2 p q) = x (ix2 p q) * rsOf x p := by
  rw [← dIn_rs]
  unfold k3_pay5
  generalize k3_pay4 (F := Ideal) x = v
  pointwise

/-- The rows' share of the gain's gradient, `d` being the gradient at the rows. -/
theorem dIn_share (a : FVec Ideal S3328x256 .bf16) (w : FVec Ideal S3328x2048 .bf16) (x d : FVec Ideal S256x2048 .f32)
    (hd : k3_pay3 (F := Ideal) a w = d) (q : Fin 2048) :
    k3_pay7 (F := Ideal) a w x (ix2 0 q) = ∑ p : Fin 256, d (ix2 p q) * (x (ix2 p q) * rsOf x p) := by
  simp only [← dIn_xh]
  unfold k3_pay7
  rw [hd]
  generalize k3_pay5 (F := Ideal) x = v
  pointwise

theorem dIn_add (u v : FVec Ideal S1x2048 .f32) (q : Fin 2048) : k3_pay2 (F := Ideal) u v (ix2 0 q) = v (ix2 0 q) + u (ix2 0 q) := by
  pointwise [k3_pay2]

theorem dIn_zero (q : Fin 2048) : k3_pay1 (F := Ideal) (ix2 0 q) = 0 := by
  pointwise [k3_pay1, ofBits_zero]

/-- The input's gradient on the tile. -/
theorem dIn_dX (a : FVec Ideal S3328x256 .bf16) (w : FVec Ideal S3328x2048 .bf16) (x o d : FVec Ideal S256x2048 .f32)
    (g : FVec Ideal S1x2048 .f32) (hd : k3_pay3 (F := Ideal) a w = d) (p : Fin 256) (q : Fin 2048) :
    k3_pay6 (F := Ideal) a w x o g (ix2 p q)
      = o (ix2 p q) + rsOf x p * (d (ix2 p q) * g (ix2 0 q)
        - x (ix2 p q) * rsOf x p * Ideal.div (∑ c : Fin 2048, d (ix2 p c) * g (ix2 0 c) * (x (ix2 p c) * rsOf x p)) n2048) := by
  simp only [← dIn_xh, ← ofBits_n2048]
  rw [← dIn_rs]
  unfold k3_pay6
  rw [hd]
  generalize k3_pay5 (F := Ideal) x = u
  generalize k3_pay4 (F := Ideal) x = v
  pointwise

end Cert.InTiles

end
-- ==== Proof.InLayer.lean ====
/-
  THE MATHEMATICS of the step's first stage: the RMS norm of the input, the input projection, and their gradients from
  the projection's gradient, over extended reals. The functions are what the four kernel calls compute; those ending in
  `R` are what the reference differentiated by `jax.vjp` computes where it goes about it differently. The theorem at the
  end says that they agree for ALL extended reals: either a row is made of real numbers, and then the reciprocal root is
  a positive real number, which distributes over any sum; or an entry is infinite, and then the reciprocal root is zero
  and only the residual gradient remains, on both sides.
-/
module

public import proofs.«01_k».proof.Proof.Layer

@[expose] public section

noncomputable section

namespace Cert.Layer

open Idealize.ShloMosaic
open scoped BigOperators

/-! ## Sums times a positive real number -/

/-- A positive real number distributes over a sum of two extended reals, -/
theorem coe_mul_add {s : ℝ} (hs : 0 < s) (a b : EReal) : (s : EReal) * (a + b) = s * a + s * b :=
  EReal.left_distrib_of_nonneg_of_ne_top (by exact_mod_cast hs.le) (EReal.coe_ne_top s) a b

/-- over a difference, -/
theorem coe_mul_sub {s : ℝ} (hs : 0 < s) (a b : EReal) : (s : EReal) * (a - b) = s * a - s * b := by
  rw [sub_eq_add_neg, coe_mul_add hs, mul_neg, ← sub_eq_add_neg]

/-- and over a finite sum. -/
theorem sum_mul_coe {ι : Type} (t : Finset ι) {s : ℝ} (hs : 0 < s) (f : ι → EReal) :
    ∑ i ∈ t, f i * (s : EReal) = (∑ i ∈ t, f i) * s := by
  classical
  induction t using Finset.induction_on with
  | empty => simp
  | insert a t h ih =>
    rw [Finset.sum_insert h, Finset.sum_insert h, ih, mul_comm (_ + _) (s : EReal), coe_mul_add hs, mul_comm (f a), mul_comm (∑ _ ∈ _, _)]

/-- Twice a multiple of any extended real. -/
theorem mul_coe_add_self (S : EReal) (u : ℝ) : S * (u : EReal) + S * (u : EReal) = S * ((2 * u : ℝ) : EReal) := by
  have h : ∀ y : EReal, y + y = y * ((2 : ℝ) : EReal) := fun y => by
    induction y with
    | bot => rw [EReal.bot_mul_coe_of_pos (by norm_num)]; rfl
    | top => rw [EReal.top_mul_coe_of_pos (by norm_num)]; rfl
    | coe y => norm_cast; ring
  rw [h, mul_assoc, ← EReal.coe_mul, mul_comm u 2]

/-- A sum of squares is infinite as soon as one of the numbers is, and real otherwise. -/
theorem sum_sq_top {ι : Type} [Fintype ι] (f : ι → EReal) (i : ι) (hi : ¬IsReal (f i)) : ∑ i, f i * f i = ⊤ := by
  classical
  have sq : ∀ x : EReal, x * x ≠ ⊥ := fun x => by
    induction x with
    | bot => rw [EReal.bot_mul_bot]; exact top_ne_bot
    | top => rw [EReal.top_mul_top]; exact top_ne_bot
    | coe x => rw [← EReal.coe_mul]; exact EReal.coe_ne_bot _
  have one : f i * f i = ⊤ := by
    generalize f i = x at hi
    induction x with
    | bot => exact EReal.bot_mul_bot
    | top => exact EReal.top_mul_top
    | coe x => exact absurd (IsReal.coe x) hi
  have rest : ∀ t : Finset ι, ∑ i ∈ t, f i * f i ≠ ⊥ := fun t => by
    induction t using Finset.induction_on with
    | empty => simp
    | insert a t h ih => rw [Finset.sum_insert h]; exact fun e => (EReal.add_eq_bot_iff.1 e).elim (sq _) ih
  rw [← Finset.add_sum_erase _ _ (Finset.mem_univ i), one]
  exact EReal.top_add_of_ne_bot (rest _)

/-! ## The norm, the projection and their gradients -/

/-- The arguments: the input `X`, the norm's gain `G`, the projection's weight `W`, the gradient `P` of its product
    (transposed), the gradient `O` that passes by along the residual stream, and the constant ε of the norm. -/
structure InLayer (R D E : Type) where
  X : R → D → EReal
  G : D → EReal
  W : E → D → EReal
  P : E → R → EReal
  O : R → D → EReal
  ε : ℝ
  hε : 0 < ε

namespace InLayer

variable {R D E : Type} [Fintype R] [Fintype D] [Fintype E] (L : InLayer R D E)

/-- A row's mean square plus ε, -/
def ms (r : R) : EReal := Ideal.div (∑ c, L.X r c * L.X r c) n2048 + (L.ε : EReal)
/-- its reciprocal root, -/
def rs (r : R) : EReal := Ideal.rsqrt (L.ms r)
/-- the normalised row, -/
def xh (r : R) (c : D) : EReal := L.X r c * L.rs r
/-- and the same with the gain. -/
def h (r : R) (c : D) : EReal := L.xh r c * L.G c
/-- The projection, transposed. -/
def proj (f : E) (r : R) : EReal := ∑ c, L.W f c * L.h r c
/-- The weight's gradient, the normalised row's and the gain's. -/
def dW (f : E) (c : D) : EReal := ∑ r, L.P f r * L.h r c
def dH (r : R) (c : D) : EReal := ∑ f, L.P f r * L.W f c
def dG (c : D) : EReal := ∑ r, L.dH r c * L.xh r c
/-- The gradient at the normalised row before the gain, its mean with the row, and the input's gradient. -/
def dXh (r : R) (c : D) : EReal := L.dH r c * L.G c
def meanK (r : R) : EReal := Ideal.div (∑ c, L.dXh r c * L.xh r c) n2048
def dX (r : R) (c : D) : EReal := L.O r c + L.rs r * (L.dXh r c - L.xh r c * L.meanK r)
/-- The reference's way: the mean carries the reciprocal root's derivative. -/
def meanR (r : R) : EReal :=
  Ideal.div ((∑ c, L.X r c * L.dXh r c) * (-half * Ideal.div (L.rs r) (L.ms r))) n2048
def dXR (r : R) (c : D) : EReal :=
  L.O r c + L.dXh r c * L.rs r + L.X r c * L.meanR r + L.meanR r * L.X r c

/-- A row of real numbers has a positive mean square, whose reciprocal root is a positive real number. -/
theorem ms_rs {r : R} (hr : ∀ c, IsReal (L.X r c)) :
    ∃ m s : ℝ, 0 < m ∧ 0 < s ∧ L.ms r = (m : EReal) ∧ L.rs r = (s : EReal) ∧ s * s = 1 / m := by
  choose x hx using hr
  have hm : L.ms r = (((∑ c, x c * x c) * (1 / 2048) + L.ε : ℝ) : EReal) := by
    unfold ms; rw [div_n2048]; unfold inv2048
    rw [EReal.coe_add, EReal.coe_mul, coe_sum]
    simp only [hx, ← EReal.coe_mul]
  have h0 : 0 ≤ ∑ c, x c * x c := Finset.sum_nonneg fun c _ => mul_self_nonneg _
  have hp : 0 < (∑ c, x c * x c) * (1 / 2048) + L.ε := by have := L.hε; positivity
  refine ⟨_, (Real.sqrt ((∑ c, x c * x c) * (1 / 2048) + L.ε))⁻¹, hp, inv_pos.2 (Real.sqrt_pos.2 hp), hm, ?_, ?_⟩
  · unfold rs; rw [hm, Ideal.rsqrt_coe, if_neg (not_lt.2 hp.le), if_neg hp.ne']
  · rw [← mul_inv, Real.mul_self_sqrt hp.le]; exact (one_div _).symm

/-- The mean square of a row with an infinite entry is infinite. -/
theorem ms_top {r : R} {c : D} (hc : ¬IsReal (L.X r c)) : L.ms r = ⊤ := by
  unfold ms
  rw [sum_sq_top (L.X r) c hc, div_n2048]
  unfold inv2048
  rw [EReal.top_mul_coe_of_pos (by norm_num), EReal.top_add_coe]

/-- The norm's backward pass: the two ways agree. -/
theorem dXR_eq (r : R) (c : D) : L.dXR r c = L.dX r c := by
  by_cases hr : ∀ c, IsReal (L.X r c)
  · obtain ⟨m, s, hm, hs, hms, hrs, hss⟩ := L.ms_rs hr
    obtain ⟨x, hx⟩ := hr c
    have e : ∑ c, L.dXh r c * L.xh r c = (∑ c, L.X r c * L.dXh r c) * s := by
      rw [← sum_mul_coe _ hs]
      refine Finset.sum_congr rfl fun c _ => ?_
      unfold xh
      rw [hrs, ← mul_assoc, mul_comm (L.dXh r c)]
    unfold dXR dX meanR meanK
    rw [e]
    unfold xh
    generalize ∑ c, L.X r c * L.dXh r c = S
    generalize L.dXh r c = d
    rw [div_n2048, div_n2048, hms, Ideal.div_coe hm.ne', hrs, hx, coe_mul_sub hs, add_assoc, add_assoc, sub_eq_add_neg]
    refine congrArg₂ _ rfl (congrArg₂ _ (mul_comm _ _) ?_)
    have l : (x : EReal) * (S * (-half * ((s : EReal) * ((1 / m : ℝ) : EReal))) * inv2048)
        = S * ((x * (-(1 / 2) * (s * (1 / m)) * (1 / 2048)) : ℝ) : EReal) := by
      unfold half inv2048
      rw [EReal.coe_mul, EReal.coe_mul, EReal.coe_mul, EReal.coe_neg, EReal.coe_mul]
      ac_rfl
    rw [mul_comm _ (x : EReal), l, mul_coe_add_self]
    have k : (s : EReal) * ((x : EReal) * s * (S * s * inv2048)) = S * ((s * (x * s) * (s * (1 / 2048)) : ℝ) : EReal) := by
      unfold inv2048
      rw [EReal.coe_mul, EReal.coe_mul, EReal.coe_mul, EReal.coe_mul]
      ac_rfl
    rw [k, ← mul_neg, ← EReal.coe_neg]
    refine congrArg (fun u : ℝ => S * (u : EReal)) ?_
    rw [← hss]; ring
  · push Not at hr
    obtain ⟨c', hc'⟩ := hr
    have hms := L.ms_top hc'
    have hrs : L.rs r = 0 := by unfold rs; rw [hms]; rfl
    have hd : Ideal.div (0 : EReal) ⊤ = 0 := by
      unfold Ideal.div; rw [if_neg EReal.top_ne_zero, zero_mul]
    unfold dXR dX meanR
    rw [hrs, hms, hd]
    simp only [mul_zero, zero_mul, div_n2048, add_zero]

end InLayer

end Cert.Layer

end
-- ==== Proof.InCalls.lean ====
module

public import proofs.«01_k».proof.Proof.Gen.InProjIdeal.Frame
public import proofs.«01_k».proof.Proof.InTiles
public import proofs.«01_k».proof.Proof.InLayer
public import Idealize.ShloMosaic.Lib.Pipeline.ValueKit

/-! # The four calls of the input projection: what each leaves in its result buffers

Every theorem takes the buffers a call reads as tables of the layer's functions and concludes that the
buffer it fills is the table of the function named. -/

@[expose] public section

set_option maxRecDepth 16384

noncomputable section

namespace Cert.InCalls

open Cert.InProjIdeal Cert.InProjIdeal.Gen Cert.Layer Cert.InTiles
open Cert.Tiles (eps)
open Idealize.ShloMosaic Idealize.ShloMosaic.TcCoe
open Idealize.ShloMosaic.Pipeline (Dat)
open scoped BigOperators

variable (V : (c : Dev nD) → (b : Ref sig .tc) → Buf (Elt Ideal) ((c : Thread nD τ).loc b))
variable (L : InLayer (Fin 4096) (Fin 2048) (Fin 3328))

/-- Where the norm's blocks lie: rows of 512; -/
theorem idx0 : ∀ t : Fin cfg0.N, win0_0.index t = ![t.val, 0] ∧ win0_1.index t = ![0, 0] ∧ win0_2.index t = ![t.val, 0] :=
  (by decide +kernel : ∀ t : Fin grid0.N, _)

/-- the projection's: rows of 1664 by columns of 1024; -/
theorem idx1 : ∀ t : Fin cfg1.N, win1_0.index t = ![t.val / 4, 0] ∧ win1_1.index t = ![t.val % 4, 0]
    ∧ win1_2.index t = ![t.val / 4, t.val % 4] :=
  (by decide +kernel : ∀ t : Fin grid1.N, _)

/-- the weight's gradient's: rows of 1664 by columns of 512; -/
theorem idx2 : ∀ t : Fin cfg2.N, win2_0.index t = ![t.val / 4, 0] ∧ win2_1.index t = ![0, t.val % 4]
    ∧ win2_2.index t = ![t.val / 4, t.val % 4] :=
  (by decide +kernel : ∀ t : Fin grid2.N, _)

/-- and the input's gradient's: rows of 256. -/
theorem idx3 : ∀ t : Fin cfg3.N, win3_0.index t = ![0, t.val] ∧ win3_1.index t = ![0, 0] ∧ win3_2.index t = ![t.val, 0]
    ∧ win3_3.index t = ![t.val, 0] ∧ win3_4.index t = ![0, 0] ∧ win3_5.index t = ![t.val, 0] :=
  (by decide +kernel : ∀ t : Fin grid3.N, _)

/-! ## The norm, the projection, the weight's gradient -/

/-- The first call leaves the normalised rows with the gain. -/
theorem h_eq {c : Dev nD} (hε : (L.ε : ℝ) = eps) (hX : V c main_arg0 = fun i => L.X (i 0) (i 1)) (hG : V c main_arg1 = fun i => L.G (i 1)) :
    (dat0 V c).arrAt 2 cfg0.N = fun i : S4096x2048.Idx => L.h (i 0) (i 1) := by
  refine (dat0 V c).arrAt_eq_of_covers 2 _ (by decide +kernel) fun t hf y => ?_
  blk_simp
  rw [after0_2]
  frame_out
  idx_vars y
  have hr : t.val * 512 + y0.val < 4096 := by
    have : t.val < 8 := t.isLt
    omega
  have x : ∀ q : Fin 2048, (iblk0 V c 0 t : FVec Ideal S512x2048 .f32) (ix2 y0 q) = L.X ⟨t.val * 512 + y0.val, hr⟩ q := fun q => by
    blk_simp [iblk0, hX]
    refine congrArg₂ _ ?_ ?_ <;> apply Fin.ext <;> blk_simp [idx0]
  have g : (iblk0 V c 1 t : FVec Ideal S1x2048 .f32) (ix2 0 y1) = L.G y1 := by
    blk_simp [iblk0, hG]
    refine congrArg _ (Fin.ext ?_)
    blk_simp [idx0]
  have e : (win0_2.blk t).view.emb (ix2 y0 y1) 0 = ⟨t.val * 512 + y0.val, hr⟩ := by
    apply Fin.ext; blk_simp [idx0]
  have e' : (win0_2.blk t).view.emb (ix2 y0 y1) 1 = y1 := by
    apply Fin.ext; blk_simp [idx0]
  rw [norm_h, g, ← hε, e, e']
  simp only [x]
  rfl

/-- The second leaves the projection, transposed. -/
theorem proj_eq {c : Dev nD} (hW : V c main_v0 = fun i => L.W (i 0) (i 1)) (hH : V c main_v2 = fun i => L.h (i 0) (i 1)) :
    (dat1 V c).arrAt 2 cfg1.N = fun i : S3328x4096.Idx => L.proj (i 0) (i 1) := by
  refine (dat1 V c).arrAt_eq_of_covers 2 _ (by decide +kernel) fun t hf y => ?_
  blk_simp
  rw [after1_2]
  frame_out
  idx_vars y
  refine (in_prod _ _ _ _).trans (Finset.sum_congr rfl fun k _ => congrArg₂ _ ?_ ?_)
  · blk_simp [iblk1, hW]
    refine congrArg₂ _ ?_ ?_ <;> apply Fin.ext <;> blk_simp [idx1]
  · blk_simp [iblk1, hH]
    refine congrArg₂ _ ?_ ?_ <;> apply Fin.ext <;> blk_simp [idx1]

/-- The third leaves the weight's gradient. -/
theorem dW_eq {c : Dev nD} (hP : V c main_v1 = fun i => L.P (i 0) (i 1)) (hH : V c main_v2 = fun i => L.h (i 0) (i 1)) :
    (dat2 V c).arrAt 2 cfg2.N = fun i : S3328x2048.Idx => L.dW (i 0) (i 1) := by
  refine (dat2 V c).arrAt_eq_of_covers 2 _ (by decide +kernel) fun t hf y => ?_
  blk_simp
  rw [after2_2]
  frame_out
  idx_vars y
  refine (gwIn_prod _ _ _ _).trans (Finset.sum_congr rfl fun k _ => congrArg₂ _ ?_ ?_)
  · blk_simp [iblk2, hP]
    refine congrArg₂ _ ?_ ?_ <;> apply Fin.ext <;> blk_simp [idx2]
  · blk_simp [iblk2, hH]
    refine congrArg₂ _ ?_ ?_ <;> apply Fin.ext <;> blk_simp [idx2]

/-! ## The input's gradient and the gain's

What each point leaves in its blocks: the body's results on the blocks it reads. -/

theorem out3_dX (c : Dev nD) (t : Fin cfg3.N) : (outsAt3 V c t.val t.isLt).1
    = k3_pay6 (F := Ideal) (iblk3 V c 0 t) (iblk3 V c 1 t) (iblk3 V c 2 t) (iblk3 V c 3 t) (iblk3 V c 4 t) := by
  by_cases h : t.val % 16 = 0
  · rw [outsAt3_A V c t h]
    dsimp only
    frame_out
  · rw [outsAt3_B V c t h]
    dsimp only
    frame_out

/-- The gain's row starts from nothing -/
theorem out3_first (c : Dev nD) (t : Fin cfg3.N) (h : t.val % 16 = 0) : (outsAt3 V c t.val t.isLt).2
    = k3_pay2 (F := Ideal) (k3_pay7 (iblk3 V c 0 t) (iblk3 V c 1 t) (iblk3 V c 2 t)) (k3_pay1 (F := Ideal)) := by
  rw [outsAt3_A V c t h]
  dsimp only
  frame_out

/-- and each point adds its rows' share. -/
theorem out3_next (c : Dev nD) (t : Fin cfg3.N) (h : ¬t.val % 16 = 0) : (outsAt3 V c t.val t.isLt).2
    = k3_pay2 (F := Ideal) (k3_pay7 (iblk3 V c 0 t) (iblk3 V c 1 t) (iblk3 V c 2 t))
        (outsAt3 V c (t.val - 1) (Nat.lt_of_le_of_lt (Nat.sub_le _ _) t.isLt)).2 := by
  rw [outsAt3_B V c t h]
  dsimp only
  frame_out

section
variable {c : Dev nD} (hε : (L.ε : ℝ) = eps) (hP : V c main_v1 = fun i => L.P (i 0) (i 1))
  (hW : V c main_v0 = fun i => L.W (i 0) (i 1)) (hX : V c main_arg0 = fun i => L.X (i 0) (i 1))

/-- The row `p` of point `t`'s block. -/
def row (t : Fin cfg3.N) (p : Fin 256) : Fin 4096 := ⟨t.val * 256 + p.val, by have : t.val < 16 := t.isLt; omega⟩

include hX in
/-- A block of the input. -/
theorem x_blk (t : Fin cfg3.N) (p : Fin 256) (q : Fin 2048) :
    (iblk3 V c 2 t : FVec Ideal S256x2048 .f32) (ix2 p q) = L.X (row t p) q := by
  blk_simp [iblk3, hX]
  refine congrArg₂ _ ?_ ?_ <;> apply Fin.ext <;> blk_simp [idx3, row]

include hε hX in
/-- Its rows' reciprocal root mean squares. -/
theorem rs_blk (t : Fin cfg3.N) (p : Fin 256) : rsOf (iblk3 V c 2 t) p = L.rs (row t p) := by
  unfold rsOf InLayer.rs InLayer.ms
  rw [hε]
  simp only [x_blk V L hX]

include hP hW

/-- A block of the gradient at the normalised rows. -/
theorem dH_blk (t : Fin cfg3.N) :
    k3_pay3 (F := Ideal) (iblk3 V c 0 t) (iblk3 V c 1 t) = fun j : S256x2048.Idx => L.dH (row t (j 0)) (j 1) := by
  funext j
  idx_vars j
  refine (dIn_prod _ _ _ _).trans (Finset.sum_congr rfl fun k _ => congrArg₂ _ ?_ ?_)
  · blk_simp [iblk3, hP]
    refine congrArg₂ _ ?_ ?_ <;> apply Fin.ext <;> blk_simp [idx3, row]
  · blk_simp [iblk3, hW]
    refine congrArg₂ _ ?_ ?_ <;> apply Fin.ext <;> blk_simp [idx3]

include hε hX

/-- A block's share of the gain's gradient. -/
theorem share_blk (t : Fin cfg3.N) (q : Fin 2048) :
    k3_pay7 (F := Ideal) (iblk3 V c 0 t) (iblk3 V c 1 t) (iblk3 V c 2 t) (ix2 0 q) = ∑ p : Fin 256, L.dH (row t p) q * L.xh (row t p) q := by
  refine (dIn_share _ _ _ _ (dH_blk V L hP hW t) q).trans (Finset.sum_congr rfl fun p _ => ?_)
  rw [x_blk V L hX, rs_blk V L hε hX]
  rfl

/-- The gain's gradient: every row's share. -/
theorem dG_eq : (dat3 V c).arrAt 6 cfg3.N = fun i : S1x2048.Idx => L.dG (i 1) := by
  refine (dat3 V c).arrAt_eq_of_after_last 6 (⟨15, by decide⟩ : Fin grid3.N) (by decide +kernel) _ fun j => ?_
  refine Eq.trans (b := (outsAt3 V c 15 (by decide)).2 j) ?_ ?_
  · exact congrFun (after3_6 V c ⟨15, by decide⟩) j
  idx_vars j
  obtain rfl : j0 = 0 := Subsingleton.elim _ _
  have key := Pipeline.eq_sum_fin_of_reset_step_apply_last (N := cfg3.N) (fun n hn (q : Fin 2048) => (outsAt3 V c n hn).2 (ix2 0 q)) 16 0
    (fun t q => ∑ p : Fin 256, L.dH (row t p) q * L.xh (row t p) q)
    (fun t h q => by
      refine (congrFun (out3_first V c t h) _).trans ?_
      rw [dIn_add, dIn_zero, share_blk V L hε hP hW hX]
      rfl)
    (fun t h q => by
      refine (congrFun (out3_next V c t h) _).trans ?_
      rw [dIn_add, share_blk V L hε hP hW hX])
    (by decide) ⟨15, by decide⟩ rfl j1
  refine key.trans ((zero_add _).trans ?_)
  exact Fin.sum_mul_add_fin (L := 4096) 16 256 fun r => L.dH r j1 * L.xh r j1

/-- The input's gradient. -/
theorem dX_eq (hG : V c main_arg1 = fun i => L.G (i 1)) (hO : V c main_arg4 = fun i => L.O (i 0) (i 1)) :
    (dat3 V c).arrAt 5 cfg3.N = fun i : S4096x2048.Idx => L.dX (i 0) (i 1) := by
  refine (dat3 V c).arrAt_eq_of_covers 5 _ (by decide +kernel) fun t hf y => ?_
  blk_simp
  rw [after3_5, out3_dX]
  idx_vars y
  have g : ∀ q : Fin 2048, (iblk3 V c 4 t : FVec Ideal S1x2048 .f32) (ix2 0 q) = L.G q := fun q => by
    blk_simp [iblk3, hG]
    refine congrArg _ (Fin.ext ?_)
    blk_simp [idx3]
  have o : (iblk3 V c 3 t : FVec Ideal S256x2048 .f32) (ix2 y0 y1) = L.O (row t y0) y1 := by
    blk_simp [iblk3, hO]
    refine congrArg₂ _ ?_ ?_ <;> apply Fin.ext <;> blk_simp [idx3, row]
  have e : (win3_5.blk t).view.emb (ix2 y0 y1) 0 = row t y0 := by
    apply Fin.ext; blk_simp [idx3, row]
  have e' : (win3_5.blk t).view.emb (ix2 y0 y1) 1 = y1 := by
    apply Fin.ext; blk_simp [idx3]
  rw [dIn_dX _ _ _ _ _ _ (dH_blk V L hP hW t), rs_blk V L hε hX, o, e, e']
  simp only [x_blk V L hX, g]
  rfl

end

end Cert.InCalls

end
-- ==== Proof.InRun.lean ====
/-
  THE RUN of the idealized input projection with its results: what its buffers hold from call to call, the launch over
  the program's segments, and the four results read off the contents the program ends with.
-/
module

public import proofs.«01_k».proof.Proof.Gen.InProjIdeal.Frame
public import proofs.«01_k».proof.Proof.InCalls

@[expose] public section

set_option maxRecDepth 16384

noncomputable section

namespace Cert.InRun

open Cert.InProjIdeal Cert.InProjIdeal.Gen Cert.Layer
open Cert.Tiles (eps eps_pos)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The layer of the arguments: the input, the gain, the weight, the projection's gradient, the residual gradient. -/
def layer (x : S4096x2048.Idx → EReal) (g : S1x2048.Idx → EReal) (w : S3328x2048.Idx → EReal) (p : S3328x4096.Idx → EReal)
    (o : S4096x2048.Idx → EReal) : InLayer (Fin 4096) (Fin 2048) (Fin 3328) where
  X r c := x (ix2 r c)
  G c := g (ix2 0 c)
  W f c := w (ix2 f c)
  P f r := p (ix2 f r)
  O r c := o (ix2 r c)
  ε := eps
  hε := eps_pos

variable (m : (ℓ : Loc nD τ sig) → Buf (Elt Ideal) ℓ) (ρ : Dev nD → PrngReg)

section
variable (c : Dev nD)

/-- The layer of core `c`'s arguments. -/
def layerAt : InLayer (Fin 4096) (Fin 2048) (Fin 3328) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-! ## From call to call -/

/-- A table of two coordinates is its entries. -/
theorem table {a b : ℕ} (f : (⟨2, ![a, b]⟩ : Shape).Idx → EReal) : f = fun i => f (ix2 (i 0) (i 1)) :=
  funext fun i => congrArg f (eq_ix2 i)

/-- A call's array is a result of its, or is not written: a buffer that is no result is only read. -/
theorem reads_of {n : ℕ} {A : Fin n → Ref sig .tc} {o : Fin n → Bool} {l : List (Ref sig .tc)} {r : Ref sig .tc} (h : r ∉ l)
    (hl : ∀ w, o w = true → A w ∈ l) (w : Fin n) (e : A w = r) : o w = false := by
  cases hw : o w with
  | false => rfl
  | true => exact absurd (e ▸ hl w hw) h

/-- The calls leave what they do not fill. -/
theorem keep2 (r : Ref sig .tc) (h : r ∉ [main_v2]) : V2 m ρ c r = V1 m ρ c r :=
  W2_of m ρ c r (reads_of h (by decide +kernel))
theorem keep3 (r : Ref sig .tc) (h : r ∉ [main_v3]) : V3 m ρ c r = V2 m ρ c r :=
  W3_of m ρ c r (reads_of h (by decide +kernel))
theorem keep4 (r : Ref sig .tc) (h : r ∉ [main_v4]) : V4 m ρ c r = V3 m ρ c r :=
  W4_of m ρ c r (reads_of h (by decide +kernel))
theorem keep5 (r : Ref sig .tc) (h : r ∉ [main_v5_0, main_v5_1]) : V5 m ρ c r = V4 m ρ c r :=
  W5_of m ρ c r (reads_of h (by decide +kernel))
/-- Up to the last call. -/
theorem keep24 (r : Ref sig .tc) (h : r ∉ [main_v2] ∧ r ∉ [main_v3] ∧ r ∉ [main_v4]) : V4 m ρ c r = V1 m ρ c r :=
  (keep4 m ρ c r h.2.2).trans ((keep3 m ρ c r h.2.1).trans (keep2 m ρ c r h.1))

theorem x_at1 : V1 m ρ c main_arg0 = fun i => (layerAt m c).X (i 0) (i 1) :=
  (W1_of m ρ c main_arg0 (by decide)).trans (table _)
theorem o_at1 : V1 m ρ c main_arg4 = fun i => (layerAt m c).O (i 0) (i 1) :=
  (W1_of m ρ c main_arg4 (by decide)).trans (table _)
theorem g_at1 : V1 m ρ c main_arg1 = fun i => (layerAt m c).G (i 1) :=
  (W1_of m ρ c main_arg1 (by decide)).trans (funext fun i => by
    idx_vars i
    obtain rfl : i0 = 0 := Subsingleton.elim _ _
    rfl)
theorem w_at1 : V1 m ρ c main_v0 = fun i => (layerAt m c).W (i 0) (i 1) := by
  show StableHlo.after hostOps0 (W0 m ρ c) (Proc.devRef .tc main_v0) = _
  entry_read
  exact table _
theorem p_at1 : V1 m ρ c main_v1 = fun i => (layerAt m c).P (i 0) (i 1) := by
  show StableHlo.after hostOps0 (W0 m ρ c) (Proc.devRef .tc main_v1) = _
  entry_read
  exact table _

theorem h_at2 : V2 m ρ c main_v2 = fun i => (layerAt m c).h (i 0) (i 1) :=
  (hF0 m ρ c 2).symm.trans (InCalls.h_eq _ _ rfl (x_at1 m ρ c) (g_at1 m ρ c))
theorem proj_at3 : V3 m ρ c main_v3 = fun i => (layerAt m c).proj (i 0) (i 1) :=
  (hF1 m ρ c 2).symm.trans (InCalls.proj_eq _ _ ((keep2 m ρ c main_v0 (by decide)).trans (w_at1 m ρ c)) (h_at2 m ρ c))
theorem p_at3 : V3 m ρ c main_v1 = fun i => (layerAt m c).P (i 0) (i 1) :=
  (keep3 m ρ c main_v1 (by decide)).trans ((keep2 m ρ c main_v1 (by decide)).trans (p_at1 m ρ c))
theorem dW_at4 : V4 m ρ c main_v4 = fun i => (layerAt m c).dW (i 0) (i 1) :=
  (hF2 m ρ c 2).symm.trans (InCalls.dW_eq _ _ (p_at3 m ρ c) ((keep3 m ρ c main_v2 (by decide)).trans (h_at2 m ρ c)))
theorem x_at4 : V4 m ρ c main_arg0 = fun i => (layerAt m c).X (i 0) (i 1) :=
  (keep24 m ρ c main_arg0 (by decide)).trans (x_at1 m ρ c)
theorem w_at4 : V4 m ρ c main_v0 = fun i => (layerAt m c).W (i 0) (i 1) :=
  (keep24 m ρ c main_v0 (by decide)).trans (w_at1 m ρ c)
theorem p_at4 : V4 m ρ c main_v1 = fun i => (layerAt m c).P (i 0) (i 1) :=
  (keep24 m ρ c main_v1 (by decide)).trans (p_at1 m ρ c)

/-! ## At the end -/

theorem proj_end : W5 m ρ c (Proc.devRef .tc main_v3) = fun i => (layerAt m c).proj (i 0) (i 1) :=
  (keep5 m ρ c main_v3 (by decide)).trans ((keep4 m ρ c main_v3 (by decide)).trans (proj_at3 m ρ c))
theorem dW_end : W5 m ρ c (Proc.devRef .tc main_v4) = fun i => (layerAt m c).dW (i 0) (i 1) :=
  (keep5 m ρ c main_v4 (by decide)).trans (dW_at4 m ρ c)
theorem dX_end : W5 m ρ c (Proc.devRef .tc main_v5_0) = fun i => (layerAt m c).dX (i 0) (i 1) :=
  (hF3 m ρ c 5).symm.trans (InCalls.dX_eq _ _ rfl (p_at4 m ρ c) (w_at4 m ρ c) (x_at4 m ρ c)
    ((keep24 m ρ c main_arg1 (by decide)).trans (g_at1 m ρ c)) ((keep24 m ρ c main_arg4 (by decide)).trans (o_at1 m ρ c)))
theorem dG_end : W5 m ρ c (Proc.devRef .tc main_v5_1) = fun i => (layerAt m c).dG (i 1) :=
  (hF3 m ρ c 6).symm.trans (InCalls.dG_eq _ _ rfl (p_at4 m ρ c) (w_at4 m ρ c) (x_at4 m ρ c))

end

/-! ## The launch -/

-- the launch's implicit arguments are found by unifying its conclusion with the statement, which takes unfolding plain
-- definitions in a metavariable's type
set_option backward.isDefEq.respectTransparency.types false in
/-- Every fair execution of the idealized kernel ends, with every unscoped buffer of every device holding what the
    program's segments leave in it. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c b hb => h c b hb)

/-- The four results at the end of the run, in the words of the layer, and the arguments as launched. -/
theorem results : θ_run defs (onTc (τ := τ) (main (F := Ideal))) ⟨m, fun _ => 0, ρ⟩ (fun r => ∀ c : Dev nD,
      r.2.mem ((c.tc : Thread nD τ).loc main_v3) = (fun i => (layerAt m c).proj (i 0) (i 1))
      ∧ r.2.mem ((c.tc : Thread nD τ).loc main_v4) = (fun i => (layerAt m c).dW (i 0) (i 1))
      ∧ r.2.mem ((c.tc : Thread nD τ).loc main_v5_0) = (fun i => (layerAt m c).dX (i 0) (i 1))
      ∧ r.2.mem ((c.tc : Thread nD τ).loc main_v5_1) = (fun i => (layerAt m c).dG (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (proj_end m ρ c),
     (h c _ (mem_uc main_v4 (by decide))).trans (dW_end m ρ c),
     (h c _ (mem_uc main_v5_0 (by decide))).trans (dX_end m ρ c),
     (h c _ (mem_uc main_v5_1 (by decide))).trans (dG_end m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (ends m ρ)

end Cert.InRun

end
-- ==== Proof.InReference.lean ====
/-
  THE REFERENCE of the input projection, read operation by operation in the words of `InLayer`. Its norm's backward pass
  is the kernel's by `dXR_eq`, at any arguments.
-/
module

public import proofs.«01_k».proof.Proof.Gen.InProjRefIdeal.Read
public import proofs.«01_k».proof.Proof.InLayer
public import proofs.«01_k».proof.Proof.Tiles
public import Idealize.ShloMosaic.Lib.ValueIdxCore

@[expose] public section

set_option maxRecDepth 16384

noncomputable section

namespace Cert.InReference

open Cert.InProjRefIdeal Cert.InProjRefIdeal.Gen Cert.InProjRefIdeal.Read Cert.Layer Cert.Layer.InLayer
open Cert.Tiles (eps eps_pos ofBits_zero ofBits_n2048 ofBits_eps ofBits_neg_half)
open Idealize.ShloMosaic
open scoped BigOperators

/-- The program's five arguments. -/
structure Args where
  x : (⟨S4096x2048, .f32⟩ : BufTy).Contents (Elt Ideal)
  g : (⟨S1x2048, .f32⟩ : BufTy).Contents (Elt Ideal)
  w : (⟨S3328x2048, .f32⟩ : BufTy).Contents (Elt Ideal)
  p : (⟨S3328x4096, .f32⟩ : BufTy).Contents (Elt Ideal)
  o : (⟨S4096x2048, .f32⟩ : BufTy).Contents (Elt Ideal)

/-- The layer of the arguments. -/
abbrev Args.L (a : Args) : InLayer (Fin 4096) (Fin 2048) (Fin 3328) where
  X r c := a.x (ix2 r c)
  G c := a.g (ix2 0 c)
  W f c := a.w (ix2 f c)
  P f r := a.p (ix2 f r)
  O r c := a.o (ix2 r c)
  ε := eps
  hε := eps_pos

variable (a : Args)

/-! ## The forward pass -/

theorem ms_at (i : S4096x1.Idx) : val_main_v6 (F := Ideal) a.x i = a.L.ms (i 0) := by
  rw [val_main_v6_apply, val_main_v4_apply, val_main_v2_apply, val_main_v1_apply, val_main_v3_apply, val_main_v5_apply]
  show Ideal.div (Ideal.ofBits .f32 0x00000000#32 + ∑ k, val_main_v0 (F := Ideal) a.x (idx_main_v1 (idx_main_v2 i) k))
    (Ideal.ofBits .f32 0x45000000#32) + Ideal.ofBits .f32 0x358637BD#32 = _
  rw [ofBits_zero, zero_add, ofBits_n2048, ofBits_eps]
  exact congrArg (fun s => Ideal.div s n2048 + (eps : EReal))
    (Finset.sum_congr rfl fun k _ => congrArg₂ (· * ·) (congrArg a.x (eq_ix2 _)) (congrArg a.x (eq_ix2 _)))

theorem rs_at (i : S4096x1.Idx) : val_main_v7 (F := Ideal) a.x i = a.L.rs (i 0) := by
  rw [val_main_v7_apply, ms_at]; rfl

/-- The derivative of the reciprocal root at a row: −½·r/(mean + ε). -/
theorem drs_at (i : S4096x1.Idx) :
    val_main_v10 (F := Ideal) a.x i = -half * Ideal.div (a.L.rs (i 0)) (a.L.ms (i 0)) := by
  rw [val_main_v10_apply, val_main_v9_apply, val_main_v8_apply, rs_at, ms_at]
  show Ideal.ofBits .f32 0xBF000000#32 * _ = _
  rw [ofBits_neg_half]; rfl

theorem xh_at (i : S4096x2048.Idx) : val_main_v12 (F := Ideal) a.x i = a.L.xh (i 0) (i 1) := by
  rw [val_main_v12_apply, val_main_v11_apply]
  exact congrArg₂ (· * ·) (congrArg a.x (eq_ix2 _)) (rs_at a _)

theorem h_at (i : S4096x2048.Idx) : val_main_v14 (F := Ideal) a.x a.g i = a.L.h (i 0) (i 1) := by
  rw [val_main_v14_apply, val_main_v13_apply]
  exact congrArg₂ (· * ·) (xh_at a _) (congrArg a.g (eq_ix2 _))

theorem proj_at (i : S3328x4096.Idx) : val_main_v42 (F := Ideal) a.x a.g a.w i = a.L.proj (i 0) (i 1) := by
  rw [val_main_v42_apply, val_main_v16_apply]
  refine Finset.sum_congr rfl fun k _ => (congrArg₂ (· * ·) (h_at a _) ?_).trans (mul_comm _ _)
  rw [val_main_v15_apply]; exact congrArg a.w (eq_ix2 _)

/-! ## The backward pass -/

theorem dW_at (i : S3328x2048.Idx) : val_main_v43 (F := Ideal) a.x a.g a.p i = a.L.dW (i 0) (i 1) := by
  rw [val_main_v43_apply, val_main_v21_apply, val_main_v19_apply, val_main_v18_apply]
  refine Finset.sum_congr rfl fun k _ => congrArg₂ (· * ·) ?_ (h_at a _)
  rw [val_main_v17_apply]; exact congrArg a.p (eq_ix2 _)

theorem dH_at (i : S4096x2048.Idx) : val_main_v20 (F := Ideal) a.w a.p i = a.L.dH (i 0) (i 1) := by
  rw [val_main_v20_apply]
  refine Finset.sum_congr rfl fun k _ => congrArg₂ (· * ·) ?_ ?_
  · rw [val_main_v17_apply]; exact congrArg a.p (eq_ix2 _)
  · rw [val_main_v15_apply]; exact congrArg a.w (eq_ix2 _)

/-- The index of the gain's gradient before its reshape to one row, -/
theorem flat_row (i : S1x2048.Idx) : idx_main_v24 i = ix1 (n0 := 2048) (i 1) := by
  refine (eq_ix1 _).trans (congrArg ix1 (Fin.ext ?_))
  have h0 : (i 0).val < 1 := (i 0).isLt
  show (i 0).val * 2048 + (i 1).val = (i 1).val
  omega

/-- and of a row's sum before its reshape to one column. -/
theorem flat_col (i : S4096x1.Idx) : idx_main_v29 i = ix1 (n0 := 4096) (i 0) := by
  refine (eq_ix1 _).trans (congrArg ix1 (Fin.ext ?_))
  have h1 : (i 1).val < 1 := (i 1).isLt
  show (i 0).val * 1 + (i 1).val = (i 0).val
  omega

theorem dG_at (i : S1x2048.Idx) : val_main_v24 (F := Ideal) a.x a.w a.p i = a.L.dG (i 1) := by
  rw [val_main_v24_apply, flat_row, val_main_v23_apply]
  show Ideal.ofBits .f32 0x00000000#32 + _ = _
  rw [ofBits_zero, zero_add]
  refine Finset.sum_congr rfl fun k _ => ?_
  rw [val_main_v22_apply]
  exact (congrArg₂ (· * ·) (xh_at a _) (dH_at a _)).trans (mul_comm (a.L.xh k (i 1)) (a.L.dH k (i 1)))

theorem dXh_at (i : S4096x2048.Idx) : val_main_v26 (F := Ideal) a.g a.w a.p i = a.L.dXh (i 0) (i 1) := by
  rw [val_main_v26_apply, val_main_v25_apply]
  exact congrArg₂ (· * ·) (dH_at a _) (congrArg a.g (eq_ix2 _))

/-- The mean's share of the norm's backward pass, the same along a row. -/
theorem mean_at (i : S4096x2048.Idx) : val_main_v37 (F := Ideal) a.x a.g a.w a.p i = a.L.meanR (i 0) := by
  rw [val_main_v37_apply, val_main_v36_apply]
  show Ideal.ofBits .f32 0x00000000#32 + _ = _
  rw [ofBits_zero, zero_add, Fin.sum_univ_one, val_main_v35_apply, val_main_v33_apply, val_main_v34_apply, drs_at,
    val_main_v29_apply, flat_col, val_main_v28_apply]
  show Ideal.div ((Ideal.ofBits .f32 0x00000000#32 + _) * _) (Ideal.ofBits .f32 0x45000000#32) = _
  rw [ofBits_zero, zero_add, ofBits_n2048]
  refine congrArg (fun s => Ideal.div (s * _) n2048) (Finset.sum_congr rfl fun k _ => ?_)
  rw [val_main_v27_apply]
  exact congrArg₂ (· * ·) (congrArg a.x (eq_ix2 _)) (dXh_at a _)

theorem dX_at (i : S4096x2048.Idx) : val_main_v41 (F := Ideal) a.x a.g a.w a.p a.o i = a.L.dX (i 0) (i 1) := by
  refine Eq.trans ?_ (dXR_eq _ _ _)
  rw [val_main_v41_apply, val_main_v39_apply, val_main_v32_apply, val_main_v31_apply, val_main_v30_apply,
    val_main_v38_apply, val_main_v40_apply, dXh_at, rs_at, mean_at]
  have ex : a.x i = a.L.X (i 0) (i 1) := congrArg a.x (eq_ix2 i)
  have eo : a.o i = a.L.O (i 0) (i 1) := congrArg a.o (eq_ix2 i)
  rw [ex, eo]
  rfl

end Cert.InReference

end
-- ==== Proof.StepTiles.lean ====
/-
  THE FIVE OPTIMISER CALLS ON ONE ENTRY AND ON ONE TILE: the AdamW step as functions of numbers, and what a tile
  of whole rows holds whose payloads are those functions of its entries. Every fact is stated for tiles of any size.
-/
module

public import proofs.«01_k».proof.Proof.Gen.AdamWIdeal.Skeleton
public import Idealize.ShloMosaic.Lib.Pointwise
public import Idealize.ShloMosaic.Lib.Pipeline.ValueKit

@[expose] public section

set_option maxRecDepth 16384

noncomputable section

/-! ## The step on numbers: `g` the gradient, `w` the weight, `m` and `v` the two moments -/

namespace Cert.Step

open Idealize.ShloMosaic
open scoped BigOperators

/-- The first moment after the step: 0.9·m + 0.1·g. -/
def newM (g m : EReal) : EReal := Ideal.ofBits .f32 0x3F666666#32 * m + Ideal.ofBits .f32 0x3DCCCCCD#32 * g

/-- The second moment after the step: 0.999·v + 0.001·g². -/
def newV (g v : EReal) : EReal := Ideal.ofBits .f32 0x3F7FBE77#32 * v + Ideal.ofBits .f32 0x3A83126F#32 * (g * g)

/-- The weight's change: −0.001·(m̂/(√v̂ + ε) + 0.01·w), the moments corrected for their start at 0. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

section
variable {n k : ℕ} (s : (⟨3, ![8, n, k]⟩ : Shape).Idx → EReal) (w m v : (⟨2, ![n, k]⟩ : Shape).Idx → EReal) (r : Fin n) (q : Fin k)

/-- The gradient of a weight's entry: the sum of the devices' parts. -/
def total : EReal := ∑ p : Fin 8, s (ix3 p r q)

/-- The entry's change, -/
def change : EReal := delta (total s r q) (w (ix2 r q)) (m (ix2 r q)) (v (ix2 r q))

/-- its first moment after the step, -/
def first : EReal := newM (total s r q) (m (ix2 r q))

/-- and its second. -/
def second : EReal := newV (total s r q) (v (ix2 r q))

end

end Cert.Step

namespace Cert.StepTiles

open Cert.AdamWIdeal Cert.AdamWIdeal.Gen Cert.Step
open Idealize.ShloMosaic

section
variable {n k : ℕ}

/-- A tile of all eight devices' parts. -/
abbrev Parts (n k : ℕ) : Shape := ⟨3, ![8, n, k]⟩

theorem inb (a : ℕ) (ha : a < 8) : ∀ d, (![a, 0, 0] : Fin 3 → ℕ) d + (![1, n, k] : Fin 3 → ℕ) d ≤ (Parts n k).size d
  | ⟨0, _⟩ => ha
  | ⟨1, _⟩ => (Nat.zero_add n).le
  | ⟨2, _⟩ => (Nat.zero_add k).le

/-- Device `a`'s part, loaded from the tile. -/
abbrev part (x : (Parts n k).Idx → Elt Ideal .bf16) (a : ℕ) (ha : a < 8 := by decide) : (⟨3, ![1, n, k]⟩ : Shape).Idx → Elt Ideal .bf16 :=
  View.ld (Val := Elt Ideal) (S := Parts n k) (e' := .bf16) x (Rect.unit ![a, 0, 0] ![1, n, k] (inb a ha))

theorem part_at (x : (Parts n k).Idx → Elt Ideal .bf16) (a : ℕ) (ha : a < 8) (p : Fin n) (q : Fin k) :
    part x a ha (ix3 0 p q) = x (ix3 ⟨a, ha⟩ p q) := by
  refine congrArg x (funext fun d => Fin.ext ?_)
  refine (Rect.idx_unit_val ..).trans ?_
  match d with
  | ⟨0, _⟩ => rfl
  | ⟨1, _⟩ => exact Nat.zero_add _
  | ⟨2, _⟩ => exact Nat.zero_add _

/-- The eight parts added one after another are the total. -/
theorem parts_total (x : (Parts n k).Idx → Elt Ideal .bf16) (p : Fin n) (q : Fin k) :
    ((part x 0) (ix3 0 p q) + (part x 1) (ix3 0 p q) + (part x 2) (ix3 0 p q) + (part x 3) (ix3 0 p q) + (part x 4) (ix3 0 p q)
      + (part x 5) (ix3 0 p q) + (part x 6) (ix3 0 p q) + (part x 7) (ix3 0 p q) : EReal) = total x p q := by
  rw [part_at x 0, part_at x 1, part_at x 2, part_at x 3, part_at x 4, part_at x 5, part_at x 6, part_at x 7]
  unfold total
  rw [Fin.sum_univ_eight]
  rfl

/-- The four tables of a tile or of an array: the total, the change, the two moments. -/
abbrev tables (s : (Parts n k).Idx → EReal) (w m v : (⟨2, ![n, k]⟩ : Shape).Idx → EReal) : Fin 4 → Fin n → Fin k → EReal :=
  ![total s, change s w m v, first s m, second s v]

/-- A tile of rows `ρ` of the arrays has the arrays' tables at those rows. -/
theorem tables_rows {n' : ℕ} {s : (Parts n k).Idx → EReal} {w m v : (⟨2, ![n, k]⟩ : Shape).Idx → EReal}
    {x : (Parts n' k).Idx → EReal} {w' m' v' : (⟨2, ![n', k]⟩ : Shape).Idx → EReal} (ρ : Fin n' → Fin n)
    (hs : ∀ a p q, x (ix3 a p q) = s (ix3 a (ρ p) q))
    (hw : ∀ p q, w' (ix2 p q) = w (ix2 (ρ p) q) ∧ m' (ix2 p q) = m (ix2 (ρ p) q) ∧ v' (ix2 p q) = v (ix2 (ρ p) q)) :
    tables x w' m' v' = fun o p q => tables s w m v o (ρ p) q := by
  have ht : total x = fun p q => total s (ρ p) q := funext₂ fun p q => Finset.sum_congr rfl fun a _ => hs a p q
  funext o p q
  obtain ⟨ew, em, ev⟩ := hw p q
  fin_cases o <;> simp [ht, change, first, second, ew, em, ev]

/-- A tile whose payloads are the step of its entries has its tables. -/
theorem tile (x : (Parts n k).Idx → Elt Ideal .bf16) (w m v g d a b : (⟨2, ![n, k]⟩ : Shape).Idx → EReal)
    (hg : ∀ p q, g (ix2 p q) = (part x 0) (ix3 0 p q) + (part x 1) (ix3 0 p q) + (part x 2) (ix3 0 p q) + (part x 3) (ix3 0 p q)
      + (part x 4) (ix3 0 p q) + (part x 5) (ix3 0 p q) + (part x 6) (ix3 0 p q) + (part x 7) (ix3 0 p q))
    (hd : ∀ i, d i = delta (g i) (w i) (m i) (v i)) (ha : ∀ i, a i = newM (g i) (m i)) (hb : ∀ i, b i = newV (g i) (v i))
    (p : Fin n) (q : Fin k) : g (ix2 p q) = tables x w m v 0 p q ∧ d (ix2 p q) = tables x w m v 1 p q
      ∧ a (ix2 p q) = tables x w m v 2 p q ∧ b (ix2 p q) = tables x w m v 3 p q := by
  have ht : g (ix2 p q) = total x p q := (hg p q).trans (parts_total x p q)
  exact ⟨ht, (hd _).trans (congrArg (fun y => delta y (w (ix2 p q)) (m (ix2 p q)) (v (ix2 p q))) ht),
    (ha _).trans (congrArg (fun y => newM y (m (ix2 p q))) ht), (hb _).trans (congrArg (fun y => newV y (v (ix2 p q))) ht)⟩

/-- A tile of rows `ρ` of the arrays whose payloads are the step of its entries has the arrays' tables at those rows. -/
theorem tile_rows {n' : ℕ} {s : (Parts n' k).Idx → EReal} {w m v : (⟨2, ![n', k]⟩ : Shape).Idx → EReal}
    {x : (Parts n k).Idx → Elt Ideal .bf16} {w' m' v' g d a b : (⟨2, ![n, k]⟩ : Shape).Idx → EReal} (ρ : Fin n → Fin n')
    (hr : (∀ a p q, x (ix3 a p q) = s (ix3 a (ρ p) q))
      ∧ ∀ p q, w' (ix2 p q) = w (ix2 (ρ p) q) ∧ m' (ix2 p q) = m (ix2 (ρ p) q) ∧ v' (ix2 p q) = v (ix2 (ρ p) q))
    (hg : ∀ p q, g (ix2 p q) = (part x 0) (ix3 0 p q) + (part x 1) (ix3 0 p q) + (part x 2) (ix3 0 p q) + (part x 3) (ix3 0 p q)
      + (part x 4) (ix3 0 p q) + (part x 5) (ix3 0 p q) + (part x 6) (ix3 0 p q) + (part x 7) (ix3 0 p q))
    (hd : ∀ i, d i = delta (g i) (w' i) (m' i) (v' i)) (ha : ∀ i, a i = newM (g i) (m' i)) (hb : ∀ i, b i = newV (g i) (v' i))
    (p : Fin n) (q : Fin k) : g (ix2 p q) = tables s w m v 0 (ρ p) q ∧ d (ix2 p q) = tables s w m v 1 (ρ p) q
      ∧ a (ix2 p q) = tables s w m v 2 (ρ p) q ∧ b (ix2 p q) = tables s w m v 3 (ρ p) q := by
  have key := tile x w' m' v' g d a b hg hd ha hb p q
  rw [tables_rows ρ hr.1 hr.2] at key
  exact key

/-- Row `p` of point `t`'s block of `n` rows. -/
def row {N n' : ℕ} (h : N * n = n') (t : Fin N) (p : Fin n) : Fin n' :=
  ⟨t.val * n + p.val, h ▸ (Nat.add_lt_add_left p.isLt _).trans_le (Nat.succ_mul t.val n ▸ Nat.mul_le_mul_right n t.isLt)⟩

/-- An index with given coordinates. -/
theorem ix2_ext {i j : (⟨2, ![n, k]⟩ : Shape).Idx} (h0 : (i 0).val = (j 0).val) (h1 : (i 1).val = (j 1).val) : i = j :=
  funext fun d => Fin.ext (match d with | ⟨0, _⟩ => h0 | ⟨1, _⟩ => h1)
theorem ix3_ext {i j : (Parts n k).Idx} (h0 : (i 0).val = (j 0).val) (h1 : (i 1).val = (j 1).val) (h2 : (i 2).val = (j 2).val) : i = j :=
  funext fun d => Fin.ext (match d with | ⟨0, _⟩ => h0 | ⟨1, _⟩ => h1 | ⟨2, _⟩ => h2)
/-- An entry at given coordinates. -/
theorem at_ext {f : Fin n → Fin k → EReal} {p p' : Fin n} {q q' : Fin k} (hp : p.val = p'.val) (hq : q.val = q'.val) : f p q = f p' q' :=
  congrArg₂ f (Fin.ext hp) (Fin.ext hq)

end

end Cert.StepTiles

end
-- ==== Proof.StepCalls.lean ====
/-
  WHAT THE FIVE OPTIMISER CALLS LEAVE in their result arrays: the tables of the arrays they read. A call's point works on a
  block of whole rows, the eight parts' alike: what that gives is Proof/StepTiles.lean's, and is applied here to each call.
-/
module

public import proofs.«01_k».proof.Proof.Gen.AdamWIdeal.Frame
public import proofs.«01_k».proof.Proof.StepTiles
public import Idealize.ShloMosaic.Lib.Pipeline.ValueKit

@[expose] public section

set_option maxRecDepth 16384

noncomputable section

namespace Cert.StepCalls

open Cert.AdamWIdeal Cert.AdamWIdeal.Gen Cert.Step Cert.StepTiles
open Idealize.ShloMosaic Idealize.ShloMosaic.TcCoe
open Idealize.ShloMosaic.Pipeline (Dat)
open scoped BigOperators

/-- The sums of the eight parts, of 176 rows, of 128 rows and of 208 rows. -/
theorem sum_176 (a b c d e f g h : FVec Ideal S1x176x2048 .bf16) (p : Fin 176) (q : Fin 2048) :
    k0_pay4 (F := Ideal) a b c d e f g h (ix2 p q) = a (ix3 0 p q) + b (ix3 0 p q) + c (ix3 0 p q) + d (ix3 0 p q) + e (ix3 0 p q)
      + f (ix3 0 p q) + g (ix3 0 p q) + h (ix3 0 p q) := by
  pointwise [k0_pay4]
theorem sum_128 (a b c d e f g h : FVec Ideal S1x128x2048 .bf16) (p : Fin 128) (q : Fin 2048) :
    k3_pay4 (F := Ideal) a b c d e f g h (ix2 p q) = a (ix3 0 p q) + b (ix3 0 p q) + c (ix3 0 p q) + d (ix3 0 p q) + e (ix3 0 p q)
      + f (ix3 0 p q) + g (ix3 0 p q) + h (ix3 0 p q) := by
  pointwise [k3_pay4]
theorem sum_208 (a b c d e f g h : FVec Ideal S1x208x2048 .bf16) (p : Fin 208) (q : Fin 2048) :
    k4_pay4 (F := Ideal) a b c d e f g h (ix2 p q) = a (ix3 0 p q) + b (ix3 0 p q) + c (ix3 0 p q) + d (ix3 0 p q) + e (ix3 0 p q)
      + f (ix3 0 p q) + g (ix3 0 p q) + h (ix3 0 p q) := by
  pointwise [k4_pay4]

variable (V : (c : Dev nD) → (b : Ref sig .tc) → Buf (Elt Ideal) ((c : Thread nD τ).loc b)) (c : Dev nD)

/-! ## `adamw_w_ffn_down` -/

/-- Where the blocks lie, of 176 rows: at point `t` the `t`-th. -/
theorem idx0 : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

abbrev row0 : Fin cfg0.N → Fin 176 → Fin 704 := row (N := 4) rfl

/-- The tables of the arrays the call reads. -/
abbrev T0 : Fin 4 → Fin 704 → Fin 2048 → EReal := tables (V c main_v0) (V c main_arg1) (V c main_arg2) (V c main_arg3)

/-- The blocks a point reads are rows of the arrays. -/
theorem reads0 (t : Fin cfg0.N) :
    (∀ a p q, (iblk0 V c 0 t : (Parts 176 2048).Idx → EReal) (ix3 a p q) = (V c main_v0 : (Parts 704 2048).Idx → EReal) (ix3 a (row0 t p) q))
    ∧ ∀ p q, (iblk0 V c 1 t : S176x2048.Idx → EReal) (ix2 p q) = (V c main_arg1 : S704x2048.Idx → EReal) (ix2 (row0 t p) q)
      ∧ (iblk0 V c 2 t : S176x2048.Idx → EReal) (ix2 p q) = (V c main_arg2 : S704x2048.Idx → EReal) (ix2 (row0 t p) q)
      ∧ (iblk0 V c 3 t : S176x2048.Idx → EReal) (ix2 p q) = (V c main_arg3 : S704x2048.Idx → EReal) (ix2 (row0 t p) q) := by
  refine ⟨fun a p q => ?_, fun p q => ⟨?_, ?_, ?_⟩⟩ <;> blk_simp [iblk0] <;>
    first | refine congrArg _ (ix3_ext ?_ ?_ ?_) | refine congrArg _ (ix2_ext ?_ ?_)
  all_goals blk_simp [idx0, row0, row]

/-- What a point leaves in its blocks. -/
theorem outs0 (t : Fin cfg0.N) (p : Fin 176) (q : Fin 2048) :
    (outsAt0 V c t).1 (ix2 p q) = T0 V c 0 (row0 t p) q ∧ (outsAt0 V c t).2.1 (ix2 p q) = T0 V c 1 (row0 t p) q
    ∧ (outsAt0 V c t).2.2.1 (ix2 p q) = T0 V c 2 (row0 t p) q ∧ (outsAt0 V c t).2.2.2 (ix2 p q) = T0 V c 3 (row0 t p) q := by
  unfold outsAt0
  frame_out
  exact tile_rows (row0 t) (reads0 V c t) (sum_176 _ _ _ _ _ _ _ _) (fun _ => rfl) (fun _ => rfl) (fun _ => rfl) p q

set_option maxHeartbeats 800000 in
/-- What the call leaves. -/
theorem call0 : (dat0 V c).arrAt 4 cfg0.N = (fun i : S704x2048.Idx => T0 V c 0 (i 0) (i 1))
    ∧ (dat0 V c).arrAt 5 cfg0.N = (fun i : S704x2048.Idx => T0 V c 1 (i 0) (i 1))
    ∧ (dat0 V c).arrAt 6 cfg0.N = (fun i : S704x2048.Idx => T0 V c 2 (i 0) (i 1))
    ∧ (dat0 V c).arrAt 7 cfg0.N = (fun i : S704x2048.Idx => T0 V c 3 (i 0) (i 1)) := by
  refine ⟨(dat0 V c).arrAt_eq_of_covers 4 _ (by decide +kernel) fun t hf y => ?_,
    (dat0 V c).arrAt_eq_of_covers 5 _ (by decide +kernel) fun t hf y => ?_,
    (dat0 V c).arrAt_eq_of_covers 6 _ (by decide +kernel) fun t hf y => ?_,
    (dat0 V c).arrAt_eq_of_covers 7 _ (by decide +kernel) fun t hf y => ?_⟩ <;> blk_simp <;> idx_vars y
  · exact (congrFun (after0_4 V c t) _).trans ((outs0 V c t y0 y1).1.trans (at_ext (by blk_simp [idx0, row0, row]) (by blk_simp [idx0])))
  · exact (congrFun (after0_5 V c t) _).trans ((outs0 V c t y0 y1).2.1.trans (at_ext (by blk_simp [idx0, row0, row]) (by blk_simp [idx0])))
  · exact (congrFun (after0_6 V c t) _).trans ((outs0 V c t y0 y1).2.2.1.trans (at_ext (by blk_simp [idx0, row0, row]) (by blk_simp [idx0])))
  · exact (congrFun (after0_7 V c t) _).trans ((outs0 V c t y0 y1).2.2.2.trans (at_ext (by blk_simp [idx0, row0, row]) (by blk_simp [idx0])))

/-! ## `adamw_w_ffn_gate` -/

/-- Where the blocks lie, of 176 rows: at point `t` the `t`-th. -/
theorem idx1 : ∀ t : Fin cfg1.N, win1_0.index t = ![0, t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] :=
  (by decide +kernel : ∀ t : Fin grid1.N, _)

abbrev row1 : Fin cfg1.N → Fin 176 → Fin 704 := row (N := 4) rfl

/-- The tables of the arrays the call reads. -/
abbrev T1 : Fin 4 → Fin 704 → Fin 2048 → EReal := tables (V c main_v2) (V c main_arg5) (V c main_arg6) (V c main_arg7)

/-- The blocks a point reads are rows of the arrays. -/
theorem reads1 (t : Fin cfg1.N) :
    (∀ a p q, (iblk1 V c 0 t : (Parts 176 2048).Idx → EReal) (ix3 a p q) = (V c main_v2 : (Parts 704 2048).Idx → EReal) (ix3 a (row1 t p) q))
    ∧ ∀ p q, (iblk1 V c 1 t : S176x2048.Idx → EReal) (ix2 p q) = (V c main_arg5 : S704x2048.Idx → EReal) (ix2 (row1 t p) q)
      ∧ (iblk1 V c 2 t : S176x2048.Idx → EReal) (ix2 p q) = (V c main_arg6 : S704x2048.Idx → EReal) (ix2 (row1 t p) q)
      ∧ (iblk1 V c 3 t : S176x2048.Idx → EReal) (ix2 p q) = (V c main_arg7 : S704x2048.Idx → EReal) (ix2 (row1 t p) q) := by
  refine ⟨fun a p q => ?_, fun p q => ⟨?_, ?_, ?_⟩⟩ <;> blk_simp [iblk1] <;>
    first | refine congrArg _ (ix3_ext ?_ ?_ ?_) | refine congrArg _ (ix2_ext ?_ ?_)
  all_goals blk_simp [idx1, row1, row]

/-- What a point leaves in its blocks. -/
theorem outs1 (t : Fin cfg1.N) (p : Fin 176) (q : Fin 2048) :
    (outsAt1 V c t).1 (ix2 p q) = T1 V c 0 (row1 t p) q ∧ (outsAt1 V c t).2.1 (ix2 p q) = T1 V c 1 (row1 t p) q
    ∧ (outsAt1 V c t).2.2.1 (ix2 p q) = T1 V c 2 (row1 t p) q ∧ (outsAt1 V c t).2.2.2 (ix2 p q) = T1 V c 3 (row1 t p) q := by
  unfold outsAt1
  frame_out
  exact tile_rows (row1 t) (reads1 V c t) (sum_176 _ _ _ _ _ _ _ _) (fun _ => rfl) (fun _ => rfl) (fun _ => rfl) p q

set_option maxHeartbeats 800000 in
/-- What the call leaves. -/
theorem call1 : (dat1 V c).arrAt 4 cfg1.N = (fun i : S704x2048.Idx => T1 V c 0 (i 0) (i 1))
    ∧ (dat1 V c).arrAt 5 cfg1.N = (fun i : S704x2048.Idx => T1 V c 1 (i 0) (i 1))
    ∧ (dat1 V c).arrAt 6 cfg1.N = (fun i : S704x2048.Idx => T1 V c 2 (i 0) (i 1))
    ∧ (dat1 V c).arrAt 7 cfg1.N = (fun i : S704x2048.Idx => T1 V c 3 (i 0) (i 1)) := by
  refine ⟨(dat1 V c).arrAt_eq_of_covers 4 _ (by decide +kernel) fun t hf y => ?_,
    (dat1 V c).arrAt_eq_of_covers 5 _ (by decide +kernel) fun t hf y => ?_,
    (dat1 V c).arrAt_eq_of_covers 6 _ (by decide +kernel) fun t hf y => ?_,
    (dat1 V c).arrAt_eq_of_covers 7 _ (by decide +kernel) fun t hf y => ?_⟩ <;> blk_simp <;> idx_vars y
  · exact (congrFun (after1_4 V c t) _).trans ((outs1 V c t y0 y1).1.trans (at_ext (by blk_simp [idx1, row1, row]) (by blk_simp [idx1])))
  · exact (congrFun (after1_5 V c t) _).trans ((outs1 V c t y0 y1).2.1.trans (at_ext (by blk_simp [idx1, row1, row]) (by blk_simp [idx1])))
  · exact (congrFun (after1_6 V c t) _).trans ((outs1 V c t y0 y1).2.2.1.trans (at_ext (by blk_simp [idx1, row1, row]) (by blk_simp [idx1])))
  · exact (congrFun (after1_7 V c t) _).trans ((outs1 V c t y0 y1).2.2.2.trans (at_ext (by blk_simp [idx1, row1, row]) (by blk_simp [idx1])))

/-! ## `adamw_w_ffn_up` -/

/-- Where the blocks lie, of 176 rows: at point `t` the `t`-th. -/
theorem idx2 : ∀ t : Fin cfg2.N, win2_0.index t = ![0, t.val, 0] ∧ win2_1.index t = ![t.val, 0] ∧ win2_2.index t = ![t.val, 0]
    ∧ win2_3.index t = ![t.val, 0] ∧ win2_4.index t = ![t.val, 0] ∧ win2_5.index t = ![t.val, 0] ∧ win2_6.index t = ![t.val, 0]
    ∧ win2_7.index t = ![t.val, 0] :=
  (by decide +kernel : ∀ t : Fin grid2.N, _)

abbrev row2 : Fin cfg2.N → Fin 176 → Fin 704 := row (N := 4) rfl

/-- The tables of the arrays the call reads. -/
abbrev T2 : Fin 4 → Fin 704 → Fin 2048 → EReal := tables (V c main_v4) (V c main_arg9) (V c main_arg10) (V c main_arg11)

/-- The blocks a point reads are rows of the arrays. -/
theorem reads2 (t : Fin cfg2.N) :
    (∀ a p q, (iblk2 V c 0 t : (Parts 176 2048).Idx → EReal) (ix3 a p q) = (V c main_v4 : (Parts 704 2048).Idx → EReal) (ix3 a (row2 t p) q))
    ∧ ∀ p q, (iblk2 V c 1 t : S176x2048.Idx → EReal) (ix2 p q) = (V c main_arg9 : S704x2048.Idx → EReal) (ix2 (row2 t p) q)
      ∧ (iblk2 V c 2 t : S176x2048.Idx → EReal) (ix2 p q) = (V c main_arg10 : S704x2048.Idx → EReal) (ix2 (row2 t p) q)
      ∧ (iblk2 V c 3 t : S176x2048.Idx → EReal) (ix2 p q) = (V c main_arg11 : S704x2048.Idx → EReal) (ix2 (row2 t p) q) := by
  refine ⟨fun a p q => ?_, fun p q => ⟨?_, ?_, ?_⟩⟩ <;> blk_simp [iblk2] <;>
    first | refine congrArg _ (ix3_ext ?_ ?_ ?_) | refine congrArg _ (ix2_ext ?_ ?_)
  all_goals blk_simp [idx2, row2, row]

/-- What a point leaves in its blocks. -/
theorem outs2 (t : Fin cfg2.N) (p : Fin 176) (q : Fin 2048) :
    (outsAt2 V c t).1 (ix2 p q) = T2 V c 0 (row2 t p) q ∧ (outsAt2 V c t).2.1 (ix2 p q) = T2 V c 1 (row2 t p) q
    ∧ (outsAt2 V c t).2.2.1 (ix2 p q) = T2 V c 2 (row2 t p) q ∧ (outsAt2 V c t).2.2.2 (ix2 p q) = T2 V c 3 (row2 t p) q := by
  unfold outsAt2
  frame_out
  exact tile_rows (row2 t) (reads2 V c t) (sum_176 _ _ _ _ _ _ _ _) (fun _ => rfl) (fun _ => rfl) (fun _ => rfl) p q

set_option maxHeartbeats 800000 in
/-- What the call leaves. -/
theorem call2 : (dat2 V c).arrAt 4 cfg2.N = (fun i : S704x2048.Idx => T2 V c 0 (i 0) (i 1))
    ∧ (dat2 V c).arrAt 5 cfg2.N = (fun i : S704x2048.Idx => T2 V c 1 (i 0) (i 1))
    ∧ (dat2 V c).arrAt 6 cfg2.N = (fun i : S704x2048.Idx => T2 V c 2 (i 0) (i 1))
    ∧ (dat2 V c).arrAt 7 cfg2.N = (fun i : S704x2048.Idx => T2 V c 3 (i 0) (i 1)) := by
  refine ⟨(dat2 V c).arrAt_eq_of_covers 4 _ (by decide +kernel) fun t hf y => ?_,
    (dat2 V c).arrAt_eq_of_covers 5 _ (by decide +kernel) fun t hf y => ?_,
    (dat2 V c).arrAt_eq_of_covers 6 _ (by decide +kernel) fun t hf y => ?_,
    (dat2 V c).arrAt_eq_of_covers 7 _ (by decide +kernel) fun t hf y => ?_⟩ <;> blk_simp <;> idx_vars y
  · exact (congrFun (after2_4 V c t) _).trans ((outs2 V c t y0 y1).1.trans (at_ext (by blk_simp [idx2, row2, row]) (by blk_simp [idx2])))
  · exact (congrFun (after2_5 V c t) _).trans ((outs2 V c t y0 y1).2.1.trans (at_ext (by blk_simp [idx2, row2, row]) (by blk_simp [idx2])))
  · exact (congrFun (after2_6 V c t) _).trans ((outs2 V c t y0 y1).2.2.1.trans (at_ext (by blk_simp [idx2, row2, row]) (by blk_simp [idx2])))
  · exact (congrFun (after2_7 V c t) _).trans ((outs2 V c t y0 y1).2.2.2.trans (at_ext (by blk_simp [idx2, row2, row]) (by blk_simp [idx2])))

/-! ## `adamw_w_out` -/

/-- Where the blocks lie, of 128 rows: at point `t` the `t`-th. -/
theorem idx3 : ∀ t : Fin cfg3.N, win3_0.index t = ![0, t.val, 0] ∧ win3_1.index t = ![t.val, 0] ∧ win3_2.index t = ![t.val, 0]
    ∧ win3_3.index t = ![t.val, 0] ∧ win3_4.index t = ![t.val, 0] ∧ win3_5.index t = ![t.val, 0] ∧ win3_6.index t = ![t.val, 0]
    ∧ win3_7.index t = ![t.val, 0] :=
  (by decide +kernel : ∀ t : Fin grid3.N, _)

abbrev row3 : Fin cfg3.N → Fin 128 → Fin 256 := row (N := 2) rfl

/-- The tables of the arrays the call reads. -/
abbrev T3 : Fin 4 → Fin 256 → Fin 2048 → EReal := tables (V c main_v6) (V c main_arg13) (V c main_arg14) (V c main_arg15)

/-- The blocks a point reads are rows of the arrays. -/
theorem reads3 (t : Fin cfg3.N) :
    (∀ a p q, (iblk3 V c 0 t : (Parts 128 2048).Idx → EReal) (ix3 a p q) = (V c main_v6 : (Parts 256 2048).Idx → EReal) (ix3 a (row3 t p) q))
    ∧ ∀ p q, (iblk3 V c 1 t : S128x2048.Idx → EReal) (ix2 p q) = (V c main_arg13 : S256x2048.Idx → EReal) (ix2 (row3 t p) q)
      ∧ (iblk3 V c 2 t : S128x2048.Idx → EReal) (ix2 p q) = (V c main_arg14 : S256x2048.Idx → EReal) (ix2 (row3 t p) q)
      ∧ (iblk3 V c 3 t : S128x2048.Idx → EReal) (ix2 p q) = (V c main_arg15 : S256x2048.Idx → EReal) (ix2 (row3 t p) q) := by
  refine ⟨fun a p q => ?_, fun p q => ⟨?_, ?_, ?_⟩⟩ <;> blk_simp [iblk3] <;>
    first | refine congrArg _ (ix3_ext ?_ ?_ ?_) | refine congrArg _ (ix2_ext ?_ ?_)
  all_goals blk_simp [idx3, row3, row]

/-- What a point leaves in its blocks. -/
theorem outs3 (t : Fin cfg3.N) (p : Fin 128) (q : Fin 2048) :
    (outsAt3 V c t).1 (ix2 p q) = T3 V c 0 (row3 t p) q ∧ (outsAt3 V c t).2.1 (ix2 p q) = T3 V c 1 (row3 t p) q
    ∧ (outsAt3 V c t).2.2.1 (ix2 p q) = T3 V c 2 (row3 t p) q ∧ (outsAt3 V c t).2.2.2 (ix2 p q) = T3 V c 3 (row3 t p) q := by
  unfold outsAt3
  frame_out
  exact tile_rows (row3 t) (reads3 V c t) (sum_128 _ _ _ _ _ _ _ _) (fun _ => rfl) (fun _ => rfl) (fun _ => rfl) p q

set_option maxHeartbeats 800000 in
/-- What the call leaves. -/
theorem call3 : (dat3 V c).arrAt 4 cfg3.N = (fun i : S256x2048.Idx => T3 V c 0 (i 0) (i 1))
    ∧ (dat3 V c).arrAt 5 cfg3.N = (fun i : S256x2048.Idx => T3 V c 1 (i 0) (i 1))
    ∧ (dat3 V c).arrAt 6 cfg3.N = (fun i : S256x2048.Idx => T3 V c 2 (i 0) (i 1))
    ∧ (dat3 V c).arrAt 7 cfg3.N = (fun i : S256x2048.Idx => T3 V c 3 (i 0) (i 1)) := by
  refine ⟨(dat3 V c).arrAt_eq_of_covers 4 _ (by decide +kernel) fun t hf y => ?_,
    (dat3 V c).arrAt_eq_of_covers 5 _ (by decide +kernel) fun t hf y => ?_,
    (dat3 V c).arrAt_eq_of_covers 6 _ (by decide +kernel) fun t hf y => ?_,
    (dat3 V c).arrAt_eq_of_covers 7 _ (by decide +kernel) fun t hf y => ?_⟩ <;> blk_simp <;> idx_vars y
  · exact (congrFun (after3_4 V c t) _).trans ((outs3 V c t y0 y1).1.trans (at_ext (by blk_simp [idx3, row3, row]) (by blk_simp [idx3])))
  · exact (congrFun (after3_5 V c t) _).trans ((outs3 V c t y0 y1).2.1.trans (at_ext (by blk_simp [idx3, row3, row]) (by blk_simp [idx3])))
  · exact (congrFun (after3_6 V c t) _).trans ((outs3 V c t y0 y1).2.2.1.trans (at_ext (by blk_simp [idx3, row3, row]) (by blk_simp [idx3])))
  · exact (congrFun (after3_7 V c t) _).trans ((outs3 V c t y0 y1).2.2.2.trans (at_ext (by blk_simp [idx3, row3, row]) (by blk_simp [idx3])))

/-! ## `adamw_w_in` -/

/-- Where the blocks lie, of 208 rows: at point `t` the `t`-th. -/
theorem idx4 : ∀ t : Fin cfg4.N, win4_0.index t = ![0, t.val, 0] ∧ win4_1.index t = ![t.val, 0] ∧ win4_2.index t = ![t.val, 0]
    ∧ win4_3.index t = ![t.val, 0] ∧ win4_4.index t = ![t.val, 0] ∧ win4_5.index t = ![t.val, 0] ∧ win4_6.index t = ![t.val, 0]
    ∧ win4_7.index t = ![t.val, 0] :=
  (by decide +kernel : ∀ t : Fin grid4.N, _)

abbrev row4 : Fin cfg4.N → Fin 208 → Fin 416 := row (N := 2) rfl

/-- The tables of the arrays the call reads. -/
abbrev T4 : Fin 4 → Fin 416 → Fin 2048 → EReal := tables (V c main_v8) (V c main_arg17) (V c main_arg18) (V c main_arg19)

/-- The blocks a point reads are rows of the arrays. -/
theorem reads4 (t : Fin cfg4.N) :
    (∀ a p q, (iblk4 V c 0 t : (Parts 208 2048).Idx → EReal) (ix3 a p q) = (V c main_v8 : (Parts 416 2048).Idx → EReal) (ix3 a (row4 t p) q))
    ∧ ∀ p q, (iblk4 V c 1 t : S208x2048.Idx → EReal) (ix2 p q) = (V c main_arg17 : S416x2048.Idx → EReal) (ix2 (row4 t p) q)
      ∧ (iblk4 V c 2 t : S208x2048.Idx → EReal) (ix2 p q) = (V c main_arg18 : S416x2048.Idx → EReal) (ix2 (row4 t p) q)
      ∧ (iblk4 V c 3 t : S208x2048.Idx → EReal) (ix2 p q) = (V c main_arg19 : S416x2048.Idx → EReal) (ix2 (row4 t p) q) := by
  refine ⟨fun a p q => ?_, fun p q => ⟨?_, ?_, ?_⟩⟩ <;> blk_simp [iblk4] <;>
    first | refine congrArg _ (ix3_ext ?_ ?_ ?_) | refine congrArg _ (ix2_ext ?_ ?_)
  all_goals blk_simp [idx4, row4, row]

/-- What a point leaves in its blocks. -/
theorem outs4 (t : Fin cfg4.N) (p : Fin 208) (q : Fin 2048) :
    (outsAt4 V c t).1 (ix2 p q) = T4 V c 0 (row4 t p) q ∧ (outsAt4 V c t).2.1 (ix2 p q) = T4 V c 1 (row4 t p) q
    ∧ (outsAt4 V c t).2.2.1 (ix2 p q) = T4 V c 2 (row4 t p) q ∧ (outsAt4 V c t).2.2.2 (ix2 p q) = T4 V c 3 (row4 t p) q := by
  unfold outsAt4
  frame_out
  exact tile_rows (row4 t) (reads4 V c t) (sum_208 _ _ _ _ _ _ _ _) (fun _ => rfl) (fun _ => rfl) (fun _ => rfl) p q

set_option maxHeartbeats 800000 in
/-- What the call leaves. -/
theorem call4 : (dat4 V c).arrAt 4 cfg4.N = (fun i : S416x2048.Idx => T4 V c 0 (i 0) (i 1))
    ∧ (dat4 V c).arrAt 5 cfg4.N = (fun i : S416x2048.Idx => T4 V c 1 (i 0) (i 1))
    ∧ (dat4 V c).arrAt 6 cfg4.N = (fun i : S416x2048.Idx => T4 V c 2 (i 0) (i 1))
    ∧ (dat4 V c).arrAt 7 cfg4.N = (fun i : S416x2048.Idx => T4 V c 3 (i 0) (i 1)) := by
  refine ⟨(dat4 V c).arrAt_eq_of_covers 4 _ (by decide +kernel) fun t hf y => ?_,
    (dat4 V c).arrAt_eq_of_covers 5 _ (by decide +kernel) fun t hf y => ?_,
    (dat4 V c).arrAt_eq_of_covers 6 _ (by decide +kernel) fun t hf y => ?_,
    (dat4 V c).arrAt_eq_of_covers 7 _ (by decide +kernel) fun t hf y => ?_⟩ <;> blk_simp <;> idx_vars y
  · exact (congrFun (after4_4 V c t) _).trans ((outs4 V c t y0 y1).1.trans (at_ext (by blk_simp [idx4, row4, row]) (by blk_simp [idx4])))
  · exact (congrFun (after4_5 V c t) _).trans ((outs4 V c t y0 y1).2.1.trans (at_ext (by blk_simp [idx4, row4, row]) (by blk_simp [idx4])))
  · exact (congrFun (after4_6 V c t) _).trans ((outs4 V c t y0 y1).2.2.1.trans (at_ext (by blk_simp [idx4, row4, row]) (by blk_simp [idx4])))
  · exact (congrFun (after4_7 V c t) _).trans ((outs4 V c t y0 y1).2.2.2.trans (at_ext (by blk_simp [idx4, row4, row]) (by blk_simp [idx4])))

end Cert.StepCalls

end
-- ==== Proof.StepRun.lean ====
/-
  THE RUN of the idealized optimiser calls with their results: what the buffers hold from call to call, the launch over
  the program's segments, and the twenty results read off the contents the program ends with.
-/
module

public import proofs.«01_k».proof.Proof.Gen.AdamWIdeal.Frame
public import proofs.«01_k».proof.Proof.StepCalls

@[expose] public section

set_option maxRecDepth 16384

noncomputable section

namespace Cert.StepRun

open Cert.AdamWIdeal Cert.AdamWIdeal.Gen Cert.Step Cert.StepTiles Cert.StepCalls
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

section
variable (c : Dev nD)

/-- The argument a launch gives. -/
abbrev given (r : Ref sig .tc) := m ((c : Thread nD τ).loc r)

/-- The tables of the five calls' arguments. -/
abbrev A0 : Fin 4 → Fin 704 → Fin 2048 → EReal :=
  tables (given m c main_arg0) (given m c main_arg1) (given m c main_arg2) (given m c main_arg3)
abbrev A1 : Fin 4 → Fin 704 → Fin 2048 → EReal :=
  tables (given m c main_arg4) (given m c main_arg5) (given m c main_arg6) (given m c main_arg7)
abbrev A2 : Fin 4 → Fin 704 → Fin 2048 → EReal :=
  tables (given m c main_arg8) (given m c main_arg9) (given m c main_arg10) (given m c main_arg11)
abbrev A3 : Fin 4 → Fin 256 → Fin 2048 → EReal :=
  tables (given m c main_arg12) (given m c main_arg13) (given m c main_arg14) (given m c main_arg15)
abbrev A4 : Fin 4 → Fin 416 → Fin 2048 → EReal :=
  tables (given m c main_arg16) (given m c main_arg17) (given m c main_arg18) (given m c main_arg19)

/-! ## From call to call -/

/-- A call's array is a result of its, or is not written: a buffer that is no result is only read. -/
theorem reads_of {n : ℕ} {A : Fin n → Ref sig .tc} {o : Fin n → Bool} {l : List (Ref sig .tc)} {r : Ref sig .tc} (h : r ∉ l)
    (hl : ∀ w, o w = true → A w ∈ l) (w : Fin n) (e : A w = r) : o w = false := by
  cases hw : o w with
  | false => rfl
  | true => exact absurd (e ▸ hl w hw) h

/-- A call and the cast before it leave what they do not fill, -/
theorem step1 (r : Ref sig .tc) (h : r ∉ hostOps1_W ∧ r ∉ [main_v3_0, main_v3_1, main_v3_2, main_v3_3]) : V4 m ρ c r = V2 m ρ c r :=
  (W4_of m ρ c r (reads_of h.2 (by decide +kernel))).trans (W3_of m ρ c r h.1)
theorem step2 (r : Ref sig .tc) (h : r ∉ hostOps2_W ∧ r ∉ [main_v5_0, main_v5_1, main_v5_2, main_v5_3]) : V6 m ρ c r = V4 m ρ c r :=
  (W6_of m ρ c r (reads_of h.2 (by decide +kernel))).trans (W5_of m ρ c r h.1)
theorem step3 (r : Ref sig .tc) (h : r ∉ hostOps3_W ∧ r ∉ [main_v7_0, main_v7_1, main_v7_2, main_v7_3]) : V8 m ρ c r = V6 m ρ c r :=
  (W8_of m ρ c r (reads_of h.2 (by decide +kernel))).trans (W7_of m ρ c r h.1)
theorem step4 (r : Ref sig .tc) (h : r ∉ hostOps4_W ∧ r ∉ [main_v9_0, main_v9_1, main_v9_2, main_v9_3]) : V10 m ρ c r = V8 m ρ c r :=
  (W10_of m ρ c r (reads_of h.2 (by decide +kernel))).trans (W9_of m ρ c r h.1)
/-- so the end holds what each call left. -/
theorem keep4 (r : Ref sig .tc)
    (h : (r ∉ hostOps4_W ∧ r ∉ [main_v9_0, main_v9_1, main_v9_2, main_v9_3])) :
    V10 m ρ c r = V8 m ρ c r := step4 m ρ c r h
theorem keep3 (r : Ref sig .tc)
    (h : (r ∉ hostOps3_W ∧ r ∉ [main_v7_0, main_v7_1, main_v7_2, main_v7_3]) ∧ (r ∉ hostOps4_W ∧ r ∉ [main_v9_0, main_v9_1, main_v9_2, main_v9_3])) :
    V10 m ρ c r = V6 m ρ c r := (keep4 m ρ c r h.2).trans (step3 m ρ c r h.1)
theorem keep2 (r : Ref sig .tc)
    (h : (r ∉ hostOps2_W ∧ r ∉ [main_v5_0, main_v5_1, main_v5_2, main_v5_3]) ∧ (r ∉ hostOps3_W ∧ r ∉ [main_v7_0, main_v7_1, main_v7_2, main_v7_3]) ∧ (r ∉ hostOps4_W ∧ r ∉ [main_v9_0, main_v9_1, main_v9_2, main_v9_3])) :
    V10 m ρ c r = V4 m ρ c r := (keep3 m ρ c r h.2).trans (step2 m ρ c r h.1)
theorem keep1 (r : Ref sig .tc)
    (h : (r ∉ hostOps1_W ∧ r ∉ [main_v3_0, main_v3_1, main_v3_2, main_v3_3]) ∧ (r ∉ hostOps2_W ∧ r ∉ [main_v5_0, main_v5_1, main_v5_2, main_v5_3]) ∧ (r ∉ hostOps3_W ∧ r ∉ [main_v7_0, main_v7_1, main_v7_2, main_v7_3]) ∧ (r ∉ hostOps4_W ∧ r ∉ [main_v9_0, main_v9_1, main_v9_2, main_v9_3])) :
    V10 m ρ c r = V2 m ρ c r := (keep2 m ρ c r h.2).trans (step1 m ρ c r h.1)

/-- Equal arrays have equal tables. -/
theorem tables_congr {n k : ℕ} {s s' : (Parts n k).Idx → EReal} {w w' a a' b b' : (⟨2, ![n, k]⟩ : Shape).Idx → EReal} (hs : s = s')
    (hw : w = w') (ha : a = a') (hb : b = b') : tables s w a b = tables s' w' a' b' := by
  rw [hs, hw, ha, hb]

/-- The parts as a call reads them: a cast of the argument's, -/
theorem parts_at1 : V1 m ρ c main_v0 = given m c main_arg0 := by
  show StableHlo.after hostOps0 (W0 m ρ c) (Proc.devRef .tc main_v0) = _
  entry_read
  exact W0_args m ρ c main_arg0 (by decide)
theorem parts_at3 : V3 m ρ c main_v2 = given m c main_arg4 := by
  show StableHlo.after hostOps1 (W2 m ρ c) (Proc.devRef .tc main_v2) = _
  entry_read
  exact W2_args m ρ c main_arg4 (by decide)
theorem parts_at5 : V5 m ρ c main_v4 = given m c main_arg8 := by
  show StableHlo.after hostOps2 (W4 m ρ c) (Proc.devRef .tc main_v4) = _
  entry_read
  exact W4_args m ρ c main_arg8 (by decide)
theorem parts_at7 : V7 m ρ c main_v6 = given m c main_arg12 := by
  show StableHlo.after hostOps3 (W6 m ρ c) (Proc.devRef .tc main_v6) = _
  entry_read
  exact W6_args m ρ c main_arg12 (by decide)
theorem parts_at9 : V9 m ρ c main_v8 = given m c main_arg16 := by
  show StableHlo.after hostOps4 (W8 m ρ c) (Proc.devRef .tc main_v8) = _
  entry_read
  exact W8_args m ρ c main_arg16 (by decide)
/-- and the tables a call reads are its arguments'. -/
theorem T0_eq : T0 (V1 m ρ) c = A0 m c :=
  tables_congr (parts_at1 m ρ c) (W1_args m ρ c main_arg1 (by decide)) (W1_args m ρ c main_arg2 (by decide))
    (W1_args m ρ c main_arg3 (by decide))
theorem T1_eq : T1 (V3 m ρ) c = A1 m c :=
  tables_congr (parts_at3 m ρ c) (W3_args m ρ c main_arg5 (by decide)) (W3_args m ρ c main_arg6 (by decide))
    (W3_args m ρ c main_arg7 (by decide))
theorem T2_eq : T2 (V5 m ρ) c = A2 m c :=
  tables_congr (parts_at5 m ρ c) (W5_args m ρ c main_arg9 (by decide)) (W5_args m ρ c main_arg10 (by decide))
    (W5_args m ρ c main_arg11 (by decide))
theorem T3_eq : T3 (V7 m ρ) c = A3 m c :=
  tables_congr (parts_at7 m ρ c) (W7_args m ρ c main_arg13 (by decide)) (W7_args m ρ c main_arg14 (by decide))
    (W7_args m ρ c main_arg15 (by decide))
theorem T4_eq : T4 (V9 m ρ) c = A4 m c :=
  tables_congr (parts_at9 m ρ c) (W9_args m ρ c main_arg17 (by decide)) (W9_args m ρ c main_arg18 (by decide))
    (W9_args m ρ c main_arg19 (by decide))

/-! ## At the end -/

theorem end0 : V10 m ρ c main_v1_0 = (fun i => A0 m c 0 (i 0) (i 1)) ∧ V10 m ρ c main_v1_1 = (fun i => A0 m c 1 (i 0) (i 1))
    ∧ V10 m ρ c main_v1_2 = (fun i => A0 m c 2 (i 0) (i 1)) ∧ V10 m ρ c main_v1_3 = (fun i => A0 m c 3 (i 0) (i 1)) := by
  rw [← T0_eq m ρ c]
  obtain ⟨h0, h1, h2, h3⟩ := call0 (V1 m ρ) c
  exact ⟨(keep1 m ρ c _ (by decide)).trans ((hF0 m ρ c 4).symm.trans h0),
    (keep1 m ρ c _ (by decide)).trans ((hF0 m ρ c 5).symm.trans h1),
    (keep1 m ρ c _ (by decide)).trans ((hF0 m ρ c 6).symm.trans h2),
    (keep1 m ρ c _ (by decide)).trans ((hF0 m ρ c 7).symm.trans h3)⟩
theorem end1 : V10 m ρ c main_v3_0 = (fun i => A1 m c 0 (i 0) (i 1)) ∧ V10 m ρ c main_v3_1 = (fun i => A1 m c 1 (i 0) (i 1))
    ∧ V10 m ρ c main_v3_2 = (fun i => A1 m c 2 (i 0) (i 1)) ∧ V10 m ρ c main_v3_3 = (fun i => A1 m c 3 (i 0) (i 1)) := by
  rw [← T1_eq m ρ c]
  obtain ⟨h0, h1, h2, h3⟩ := call1 (V3 m ρ) c
  exact ⟨(keep2 m ρ c _ (by decide)).trans ((hF1 m ρ c 4).symm.trans h0),
    (keep2 m ρ c _ (by decide)).trans ((hF1 m ρ c 5).symm.trans h1),
    (keep2 m ρ c _ (by decide)).trans ((hF1 m ρ c 6).symm.trans h2),
    (keep2 m ρ c _ (by decide)).trans ((hF1 m ρ c 7).symm.trans h3)⟩
theorem end2 : V10 m ρ c main_v5_0 = (fun i => A2 m c 0 (i 0) (i 1)) ∧ V10 m ρ c main_v5_1 = (fun i => A2 m c 1 (i 0) (i 1))
    ∧ V10 m ρ c main_v5_2 = (fun i => A2 m c 2 (i 0) (i 1)) ∧ V10 m ρ c main_v5_3 = (fun i => A2 m c 3 (i 0) (i 1)) := by
  rw [← T2_eq m ρ c]
  obtain ⟨h0, h1, h2, h3⟩ := call2 (V5 m ρ) c
  exact ⟨(keep3 m ρ c _ (by decide)).trans ((hF2 m ρ c 4).symm.trans h0),
    (keep3 m ρ c _ (by decide)).trans ((hF2 m ρ c 5).symm.trans h1),
    (keep3 m ρ c _ (by decide)).trans ((hF2 m ρ c 6).symm.trans h2),
    (keep3 m ρ c _ (by decide)).trans ((hF2 m ρ c 7).symm.trans h3)⟩
theorem end3 : V10 m ρ c main_v7_0 = (fun i => A3 m c 0 (i 0) (i 1)) ∧ V10 m ρ c main_v7_1 = (fun i => A3 m c 1 (i 0) (i 1))
    ∧ V10 m ρ c main_v7_2 = (fun i => A3 m c 2 (i 0) (i 1)) ∧ V10 m ρ c main_v7_3 = (fun i => A3 m c 3 (i 0) (i 1)) := by
  rw [← T3_eq m ρ c]
  obtain ⟨h0, h1, h2, h3⟩ := call3 (V7 m ρ) c
  exact ⟨(keep4 m ρ c _ (by decide)).trans ((hF3 m ρ c 4).symm.trans h0),
    (keep4 m ρ c _ (by decide)).trans ((hF3 m ρ c 5).symm.trans h1),
    (keep4 m ρ c _ (by decide)).trans ((hF3 m ρ c 6).symm.trans h2),
    (keep4 m ρ c _ (by decide)).trans ((hF3 m ρ c 7).symm.trans h3)⟩
theorem end4 : V10 m ρ c main_v9_0 = (fun i => A4 m c 0 (i 0) (i 1)) ∧ V10 m ρ c main_v9_1 = (fun i => A4 m c 1 (i 0) (i 1))
    ∧ V10 m ρ c main_v9_2 = (fun i => A4 m c 2 (i 0) (i 1)) ∧ V10 m ρ c main_v9_3 = (fun i => A4 m c 3 (i 0) (i 1)) := by
  rw [← T4_eq m ρ c]
  obtain ⟨h0, h1, h2, h3⟩ := call4 (V9 m ρ) c
  exact ⟨(hF4 m ρ c 4).symm.trans h0, (hF4 m ρ c 5).symm.trans h1, (hF4 m ρ c 6).symm.trans h2, (hF4 m ρ c 7).symm.trans h3⟩

end

/-! ## The launch -/

-- the launch's implicit arguments are found by unifying its conclusion with the statement, which takes unfolding plain
-- definitions in a metavariable's type
set_option backward.isDefEq.respectTransparency.types false in
/-- Every fair execution of the idealized kernel ends, with every unscoped buffer of every device holding what the
    program's segments leave in it. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c b hb => h c b hb)

/-- The twenty results at the end of the run are the tables of the arguments, and the arguments are as launched. -/
theorem results : θ_run defs (onTc (τ := τ) (main (F := Ideal))) ⟨m, fun _ => 0, ρ⟩ (fun r => ∀ c : Dev nD,
      r.2.mem ((c.tc : Thread nD τ).loc main_v1_0) = (fun i => A0 m c 0 (i 0) (i 1))
      ∧ r.2.mem ((c.tc : Thread nD τ).loc main_v1_1) = (fun i => A0 m c 1 (i 0) (i 1))
      ∧ r.2.mem ((c.tc : Thread nD τ).loc main_v1_2) = (fun i => A0 m c 2 (i 0) (i 1))
      ∧ r.2.mem ((c.tc : Thread nD τ).loc main_v1_3) = (fun i => A0 m c 3 (i 0) (i 1))
      ∧ r.2.mem ((c.tc : Thread nD τ).loc main_v3_0) = (fun i => A1 m c 0 (i 0) (i 1))
      ∧ r.2.mem ((c.tc : Thread nD τ).loc main_v3_1) = (fun i => A1 m c 1 (i 0) (i 1))
      ∧ r.2.mem ((c.tc : Thread nD τ).loc main_v3_2) = (fun i => A1 m c 2 (i 0) (i 1))
      ∧ r.2.mem ((c.tc : Thread nD τ).loc main_v3_3) = (fun i => A1 m c 3 (i 0) (i 1))
      ∧ r.2.mem ((c.tc : Thread nD τ).loc main_v5_0) = (fun i => A2 m c 0 (i 0) (i 1))
      ∧ r.2.mem ((c.tc : Thread nD τ).loc main_v5_1) = (fun i => A2 m c 1 (i 0) (i 1))
      ∧ r.2.mem ((c.tc : Thread nD τ).loc main_v5_2) = (fun i => A2 m c 2 (i 0) (i 1))
      ∧ r.2.mem ((c.tc : Thread nD τ).loc main_v5_3) = (fun i => A2 m c 3 (i 0) (i 1))
      ∧ r.2.mem ((c.tc : Thread nD τ).loc main_v7_0) = (fun i => A3 m c 0 (i 0) (i 1))
      ∧ r.2.mem ((c.tc : Thread nD τ).loc main_v7_1) = (fun i => A3 m c 1 (i 0) (i 1))
      ∧ r.2.mem ((c.tc : Thread nD τ).loc main_v7_2) = (fun i => A3 m c 2 (i 0) (i 1))
      ∧ r.2.mem ((c.tc : Thread nD τ).loc main_v7_3) = (fun i => A3 m c 3 (i 0) (i 1))
      ∧ r.2.mem ((c.tc : Thread nD τ).loc main_v9_0) = (fun i => A4 m c 0 (i 0) (i 1))
      ∧ r.2.mem ((c.tc : Thread nD τ).loc main_v9_1) = (fun i => A4 m c 1 (i 0) (i 1))
      ∧ r.2.mem ((c.tc : Thread nD τ).loc main_v9_2) = (fun i => A4 m c 2 (i 0) (i 1))
      ∧ r.2.mem ((c.tc : Thread nD τ).loc main_v9_3) = (fun i => A4 m c 3 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => by
    have u : ∀ b : Ref sig .tc, Proc.devRef (τ := τ) .tc b ∈ Pipeline.ucRefs τ sig → r.2.mem ((c.tc : Thread nD τ).loc b) = V10 m ρ c b :=
      fun b hb => h c _ hb
    obtain ⟨a0, a1, a2, a3⟩ := end0 m ρ c
    obtain ⟨b0, b1, b2, b3⟩ := end1 m ρ c
    obtain ⟨c0, c1, c2, c3⟩ := end2 m ρ c
    obtain ⟨d0, d1, d2, d3⟩ := end3 m ρ c
    obtain ⟨e0, e1, e2, e3⟩ := end4 m ρ c
    exact ⟨(u _ (mem_uc main_v1_0 (by decide))).trans a0, (u _ (mem_uc main_v1_1 (by decide))).trans a1,
      (u _ (mem_uc main_v1_2 (by decide))).trans a2, (u _ (mem_uc main_v1_3 (by decide))).trans a3,
      (u _ (mem_uc main_v3_0 (by decide))).trans b0, (u _ (mem_uc main_v3_1 (by decide))).trans b1,
      (u _ (mem_uc main_v3_2 (by decide))).trans b2, (u _ (mem_uc main_v3_3 (by decide))).trans b3,
      (u _ (mem_uc main_v5_0 (by decide))).trans c0, (u _ (mem_uc main_v5_1 (by decide))).trans c1,
      (u _ (mem_uc main_v5_2 (by decide))).trans c2, (u _ (mem_uc main_v5_3 (by decide))).trans c3,
      (u _ (mem_uc main_v7_0 (by decide))).trans d0, (u _ (mem_uc main_v7_1 (by decide))).trans d1,
      (u _ (mem_uc main_v7_2 (by decide))).trans d2, (u _ (mem_uc main_v7_3 (by decide))).trans d3,
      (u _ (mem_uc main_v9_0 (by decide))).trans e0, (u _ (mem_uc main_v9_1 (by decide))).trans e1,
      (u _ (mem_uc main_v9_2 (by decide))).trans e2, (u _ (mem_uc main_v9_3 (by decide))).trans e3,
      (u _ (mem_uc main_arg0 (by decide))).trans (W10_main_arg0 m ρ c), (u _ (mem_uc main_arg1 (by decide))).trans (W10_main_arg1 m ρ c),
      (u _ (mem_uc main_arg2 (by decide))).trans (W10_main_arg2 m ρ c), (u _ (mem_uc main_arg3 (by decide))).trans (W10_main_arg3 m ρ c),
      (u _ (mem_uc main_arg4 (by decide))).trans (W10_main_arg4 m ρ c), (u _ (mem_uc main_arg5 (by decide))).trans (W10_main_arg5 m ρ c),
      (u _ (mem_uc main_arg6 (by decide))).trans (W10_main_arg6 m ρ c), (u _ (mem_uc main_arg7 (by decide))).trans (W10_main_arg7 m ρ c),
      (u _ (mem_uc main_arg8 (by decide))).trans (W10_main_arg8 m ρ c), (u _ (mem_uc main_arg9 (by decide))).trans (W10_main_arg9 m ρ c),
      (u _ (mem_uc main_arg10 (by decide))).trans (W10_main_arg10 m ρ c), (u _ (mem_uc main_arg11 (by decide))).trans (W10_main_arg11 m ρ c),
      (u _ (mem_uc main_arg12 (by decide))).trans (W10_main_arg12 m ρ c), (u _ (mem_uc main_arg13 (by decide))).trans (W10_main_arg13 m ρ c),
      (u _ (mem_uc main_arg14 (by decide))).trans (W10_main_arg14 m ρ c), (u _ (mem_uc main_arg15 (by decide))).trans (W10_main_arg15 m ρ c),
      (u _ (mem_uc main_arg16 (by decide))).trans (W10_main_arg16 m ρ c), (u _ (mem_uc main_arg17 (by decide))).trans (W10_main_arg17 m ρ c),
      (u _ (mem_uc main_arg18 (by decide))).trans (W10_main_arg18 m ρ c), (u _ (mem_uc main_arg19 (by decide))).trans (W10_main_arg19 m ρ c)⟩) (ends m ρ)

end Cert.StepRun

end
-- ==== Proof.StepReference.lean ====
/-
  THE REFERENCE of the optimiser: its twenty results are the tables of the arguments (Proof/StepTiles.lean). Its step is read
  once, for a weight of any number of rows, and applied to the five weights.
-/
module

public import proofs.«01_k».proof.Proof.Gen.AdamWRefIdeal.Read
public import proofs.«01_k».proof.Proof.StepTiles
public import proofs.«01_k».proof.Proof.Tiles

@[expose] public section

set_option maxRecDepth 16384

noncomputable section

namespace Cert.StepReference

open Cert.AdamWRefIdeal Cert.AdamWRefIdeal.Gen Cert.AdamWRefIdeal.Read Cert.Step Cert.StepTiles
open Idealize.ShloMosaic
open scoped BigOperators

/-! ## One weight -/

section
variable {n : ℕ}

/-- A weight of `n` rows. -/
abbrev Rows (n : ℕ) : Shape := ⟨2, ![n, 2048]⟩

variable (hb : S_.BroadcastsInDim (Rows n) (![] : Fin 0 → Fin (Rows n).rank)) (hr : (Parts n 2048).ReducesTo [0] (Rows n))
  (s : FVec Ideal (Parts n 2048) .f32) (w m v : FVec Ideal (Rows n) .f32)

/-- A constant at every entry. -/
abbrev const (b : BitVec 32) : FVec Ideal (Rows n) .f32 := broadcastInDim (Rows n) ![] hb (constant S_ .f32 b)

theorem const_at (b : BitVec 32) (i : (Rows n).Idx) : const hb b i = Ideal.ofBits .f32 b :=
  broadcastInDim_apply _ hb (constant S_ .f32 b) i (fun a => a.elim0) (fun a => a.elim0)

/-- The host's sum over the devices, -/
abbrev hTotal : FVec Ideal (Rows n) .f32 := Host.reduceAdd s (constant S_ .f32 0x00000000#32) hr h_S_
/-- its moments, -/
abbrev hFirst : FVec Ideal (Rows n) .f32 := addf (mulf (const hb 0x3F666666#32) m) (mulf (const hb 0x3DCCCCCD#32) (hTotal hr s))
abbrev hSecond : FVec Ideal (Rows n) .f32 :=
  addf (mulf (const hb 0x3F7FBE77#32) v) (mulf (const hb 0x3A83126F#32) (mulf (hTotal hr s) (hTotal hr s)))
/-- and its change of the weight. -/
abbrev hChange : FVec Ideal (Rows n) .f32 :=
  mulf (const hb 0xBA83126F#32) (addf (Host.divf (Host.divf (hFirst hb hr s m) (const hb 0x3F26BD02#32))
    (addf (Host.sqrt (Host.divf (hSecond hb hr s v) (const hb 0x3C231ACC#32))) (const hb 0x322BCC77#32))) (mulf (const hb 0x3C23D70A#32) w))

theorem hTotal_at (h : (Parts n 2048).Reduces [0] (Rows n)) (i : (Rows n).Idx) : hTotal hr s i = total s (i 0) (i 1) := by
  unfold hTotal
  simp only [Host.reduceAdd, Ideal.hostReduceAdd_def]
  rw [Ideal.hostReduceAdd_single hr h]
  show Ideal.ofBits .f32 0x00000000#32 + _ = _
  rw [Cert.Tiles.ofBits_zero, zero_add]
  exact Finset.sum_congr rfl fun p _ => congrArg s (funext fun d => Fin.ext (match d with | ⟨0, _⟩ => rfl | ⟨1, _⟩ => rfl | ⟨2, _⟩ => rfl))

/-- The step of a weight of `n` rows is its tables. -/
theorem step (h : (Parts n 2048).Reduces [0] (Rows n)) :
    hTotal hr s = (fun i => tables s w m v 0 (i 0) (i 1)) ∧ hChange hb hr s w m v = (fun i => tables s w m v 1 (i 0) (i 1))
    ∧ hFirst hb hr s m = (fun i => tables s w m v 2 (i 0) (i 1)) ∧ hSecond hb hr s v = (fun i => tables s w m v 3 (i 0) (i 1)) := by
  have ew : ∀ i, w i = w (ix2 (i 0) (i 1)) := fun i => congrArg w (eq_ix2 i)
  have em : ∀ i, m i = m (ix2 (i 0) (i 1)) := fun i => congrArg m (eq_ix2 i)
  have ev : ∀ i, v i = v (ix2 (i 0) (i 1)) := fun i => congrArg v (eq_ix2 i)
  have hF : ∀ i, hFirst hb hr s m i = first s m (i 0) (i 1) := fun i => by
    show const hb _ i * m i + const hb _ i * hTotal hr s i = _
    rw [const_at, const_at, hTotal_at hr s h, em]; rfl
  have hS : ∀ i, hSecond hb hr s v i = second s v (i 0) (i 1) := fun i => by
    show const hb _ i * v i + const hb _ i * (hTotal hr s i * hTotal hr s i) = _
    rw [const_at, const_at, hTotal_at hr s h, ev]; rfl
  refine ⟨funext (hTotal_at hr s h), funext fun i => ?_, funext hF, funext hS⟩
  show const hb _ i * (Ideal.div (Ideal.div (hFirst hb hr s m i) (const hb _ i))
    (Ideal.sqrt (Ideal.div (hSecond hb hr s v i) (const hb _ i)) + const hb _ i) + const hb _ i * w i) = _
  rw [hF, hS, ew]
  simp only [const_at]
  rfl

/-- The same in the words of equal arguments. -/
theorem step_of (h : (Parts n 2048).Reduces [0] (Rows n)) {s w m v} {s' : (Parts n 2048).Idx → EReal} {w' m' v' : (Rows n).Idx → EReal}
    (es : s = s') (ew : w = w') (em : m = m') (ev : v = v') :
    hTotal hr s = (fun i => tables s' w' m' v' 0 (i 0) (i 1)) ∧ hChange hb hr s w m v = (fun i => tables s' w' m' v' 1 (i 0) (i 1))
    ∧ hFirst hb hr s m = (fun i => tables s' w' m' v' 2 (i 0) (i 1)) ∧ hSecond hb hr s v = (fun i => tables s' w' m' v' 3 (i 0) (i 1)) := by
  subst es ew em ev
  exact step hb hr s w m v h

end

end Cert.StepReference

end
-- ==== Proof.Gate.lean ====
/-
  THE SPATIAL GATING OF ONE CHUNK of 128 tokens, on numbers: gelu, the norm of a group's 128 features, the causal mixing of
  the chunk's tokens, the gate, and the norm over all eight groups.
-/
module

public import proofs.«01_k».proof.Proof.Tiles
public import Idealize.ShloMosaic.Lib.ValueIdxCore

@[expose] public section

noncomputable section

namespace Cert.Gate

open Cert.Tiles (eps)
open Cert.Layer (half)
open Idealize.ShloMosaic
open scoped BigOperators

/-- The float nearest to 1/√2. -/
def invSqrt2 : EReal := Ideal.ofBits .f32 0x3F3504F3#32

/-- gelu, by the error function. -/
def gelu (x : EReal) : EReal := x * (half * (1 + Ideal.erf (x * invSqrt2)))

def n128 : EReal := ((128 : ℝ) : EReal)
def n1024 : EReal := ((1024 : ℝ) : EReal)

/-- A chunk: the two halves of the gate's input by group, feature and token; the inner norm's gain and bias; the mixing
    weights and their bias by group; the outer norm's gain. -/
structure Chunk where
  zu : Fin 8 → Fin 128 → Fin 128 → EReal
  zv : Fin 8 → Fin 128 → Fin 128 → EReal
  lg : Fin 8 → Fin 128 → EReal
  lb : Fin 8 → Fin 128 → EReal
  w : Fin 8 → Fin 128 → Fin 128 → EReal
  b : Fin 8 → Fin 128 → EReal
  og : Fin 8 → Fin 128 → EReal

variable (C : Chunk) (g : Fin 8) (e t : Fin 128)

/-- The group's mean at a token, -/
def Chunk.mean : EReal := Ideal.div (∑ k, gelu (C.zv g k t)) n128
/-- a feature's distance from it, -/
def Chunk.xc : EReal := gelu (C.zv g e t) - C.mean g t
/-- the reciprocal deviation, -/
def Chunk.rstd : EReal := Ideal.rsqrt (Ideal.div (∑ k, C.xc g k t * C.xc g k t) n128 + (eps : EReal))
/-- and the normalised feature. -/
def Chunk.vn : EReal := C.xc g e t * C.rstd g t * C.lg g e + C.lb g e
/-- The mixing weights are those of no later token. -/
def Chunk.wc (t k : Fin 128) : EReal := if k.val ≤ t.val then C.w g t k else 0
def Chunk.mixed : EReal := (∑ k, C.vn g e k * C.wc g t k) + C.b g t
/-- The gated feature, -/
def Chunk.y : EReal := gelu (C.zu g e t) * C.mixed g e t
/-- the reciprocal root mean square of a token's features, -/
def Chunk.rms (t : Fin 128) : EReal := Ideal.rsqrt (Ideal.div (∑ k, ∑ a, C.y a k t * C.y a k t) n1024 + (eps : EReal))
/-- and the result. -/
def Chunk.out : EReal := C.y g e t * C.rms t * C.og g e

/-! ## The chunks of the program's arguments -/

/-- The row of feature `e` of group `g`, -/
def row (g : Fin 8) (e : Fin 128) : Fin 1024 := ⟨g.val * 128 + e.val, by omega⟩
/-- and the column of token `t` of chunk `n`. -/
def col (n : Fin 32) (t : Fin 128) : Fin 4096 := ⟨n.val * 128 + t.val, by omega⟩

theorem exists_row (r : Fin 1024) : ∃ g e, row g e = r :=
  ⟨⟨r.val / 128, by omega⟩, ⟨r.val % 128, by omega⟩, Fin.ext (by simp only [row]; omega)⟩
theorem exists_col (q : Fin 4096) : ∃ n t, col n t = q :=
  ⟨⟨q.val / 128, by omega⟩, ⟨q.val % 128, by omega⟩, Fin.ext (by simp only [col]; omega)⟩

/-- The gate's arguments: the projection, the inner norm's gain and bias, the mixing weights and their bias, the outer
    norm's gain. -/
structure Args where
  p : (⟨2, ![3328, 4096]⟩ : Shape).Idx → EReal
  lg : (⟨3, ![1, 8, 128]⟩ : Shape).Idx → EReal
  lb : (⟨3, ![1, 8, 128]⟩ : Shape).Idx → EReal
  w : (⟨4, ![1, 8, 128, 128]⟩ : Shape).Idx → EReal
  b : (⟨3, ![1, 8, 128]⟩ : Shape).Idx → EReal
  og : (⟨2, ![1, 1024]⟩ : Shape).Idx → EReal

/-- Chunk `n` of the tokens. -/
def Args.chunk (a : Args) (n : Fin 32) : Chunk where
  zu g e t := a.p (ix2 ⟨1280 + (row g e).val, by omega⟩ (col n t))
  zv g e t := a.p (ix2 ⟨2304 + (row g e).val, by omega⟩ (col n t))
  lg g e := a.lg (ix3 0 g e)
  lb g e := a.lb (ix3 0 g e)
  w g t k := a.w (ix4 0 g t k)
  b g t := a.b (ix3 0 g t)
  og g e := a.og (ix2 0 (row g e))

/-- The gate's result. -/
def Args.out (a : Args) (r : Fin 1024) (q : Fin 4096) : EReal :=
  (a.chunk ⟨q.val / 128, by omega⟩).out ⟨r.val / 128, by omega⟩ ⟨r.val % 128, by omega⟩ ⟨q.val % 128, by omega⟩

theorem Args.out_row_col (a : Args) (n : Fin 32) (g : Fin 8) (e t : Fin 128) : a.out (row g e) (col n t) = (a.chunk n).out g e t := by
  have h1 : (⟨(col n t).val / 128, by omega⟩ : Fin 32) = n := Fin.ext (by simp only [col]; omega)
  have h2 : (⟨(row g e).val / 128, by omega⟩ : Fin 8) = g := Fin.ext (by simp only [row]; omega)
  have h3 : (⟨(row g e).val % 128, by omega⟩ : Fin 128) = e := Fin.ext (by simp only [row]; omega)
  have h4 : (⟨(col n t).val % 128, by omega⟩ : Fin 128) = t := Fin.ext (by simp only [col]; omega)
  unfold Args.out
  rw [h1, h2, h3, h4]

/-! ## The constants, and gelu by the complementary error function -/

theorem ofBits_n128 : Ideal.ofBits .f32 0x43000000#32 = n128 := by
  unfold n128; simp [Ideal.ofBits, Ideal.ieee, -EReal.coe_mul]; norm_num
theorem ofBits_n1024 : Ideal.ofBits .f32 0x44800000#32 = n1024 := by
  unfold n1024; simp [Ideal.ofBits, Ideal.ieee, -EReal.coe_mul]; norm_num

/-- Dividing by 1024 is multiplying by the float 2⁻¹⁰. -/
theorem mul_inv1024 (x : EReal) : x * Ideal.ofBits .f32 0x3A800000#32 = Ideal.div x n1024 := by
  have h : Ideal.ofBits .f32 0x3A800000#32 = (((1024 : ℝ)⁻¹ : ℝ) : EReal) := by
    simp [Ideal.ofBits, Ideal.ieee, -EReal.coe_mul]; norm_num
  rw [h, n1024, Ideal.div, if_neg (by norm_num [← EReal.coe_zero, EReal.coe_eq_coe_iff]), EReal.coe_inv]

theorem erf_neg (x : EReal) : Ideal.erf (-x) = -Ideal.erf x := by
  induction x using EReal.rec with
  | bot => exact (neg_neg (1 : EReal)).symm
  | top => rfl
  | coe r =>
    rw [← EReal.coe_neg]
    show ((_ : ℝ) : EReal) = -((_ : ℝ) : EReal)
    rw [← EReal.coe_neg, EReal.coe_eq_coe_iff, ← mul_neg]
    congr 1
    have h := intervalIntegral.integral_comp_neg (a := 0) (b := r) fun t : ℝ => Real.exp (-(t ^ 2))
    simp only [neg_sq, neg_zero] at h
    rw [h, intervalIntegral.integral_symm]

/-- gelu by the complementary error function. -/
theorem gelu_erfc (x : EReal) : half * x * Ideal.erfc (-x * invSqrt2) = gelu x := by
  unfold gelu Ideal.erfc
  rw [EReal.neg_mul, erf_neg, sub_eq_add_neg, neg_neg, mul_comm half x, mul_assoc]

end Cert.Gate

end
-- ==== Proof.GateTiles.lean ====
/-
  WHAT THE FORWARD CALL OF THE MIXER COMPUTES ON ONE TILE, in its gate half: each payload read at an index over the extended
  reals. The tile's row `row g e` is feature `e` of group `g`, its column a token of the chunk.
-/
module

public import proofs.«01_k».proof.Proof.Gen.GateIdeal.Skeleton
public import proofs.«01_k».proof.Proof.Gate
public import Idealize.ShloMosaic.Lib.Pointwise
public import Idealize.ShloMosaic.Lib.WordCmp

@[expose] public section

set_option maxRecDepth 16384

noncomputable section

namespace Cert.GateTiles

open Cert.GateIdeal Cert.GateIdeal.Gen Cert.Gate
open Cert.Layer (half)
open Cert.Tiles (eps ofBits_zero ofBits_eps ofBits_one ofBits_half)
open Idealize.ShloMosaic
open scoped BigOperators

variable (g : Fin 8) (e t : Fin 128)

theorem gelu_u (z : Vec Ideal S1024x128 .f32) (p : Fin 1024) : k0_pay169 (F := Ideal) z (ix2 p t) = gelu (z (ix2 p t)) := by
  unfold gelu invSqrt2
  rw [← ofBits_one, ← ofBits_half]
  pointwise [k0_pay169]
  rfl

theorem gelu_v (z : Vec Ideal S1024x128 .f32) : k0_pay170 (F := Ideal) z (ix3 g e t) = gelu (z (ix2 (row g e) t)) := by
  unfold gelu invSqrt2
  rw [← ofBits_one, ← ofBits_half]
  pointwise [k0_pay170, row]
  rfl

theorem sum_v (z : Vec Ideal S1024x128 .f32) : k0_pay171 (F := Ideal) z (ix3 g 0 t) = ∑ k, k0_pay170 (F := Ideal) z (ix3 g k t) := by
  unfold k0_pay171
  generalize k0_pay170 (F := Ideal) z = v
  pointwise

/-- The group's norm. -/
theorem norm_v (v : FVec Ideal S8x128x128 .f32) (s : FVec Ideal S8x1x128 .f32) (lg lb : Vec Ideal S1024x128 .f32) :
    k0_pay172 (F := Ideal) v s lg lb (ix2 (row g e) t)
      = (v (ix3 g e t) - Ideal.div (s (ix3 g 0 t)) n128)
          * Ideal.rsqrt (Ideal.div (∑ k, (v (ix3 g k t) - Ideal.div (s (ix3 g 0 t)) n128) * (v (ix3 g k t) - Ideal.div (s (ix3 g 0 t)) n128)) n128 + (eps : EReal))
          * lg (ix2 (row g e) t) + lb (ix2 (row g e) t) := by
  rw [← ofBits_eps, ← ofBits_n128]
  pointwise [k0_pay172, row]

/-- A group's mixing weights, those of later tokens gone. -/
theorem mask_w (w : Vec Ideal S1x128x128 .f32) (k : Fin 128) :
    k0_pay173 (F := Ideal) k0_pay168 w (ix2 t k) = if k.val ≤ t.val then w (ix3 0 t k) else 0 := by
  pointwise [k0_pay173, k0_pay168, ofBits_zero]
  rw [WordCmp.cmpi_sge_ofNat (by omega) (by omega), WordCmp.select_ofBool]
  simp only [decide_eq_true_eq]

/-- The gated features. -/
theorem gated (u : FVec Ideal S1024x128 .f32) (v : FVec Ideal S1024x128 .bf16) (W : Fin 8 → FVec Ideal S128x128 .bf16)
    (B : Fin 8 → Vec Ideal S1x128 .f32) :
    k0_pay183 (F := Ideal) u v (W 2) (W 3) (W 4) (W 5) (W 6) (W 7) (k0_pay181 v (W 0) (B 0)) (k0_pay182 v (W 1) (B 1))
        (B 2) (B 3) (B 4) (B 5) (B 6) (B 7) (ix2 (row g e) t)
      = u (ix2 (row g e) t) * ((∑ k, v (ix2 (row g e) k) * W g (ix2 t k)) + B g (ix2 0 t)) := by
  pointwise [k0_pay183, k0_pay181, k0_pay182, row, ofBits_zero]
  have h (p p' : Fin 1024) (q q' : Fin 8) (hp : p.val = p'.val) (hq : q.val = q'.val) :
      (∑ k, v (ix2 p k) * W q (ix2 t k)) + B q (ix2 0 t) = (∑ k, v (ix2 p' k) * W q' (ix2 t k)) + B q' (ix2 0 t) := by
    rw [Fin.ext hp, Fin.ext hq]
  refine congrArg _ ?_
  split_ifs <;> exact h _ _ _ _ (by first | rfl | (dsimp only; omega)) (by first | omega | (simp; omega))

/-- Their squares, summed over the groups. -/
theorem squares (u : FVec Ideal S1024x128 .f32) (v : FVec Ideal S1024x128 .bf16) (w2 w3 w4 w5 w6 w7 : FVec Ideal S128x128 .bf16)
    (m0 m1 : FVec Ideal S128x128 .f32) (b2 b3 b4 b5 b6 b7 : Vec Ideal S1x128 .f32) (y : FVec Ideal S1024x128 .f32)
    (hy : k0_pay183 (F := Ideal) u v w2 w3 w4 w5 w6 w7 m0 m1 b2 b3 b4 b5 b6 b7 = y) :
    k0_pay184 (F := Ideal) u v w2 w3 w4 w5 w6 w7 m0 m1 b2 b3 b4 b5 b6 b7 (ix2 e t) = ∑ a, y (ix2 (row a e) t) * y (ix2 (row a e) t) := by
  unfold k0_pay184
  rw [hy]
  pointwise [row]

/-- The norm over all the features. -/
theorem norm_y (y : FVec Ideal S1024x128 .f32) (s : FVec Ideal S128x128 .f32) (og : Vec Ideal S1024x128 .f32) (p : Fin 1024) :
    k0_pay1 (F := Ideal) y s og (ix2 p t)
      = y (ix2 p t) * Ideal.rsqrt (Ideal.div (∑ k, s (ix2 k t)) n1024 + (eps : EReal)) * og (ix2 p t) := by
  rw [← ofBits_eps, ← mul_inv1024]
  pointwise [k0_pay1]

section
variable {C : Chunk} {zu zv lg lb og : Vec Ideal S1024x128 .f32} (w : Fin 8 → Vec Ideal S1x128x128 .f32) (b : Fin 8 → Vec Ideal S1x128 .f32)
  (hu : ∀ g e t, zu (ix2 (row g e) t) = C.zu g e t) (hv : ∀ g e t, zv (ix2 (row g e) t) = C.zv g e t)
  (hlg : ∀ g e t, lg (ix2 (row g e) t) = C.lg g e) (hlb : ∀ g e t, lb (ix2 (row g e) t) = C.lb g e)
  (hw : ∀ g t k, w g (ix3 0 t k) = C.w g t k) (hb : ∀ g t, b g (ix2 0 t) = C.b g t)
  (hog : ∀ g e t, og (ix2 (row g e) t) = C.og g e)

/-- The normalised features of a tile. -/
abbrev vnOf (zv lg lb : Vec Ideal S1024x128 .f32) : FVec Ideal S1024x128 .bf16 := k0_pay172 (F := Ideal) (k0_pay170 zv) (k0_pay171 zv) lg lb

include hv hlg hlb in
theorem vn_chunk : vnOf zv lg lb (ix2 (row g e) t) = C.vn g e t := by
  unfold vnOf
  rw [norm_v]
  simp only [sum_v, gelu_v, hv, hlg, hlb]
  rfl

/-- The mixing weights of a group, as the tile multiplies by them. -/
abbrev wOf (g : Fin 8) : FVec Ideal S128x128 .bf16 := k0_pay173 (F := Ideal) k0_pay168 (w g)

/-- The gated features of a tile, -/
abbrev yOf (zu zv lg lb : Vec Ideal S1024x128 .f32) : FVec Ideal S1024x128 .f32 :=
  k0_pay183 (F := Ideal) (k0_pay169 zu) (vnOf zv lg lb) (wOf w 2) (wOf w 3) (wOf w 4) (wOf w 5) (wOf w 6) (wOf w 7)
    (k0_pay181 (vnOf zv lg lb) (wOf w 0) (b 0)) (k0_pay182 (vnOf zv lg lb) (wOf w 1) (b 1)) (b 2) (b 3) (b 4) (b 5) (b 6) (b 7)

/-- and the sums of their squares. -/
abbrev sOf (zu zv lg lb : Vec Ideal S1024x128 .f32) : FVec Ideal S128x128 .f32 :=
  k0_pay184 (F := Ideal) (k0_pay169 zu) (vnOf zv lg lb) (wOf w 2) (wOf w 3) (wOf w 4) (wOf w 5) (wOf w 6) (wOf w 7)
    (k0_pay181 (vnOf zv lg lb) (wOf w 0) (b 0)) (k0_pay182 (vnOf zv lg lb) (wOf w 1) (b 1)) (b 2) (b 3) (b 4) (b 5) (b 6) (b 7)

include hu hv hlg hlb hw hb

theorem y_chunk : yOf w b zu zv lg lb (ix2 (row g e) t) = C.y g e t := by
  refine (gated g e t _ _ (wOf w) b).trans ?_
  simp only [gelu_u, vn_chunk _ _ _ hv hlg hlb, mask_w, hu, hw, hb]
  rfl

include hog in
/-- A tile's result is its chunk's. -/
theorem out_chunk : k0_pay1 (F := Ideal) (yOf w b zu zv lg lb) (sOf w b zu zv lg lb) og (ix2 (row g e) t) = C.out g e t := by
  rw [norm_y, hog]
  simp only [squares _ _ _ _ _ _ _ _ _ _ _ _ _ _ _ _ _ _ _ rfl, y_chunk _ _ _ w b hu hv hlg hlb hw hb]
  rfl

end

end Cert.GateTiles

end
-- ==== Proof.GateCalls.lean ====
/-
  THE FORWARD CALL OF THE MIXER, in its gate half: what each grid point's blocks hold, and the lower half of the result's
  array after the call.
-/
module

public import proofs.«01_k».proof.Proof.Gen.GateIdeal.Frame
public import proofs.«01_k».proof.Proof.GateTiles
public import Idealize.ShloMosaic.Lib.Pipeline.ValueKit
public import Idealize.ShloMosaic.Lib.ValueIdxCore

@[expose] public section

set_option maxRecDepth 16384

noncomputable section

namespace Cert.GateCalls

open Cert.GateIdeal Cert.GateIdeal.Gen Cert.Gate Cert.GateTiles
open Idealize.ShloMosaic Idealize.ShloMosaic.TcCoe
open Idealize.ShloMosaic.Pipeline (Dat)
open scoped BigOperators

variable (m : (ℓ : Loc nD τ sig) → Buf (Elt Ideal) ℓ) (c : Dev nD)

/-- The arguments of core `c`. -/
def argsAt : Args where
  p := m ((c : Thread nD τ).loc main_arg0)
  lg := m ((c : Thread nD τ).loc main_arg4)
  lb := m ((c : Thread nD τ).loc main_arg5)
  w := m ((c : Thread nD τ).loc main_arg6)
  b := m ((c : Thread nD τ).loc main_arg7)
  og := m ((c : Thread nD τ).loc main_arg9)

/-! ## The arrays as the call finds them -/

theorem p_at : V m c main_arg0 = (argsAt m c).p := V_main_arg0 m c

/-- The place of a row among the groups. -/
theorem split_row {α : Type} (f : Fin 8 → Fin 128 → α) (g : Fin 8) (e : Fin 128) (h : (g.val * 128 + e.val) / 128 < 8) (h' : (g.val * 128 + e.val) % 128 < 128) :
    f ⟨(g.val * 128 + e.val) / 128, h⟩ ⟨(g.val * 128 + e.val) % 128, h'⟩ = f g e :=
  congrArg₂ f (Fin.ext (by dsimp only; omega)) (Fin.ext (by dsimp only; omega))

theorem lg_at (g : Fin 8) (e t : Fin 128) : (V m c main_v6 : S1024x128.Idx → EReal) (ix2 (row g e) t) = (argsAt m c).lg (ix3 0 g e) := by
  show StableHlo.after hostOps0 (fun b => m (c, b)) (Proc.devRef .tc main_v6) (ix2 (row g e) t) = _
  entry_read
  pointwise [row]
  exact split_row (fun g e => (argsAt m c).lg (ix3 0 g e)) g e _ _
theorem lb_at (g : Fin 8) (e t : Fin 128) : (V m c main_v8 : S1024x128.Idx → EReal) (ix2 (row g e) t) = (argsAt m c).lb (ix3 0 g e) := by
  show StableHlo.after hostOps0 (fun b => m (c, b)) (Proc.devRef .tc main_v8) (ix2 (row g e) t) = _
  entry_read
  pointwise [row]
  exact split_row (fun g e => (argsAt m c).lb (ix3 0 g e)) g e _ _
theorem w_at (g : Fin 8) (t k : Fin 128) : (V m c main_v9 : S8x128x128.Idx → EReal) (ix3 g t k) = (argsAt m c).w (ix4 0 g t k) := by
  show StableHlo.after hostOps0 (fun b => m (c, b)) (Proc.devRef .tc main_v9) (ix3 g t k) = _
  entry_read
  pointwise
  rfl
theorem b_at (g : Fin 8) (t : Fin 128) : (V m c main_v10 : S8x128.Idx → EReal) (ix2 g t) = (argsAt m c).b (ix3 0 g t) := by
  show StableHlo.after hostOps0 (fun b => m (c, b)) (Proc.devRef .tc main_v10) (ix2 g t) = _
  entry_read
  pointwise
  rfl
theorem og_at (p : Fin 1024) (t : Fin 128) : (V m c main_v14 : S1024x128.Idx → EReal) (ix2 p t) = (argsAt m c).og (ix2 0 p) := by
  show StableHlo.after hostOps0 (fun b => m (c, b)) (Proc.devRef .tc main_v14) (ix2 p t) = _
  entry_read
  pointwise
  rfl

/-- Where the blocks lie: columns of 128, and everything of the weights. -/
theorem idx : ∀ t : Fin cfg0.N, win0_0.index t = ![0, t.val] ∧ win0_5.index t = ![0, 0] ∧ win0_6.index t = ![0, 0]
    ∧ win0_7.index t = ![0, 0, 0] ∧ win0_8.index t = ![0, 0] ∧ win0_10.index t = ![0, 0] ∧ win0_11.index t = ![0, t.val] :=
  (by decide +kernel : ∀ t : Fin grid0.N, _)

/-! ## A point's blocks -/

/-- A group's weights, and its bias, out of all groups'. -/
abbrev wLd (x : Vec Ideal S8x128x128 .f32) (g : Fin 8) : Vec Ideal S1x128x128 .f32 :=
  View.ld x (Rect.unit ![g.val, 0, 0] ![1, 128, 128] (by intro a; fin_cases a <;> simp <;> omega))
abbrev bLd (x : Vec Ideal S8x128 .f32) (g : Fin 8) : Vec Ideal S1x128 .f32 :=
  View.ld x (Rect.unit ![g.val, 0] ![1, 128] (by intro a; fin_cases a <;> simp <;> omega))
/-- The two halves of the gate's input, out of the projection's block. -/
abbrev uLd (x : Vec Ideal S3328x128 .f32) : Vec Ideal S1024x128 .f32 := View.ld x (Rect.unit ![1280, 0] ![1024, 128] inb_S3328x128_S1024x128_1280_0)
abbrev vLd (x : Vec Ideal S3328x128 .f32) : Vec Ideal S1024x128 .f32 := View.ld x (Rect.unit ![2304, 0] ![1024, 128] inb_S3328x128_S1024x128_2304_0)

theorem wLd_at (x : Vec Ideal S8x128x128 .f32) (g : Fin 8) (t k : Fin 128) : wLd x g (ix3 0 t k) = x (ix3 g t k) := by
  refine congrArg x (funext fun d => Fin.ext ((Rect.idx_unit_val ..).trans ?_))
  match d with
  | ⟨0, _⟩ => rfl
  | ⟨1, _⟩ => exact Nat.zero_add _
  | ⟨2, _⟩ => exact Nat.zero_add _
theorem bLd_at (x : Vec Ideal S8x128 .f32) (g : Fin 8) (t : Fin 128) : bLd x g (ix2 0 t) = x (ix2 g t) := by
  refine congrArg x (funext fun d => Fin.ext ((Rect.idx_unit_val ..).trans ?_))
  match d with
  | ⟨0, _⟩ => rfl
  | ⟨1, _⟩ => exact Nat.zero_add _
theorem uLd_at (x : Vec Ideal S3328x128 .f32) (p : Fin 1024) (t : Fin 128) : uLd x (ix2 p t) = x (ix2 ⟨1280 + p.val, by omega⟩ t) := by
  refine congrArg x (funext fun d => Fin.ext ((Rect.idx_unit_val ..).trans ?_))
  match d with
  | ⟨0, _⟩ => rfl
  | ⟨1, _⟩ => exact Nat.zero_add _
theorem vLd_at (x : Vec Ideal S3328x128 .f32) (p : Fin 1024) (t : Fin 128) : vLd x (ix2 p t) = x (ix2 ⟨2304 + p.val, by omega⟩ t) := by
  refine congrArg x (funext fun d => Fin.ext ((Rect.idx_unit_val ..).trans ?_))
  match d with
  | ⟨0, _⟩ => rfl
  | ⟨1, _⟩ => exact Nat.zero_add _

/-- The chunk of a point. -/
abbrev at_ (t : Fin cfg0.N) : Fin 32 := ⟨t.val, t.isLt⟩

theorem p_blk (t : Fin cfg0.N) (r : Fin 3328) (q : Fin 128) :
    (iblk m c 0 t : S3328x128.Idx → EReal) (ix2 r q) = (argsAt m c).p (ix2 r (col (at_ t) q)) := by
  blk_simp [iblk, p_at]
  refine congrArg _ ((eq_ix2 _).trans (congrArg₂ ix2 (Fin.ext ?_) (Fin.ext ?_))) <;> blk_simp [idx, col]
theorem lg_blk (t : Fin cfg0.N) (p : Fin 1024) (q : Fin 128) : (iblk m c 5 t : S1024x128.Idx → EReal) (ix2 p q) = V m c main_v6 (ix2 p q) := by
  blk_simp [iblk]
  refine congrArg _ ((eq_ix2 _).trans (congrArg₂ ix2 (Fin.ext ?_) (Fin.ext ?_))) <;> blk_simp [idx]
theorem lb_blk (t : Fin cfg0.N) (p : Fin 1024) (q : Fin 128) : (iblk m c 6 t : S1024x128.Idx → EReal) (ix2 p q) = V m c main_v8 (ix2 p q) := by
  blk_simp [iblk]
  refine congrArg _ ((eq_ix2 _).trans (congrArg₂ ix2 (Fin.ext ?_) (Fin.ext ?_))) <;> blk_simp [idx]
theorem w_blk (t : Fin cfg0.N) (g : Fin 8) (p q : Fin 128) : (iblk m c 7 t : S8x128x128.Idx → EReal) (ix3 g p q) = V m c main_v9 (ix3 g p q) := by
  blk_simp [iblk]
  refine congrArg _ ((eq_ix3 _).trans ?_)
  congr 1 <;> apply Fin.ext <;> blk_simp [idx]
theorem b_blk (t : Fin cfg0.N) (g : Fin 8) (q : Fin 128) : (iblk m c 8 t : S8x128.Idx → EReal) (ix2 g q) = V m c main_v10 (ix2 g q) := by
  blk_simp [iblk]
  refine congrArg _ ((eq_ix2 _).trans (congrArg₂ ix2 (Fin.ext ?_) (Fin.ext ?_))) <;> blk_simp [idx]
theorem og_blk (t : Fin cfg0.N) (p : Fin 1024) (q : Fin 128) : (iblk m c 10 t : S1024x128.Idx → EReal) (ix2 p q) = V m c main_v14 (ix2 p q) := by
  blk_simp [iblk]
  refine congrArg _ ((eq_ix2 _).trans (congrArg₂ ix2 (Fin.ext ?_) (Fin.ext ?_))) <;> blk_simp [idx]

/-- A point stores its result's lower half last. -/
theorem out_at (t : Fin cfg0.N) (r : Fin 1024) (q : Fin 128) :
    ((outsAt0 m c t).1 : S2048x128.Idx → EReal) (ix2 ⟨1024 + r.val, by omega⟩ q)
      = k0_pay1 (F := Ideal) (yOf (wLd (iblk m c 7 t)) (bLd (iblk m c 8 t)) (uLd (iblk m c 0 t)) (vLd (iblk m c 0 t)) (iblk m c 5 t) (iblk m c 6 t))
          (sOf (wLd (iblk m c 7 t)) (bLd (iblk m c 8 t)) (uLd (iblk m c 0 t)) (vLd (iblk m c 0 t)) (iblk m c 5 t) (iblk m c 6 t)) (iblk m c 10 t) (ix2 r q) := by
  dsimp only [outsAt0]
  frame_out
  have e : (ix2 ⟨1024 + r.val, by omega⟩ q : S2048x128.Idx) = (Rect.unit ![1024, 0] ![1024, 128] inb_S2048x128_S1024x128_1024_0).emb (ix2 r q) := by
    refine funext fun d => Fin.ext (Eq.symm ((Rect.idx_unit_val ..).trans ?_))
    match d with
    | ⟨0, _⟩ => rfl
    | ⟨1, _⟩ => exact Nat.zero_add _
  rw [e]
  exact View.canon_cons_emb _ _ _ _

/-- What a point leaves in its block, below: its chunk's result. -/
theorem out_point (t : Fin cfg0.N) (g : Fin 8) (e q : Fin 128) :
    ((outsAt0 m c t).1 : S2048x128.Idx → EReal) (ix2 ⟨1024 + (row g e).val, by omega⟩ q) = ((argsAt m c).chunk (at_ t)).out g e q :=
  (out_at m c t (row g e) q).trans (out_chunk g e q (wLd (iblk m c 7 t)) (bLd (iblk m c 8 t))
    (fun g e q => (uLd_at _ _ _).trans (p_blk m c t _ _)) (fun g e q => (vLd_at _ _ _).trans (p_blk m c t _ _))
    (fun g e q => (lg_blk m c t _ _).trans (lg_at m c g e q)) (fun g e q => (lb_blk m c t _ _).trans (lb_at m c g e q))
    (fun g q k => (wLd_at _ _ _ _).trans ((w_blk m c t _ _ _).trans (w_at m c g q k)))
    (fun g q => (bLd_at _ _ _).trans ((b_blk m c t _ _).trans (b_at m c g q)))
    (fun g e q => (og_blk m c t _ _).trans (og_at m c _ q)))

/-- The lower half of the array after the call. -/
theorem out_eq (r : Fin 1024) (q : Fin 4096) :
    ((dats m 0 c).arrAt 11 cfg0.N : S2048x4096.Idx → EReal) (ix2 ⟨1024 + r.val, by omega⟩ q) = (argsAt m c).out r q := by
  refine ((dats m 0 c).arrAt_forall_of_covers 11 (fun i v => ∀ (r : Fin 1024) (q : Fin 4096), i = ix2 ⟨1024 + r.val, by omega⟩ q → v = (argsAt m c).out r q)
    (by decide +kernel) (fun t hf y => ?_) (ix2 ⟨1024 + r.val, by omega⟩ q)) r q rfl
  intro r q h
  blk_simp
  rw [after0_11]
  idx_vars y
  have h0 := congrArg (fun i : S2048x4096.Idx => (i 0).val) h
  have h1 := congrArg (fun i : S2048x4096.Idx => (i 1).val) h
  blk_simp [idx] at h0 h1
  obtain ⟨g, e, rfl⟩ := exists_row r
  have e0 : y0 = ⟨1024 + (row g e).val, by omega⟩ := Fin.ext h0
  obtain rfl : col (at_ t) y1 = q := Fin.ext h1
  rw [Args.out_row_col, e0]
  exact out_point m c t g e y1

end Cert.GateCalls

end
-- ==== Proof.GateRun.lean ====
/-
  THE RUN of the idealized forward call with its gate half: the half is the slice of the call's first result that the
  program ends with.
-/
module

public import proofs.«01_k».proof.Proof.Gen.GateIdeal.Frame
public import proofs.«01_k».proof.Proof.GateCalls

@[expose] public section

set_option maxRecDepth 16384

noncomputable section

namespace Cert.GateRun

open Cert.GateIdeal Cert.GateIdeal.Gen Cert.Gate Cert.GateCalls
open Idealize.ShloMosaic Idealize.ShloMosaic.TcCoe Idealize.ShloMosaic.Tactic
open Idealize.SL.Sem

variable (m : (ℓ : Loc nD τ sig) → Buf (Elt Ideal) ℓ) (ρ : Dev nD → PrngReg)

/-- Two of the call's windows that are on the same array only read it. -/
theorem shared (c : Dev nD) (w w' : Fin _) (hne : w ≠ w') (e : Pipeline.arrRef spec0 w = Pipeline.arrRef spec0 w') :
    (dats m 0 c).arrAt w cfg0.N = V0 m c (Proc.devRef .tc (Pipeline.arrRef spec0 w)) := by
  have hw : ∀ w w' : Fin _, w ≠ w' → Pipeline.arrRef spec0 w = Pipeline.arrRef spec0 w' → w = 0 ∨ w = 1 := by decide +kernel
  obtain rfl | rfl := hw w w' hne e
  · exact ((dats m 0 c).arrAt_in 0 rfl _).trans (A_eq m c 0)
  · exact ((dats m 0 c).arrAt_in 1 rfl _).trans (A_eq m c 1)

/-- The slice taken after the call. -/
theorem half_eq (c : Dev nD) : Pipeline.afterTail₀ cfgs (dats m) 0 (V0 m) [hostOps1] c main_v16 =
    ((fun i => (argsAt m c).out (i 0) (i 1)) : S1024x4096.Idx → EReal) := by
  have e : Pipeline.afterTail₀ cfgs (dats m) 0 (V0 m) [hostOps1] c main_v16 =
      extractStridedSlice S1024x4096 ![1024, 0] ((dats m 0 c).arrAt 11 cfg0.N) slices_S2048x4096_S1024x4096_1024_0 := by
    unfold Pipeline.afterTail₀
    rw [List.flatten_cons, List.flatten_nil, List.append_nil]
    entry_read
    exact congrArg (fun x => extractStridedSlice S1024x4096 ![1024, 0] x slices_S2048x4096_S1024x4096_1024_0)
      (Pipeline.withArrays_arr_shared spec0 c (V0 m c) (fun w => (dats m 0 c).arrAt w cfg0.N) (shared m c) 11)
  rw [e]
  funext i
  refine Eq.trans ?_ (out_eq m c (i 0) (i 1))
  refine congrArg ((dats m 0 c).arrAt 11 cfg0.N) ((eq_ix2 _).trans (congrArg₂ ix2 (Fin.ext ?_) (Fin.ext ?_)))
  · rfl
  · exact Nat.zero_add _

/-- The program ends with the gate half, its arguments unchanged. -/
theorem results : θ_run (defs (F := Ideal)) (onTc (τ := τ) (main (F := Ideal))) ⟨m, fun _ => 0, ρ⟩ (fun r => ∀ c : Dev nD,
      r.2.mem ((c.tc : Thread nD τ).loc main_v16) = ((fun i => (argsAt m c).out (i 0) (i 1)) : S1024x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨((h.1 c).2 main_v16 (Pipeline.mem_restRefs_of main_v16 (by decide) (by decide))).trans
    (half_eq m c), h.2 c⟩) (θ_run_and (run_main m ρ) (unchanged m ρ))

end Cert.GateRun

end
-- ==== Proof.GateReference.lean ====
/-
  THE REFERENCE of the gate, read operation by operation in the words of `Gate`.
-/
module

public import proofs.«01_k».proof.Proof.Gen.GateRefIdeal.Read
public import proofs.«01_k».proof.Proof.Gate
public import Idealize.ShloMosaic.Lib.ValueIdxCore
public import Idealize.ShloMosaic.Lib.WordCmp
public import Idealize.ShloMosaic.Lib.Pipeline.ValueKit.Acc

@[expose] public section

set_option maxRecDepth 16384

noncomputable section

namespace Cert.GateReference

open Cert.GateRefIdeal Cert.GateRefIdeal.Gen Cert.GateRefIdeal.Read Cert.Gate
open Cert.Layer (half)
open Cert.Tiles (eps ofBits_zero ofBits_eps ofBits_half)
open Idealize.ShloMosaic
open scoped BigOperators

variable (a : Args)

theorem gelu_at (i : S4096x2048.Idx) : val_main_v8 (F := Ideal) a.p i = gelu (a.p (idx_main_v0 (idx_main_v1 i))) := by
  rw [val_main_v8_apply, val_main_v7_apply, val_main_v6_apply, val_main_v5_apply, val_main_v4_apply, val_main_v3_apply, val_main_v2_apply,
    val_main_v1_apply, val_main_v0_apply]
  show Ideal.ofBits .f32 0x3F000000#32 * a.p _ * Ideal.erfc (-(a.p _) * Ideal.ofBits .f32 0x3F3504F3#32) = _
  rw [ofBits_half]
  exact gelu_erfc _

section
variable (n : Fin 32) (g : Fin 8) (e t : Fin 128)

/-- The two halves. -/
theorem u_at : val_main_v9 (F := Ideal) a.p (ix2 (col n t) (row g e)) = gelu ((a.chunk n).zu g e t) := by
  rw [val_main_v9_apply, gelu_at]
  refine congrArg (fun i => gelu (a.p i)) ((eq_ix2 _).trans (congrArg₂ ix2 (Fin.ext ?_) (Fin.ext ?_))) <;> simp [row, col]

theorem v_at : val_main_v11 (F := Ideal) a.p (ix4 n t g e) = gelu ((a.chunk n).zv g e t) := by
  rw [val_main_v11_apply, val_main_v10_apply, gelu_at]
  refine congrArg (fun i => gelu (a.p i)) ((eq_ix2 _).trans (congrArg₂ ix2 (Fin.ext ?_) (Fin.ext ?_))) <;> simp [row, col] <;> omega

/-! ## The norm of a group -/

theorem mean_at : val_main_v15 (F := Ideal) a.p (ix4 n t g 0) = (a.chunk n).mean g t := by
  rw [val_main_v15_apply, val_main_v13_apply, val_main_v12_apply, val_main_v14_apply]
  show Ideal.div (Ideal.ofBits .f32 0x00000000#32 + ∑ k, val_main_v11 (F := Ideal) a.p (idx_main_v12 (idx_main_v13 (ix4 n t g 0)) k))
    (Ideal.ofBits .f32 0x43000000#32) = _
  rw [ofBits_zero, zero_add, ofBits_n128]
  exact congrArg (fun s => Ideal.div s n128) (Finset.sum_congr rfl fun k _ =>
    (congrArg (val_main_v11 (F := Ideal) a.p) (eq_ix4 _)).trans (v_at a n g k t))

theorem xc_at : val_main_v17 (F := Ideal) a.p (ix4 n t g e) = (a.chunk n).xc g e t := by
  rw [val_main_v17_apply, val_main_v16_apply, v_at]
  exact congrArg (gelu ((a.chunk n).zv g e t) - ·) ((congrArg (val_main_v15 (F := Ideal) a.p) (eq_ix4 _)).trans (mean_at a n g t))

theorem xc_at' : val_main_v24 (F := Ideal) a.p (ix4 n t g e) = (a.chunk n).xc g e t := by
  rw [val_main_v24_apply, val_main_v23_apply, v_at]
  exact congrArg (gelu ((a.chunk n).zv g e t) - ·) ((congrArg (val_main_v15 (F := Ideal) a.p) (eq_ix4 _)).trans (mean_at a n g t))

theorem rstd_at : val_main_v27 (F := Ideal) a.p (ix4 n t g 0) = (a.chunk n).rstd g t := by
  rw [val_main_v27_apply, val_main_v26_apply, val_main_v25_apply, val_main_v22_apply, val_main_v20_apply, val_main_v19_apply, val_main_v21_apply]
  show Ideal.rsqrt (Ideal.div (Ideal.ofBits .f32 0x00000000#32 + ∑ k, val_main_v18 (F := Ideal) a.p (idx_main_v19 (idx_main_v20 (ix4 n t g 0)) k))
    (Ideal.ofBits .f32 0x43000000#32) + Ideal.ofBits .f32 0x358637BD#32) = _
  rw [ofBits_zero, zero_add, ofBits_n128, ofBits_eps]
  refine congrArg (fun s => Ideal.rsqrt (Ideal.div s n128 + (eps : EReal))) (Finset.sum_congr rfl fun k _ =>
    (congrArg (val_main_v18 (F := Ideal) a.p) (eq_ix4 _)).trans ?_)
  rw [← xc_at]
  exact val_main_v18_apply ..

theorem vn_at : val_main_v37 (F := Ideal) a.p a.lg a.lb (ix4 n t g e) = (a.chunk n).vn g e t := by
  rw [val_main_v37_apply, val_main_v36_apply, val_main_v35_apply, val_main_v34_apply, val_main_v33_apply, val_main_v32_apply,
    val_main_v31_apply, val_main_v30_apply, val_main_v29_apply, val_main_v28_apply, xc_at']
  refine congrArg₂ (fun x y => x + y) (congrArg₂ (fun x y => x * y) (congrArg ((a.chunk n).xc g e t * ·)
    ((congrArg (val_main_v27 (F := Ideal) a.p) (eq_ix4 _)).trans (rstd_at a n g t))) ?_) ?_
  · refine congrArg a.lg ((eq_ix3 _).trans ?_)
    congr 1 <;> apply Fin.ext <;> simp <;> omega
  · refine congrArg a.lb ((eq_ix3 _).trans ?_)
    congr 1 <;> apply Fin.ext <;> simp <;> omega

/-! ## The mixing along time -/

theorem w_at (k : Fin 128) : val_main_v45 (F := Ideal) a.w (ix3 g t k) = (a.chunk n).wc g t k := by
  rw [val_main_v45_apply, val_main_call0_v1_apply, val_main_v43_apply, val_main_v41_apply, val_main_v39_apply, val_main_v38_apply,
    val_main_v42_apply, val_main_v40_apply, val_main_v38_apply, val_main_v44_apply, val_main_call0_v2_apply]
  show Scalar.select (IntOp.cmpi .sge (BitVec.ofNat 32 t.val) (BitVec.ofNat 32 k.val)) _ (Ideal.ofBits .f32 0x00000000#32) = _
  rw [WordCmp.cmpi_sge_ofNat (by omega) (by omega), WordCmp.select_ofBool, ofBits_zero]
  have e : a.w (idx_main_v44 (ix3 g t k)) = (a.chunk n).w g t k := by
    refine congrArg a.w ((eq_ix4 _).trans ?_)
    congr 1 <;> apply Fin.ext <;> simp <;> omega
  rw [e]
  simp only [Chunk.wc, decide_eq_true_eq, Fin.le_def, ge_iff_le]

theorem b_at : val_main_v52 (F := Ideal) a.b (ix4 n t g e) = (a.chunk n).b g t := by
  rw [val_main_v52_apply, val_main_v51_apply, val_main_v50_apply, val_main_v49_apply, val_main_v48_apply]
  refine congrArg a.b ((eq_ix3 _).trans ?_)
  congr 1 <;> apply Fin.ext <;> simp <;> omega

theorem mixed_at : val_main_v53 (F := Ideal) a.p a.lg a.lb a.w a.b (ix4 n t g e) = (a.chunk n).mixed g e t := by
  rw [val_main_v53_apply, val_main_v47_apply, val_main_v46_apply, b_at]
  exact congrArg (· + (a.chunk n).b g t) (Finset.sum_congr rfl fun k _ => congrArg₂ (· * ·)
    ((congrArg (val_main_v37 (F := Ideal) a.p a.lg a.lb) (eq_ix4 _)).trans (vn_at a n g e k))
    ((congrArg (val_main_v45 (F := Ideal) a.w) (eq_ix3 _)).trans (w_at a n g t k)))

/-! ## The gate and the outer norm -/

theorem y_at : val_main_v55 (F := Ideal) a.p a.lg a.lb a.w a.b (ix2 (col n t) (row g e)) = (a.chunk n).y g e t := by
  rw [val_main_v55_apply, val_main_v54_apply, u_at]
  refine congrArg (gelu ((a.chunk n).zu g e t) * ·) ((congrArg (val_main_v53 (F := Ideal) a.p a.lg a.lb a.w a.b) ?_).trans (mixed_at a n g e t))
  refine (eq_ix4 _).trans ?_
  congr 1 <;> apply Fin.ext <;> simp [row, col] <;> omega

/-- A sum over the rows, group by group within a feature. -/
theorem sum_rows (f : Fin 1024 → EReal) : ∑ r, f r = ∑ k : Fin 128, ∑ h : Fin 8, f (row h k) :=
  (Fin.sum_mul_add_fin (L := 1024) 8 128 f).symm.trans Finset.sum_comm

theorem rms_at (i : S4096x1.Idx) (h : i 0 = col n t) : val_main_v63 (F := Ideal) a.p a.lg a.lb a.w a.b i = (a.chunk n).rms t := by
  rw [val_main_v63_apply, val_main_v62_apply, val_main_v60_apply, val_main_v58_apply, val_main_v57_apply, val_main_v59_apply, val_main_v61_apply]
  show Ideal.rsqrt (Ideal.div (Ideal.ofBits .f32 0x00000000#32 +
    ∑ k, val_main_v56 (F := Ideal) a.p a.lg a.lb a.w a.b (idx_main_v57 (idx_main_v58 i) k)) (Ideal.ofBits .f32 0x44800000#32)
      + Ideal.ofBits .f32 0x358637BD#32) = _
  rw [ofBits_zero, zero_add, ofBits_n1024, ofBits_eps, sum_rows]
  refine congrArg (fun s => Ideal.rsqrt (Ideal.div s n1024 + (eps : EReal))) (Finset.sum_congr rfl fun k _ => Finset.sum_congr rfl fun b _ => ?_)
  refine (congrArg (val_main_v56 (F := Ideal) a.p a.lg a.lb a.w a.b) ((eq_ix2 _).trans (congrArg (ix2 · _) h))).trans ?_
  rw [← y_at]
  exact val_main_v56_apply ..

theorem out_row_col_at : val_main_v71 (F := Ideal) a.p a.lg a.lb a.w a.b a.og (ix2 (row g e) (col n t)) = (a.chunk n).out g e t := by
  rw [val_main_v71_apply, val_main_v70_apply, val_main_v69_apply, val_main_v65_apply, val_main_v64_apply, val_main_v68_apply,
    val_main_v67_apply, val_main_v66_apply]
  refine congrArg₂ (fun x y => x * y) (congrArg₂ (fun x y => x * y)
    ((congrArg (val_main_v55 (F := Ideal) a.p a.lg a.lb a.w a.b) (eq_ix2 _)).trans (y_at a n g e t)) (rms_at a n t _ rfl)) ?_
  refine congrArg a.og ((eq_ix2 _).trans ?_)
  congr 1 <;> apply Fin.ext <;> simp [row] <;> omega

end

/-- The reference's result. -/
theorem out_at (i : S1024x4096.Idx) : val_main_v71 (F := Ideal) a.p a.lg a.lb a.w a.b a.og i = a.out (i 0) (i 1) := by
  obtain ⟨g, e, hr⟩ := exists_row (i 0)
  obtain ⟨n, t, hq⟩ := exists_col (i 1)
  rw [← hr, ← hq, Args.out_row_col, ← out_row_col_at, hr, hq]
  exact congrArg _ (eq_ix2 i)

end Cert.GateReference

end
-- ==== Proof.lean ====
/-
  THE CERTIFICATE of `Cert.Claim` (proofs.«01_k».proof.Defs): the frames of the kernel, of its idealization and of the
  reference, and that the idealized kernel's eight results are the differentiated reference's wherever every argument
  is finite.

  The kernel's side is `Cert.Run.results` (Proof/Run.lean), which reads every result as a value of the layer of the
  arguments (Proof/Layer.lean); the reference's side is Proof/Reference.lean, which reads the differentiated program
  the same way; the precondition is read in Proof/Finite.lean.

  The same for the input projection's four calls, whose four results are the differentiated reference's at any
  arguments: `Cert.InRun.results` (Proof/InRun.lean), Proof/InReference.lean, and the mathematics in Proof/InLayer.lean.

  The same for the optimiser's five calls, whose twenty results are the reference's at any arguments: `Cert.StepRun.results`
  (Proof/StepRun.lean) and Proof/StepReference.lean, in the words of Proof/StepTiles.lean.

  The same for the gate half of the forward mixer's call, at any arguments: `Cert.GateRun.results` (Proof/GateRun.lean)
  and Proof/GateReference.lean, in the words of Proof/Gate.lean.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWRefIdeal
public import proofs.«01_k».proof.Proof.Gen.AdamWRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Read
public import proofs.«01_k».proof.Proof.Run
public import proofs.«01_k».proof.Proof.Reference
public import proofs.«01_k».proof.Proof.Finite
public import proofs.«01_k».proof.Proof.InRun
public import proofs.«01_k».proof.Proof.InReference
public import proofs.«01_k».proof.Proof.StepRun
public import proofs.«01_k».proof.Proof.StepReference
public import proofs.«01_k».proof.Proof.GateRun
public import proofs.«01_k».proof.Proof.GateReference
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Layer Cert.Chain

/-- The reference's frame: it is a straight line of host operations and declares no semaphore. -/
theorem ref_frame : quiescent_FfnRefIdeal (hFfnRefIdeal := Cert.FfnRefIdeal.Gen.facts) := fun m ρ _ =>
  (θ_run (Cert.FfnRefIdeal.defs (F := Ideal)) _ _).mono
    (fun r h => ⟨fun c => (h c).2.2.2.2.2.2.2.2, sem_eq_zero_of_no_sems (by decide) r.2⟩)
    (Cert.FfnRefIdeal.Value.run (F := Ideal) m ρ)

/-- The arguments a launch gives the reference. -/
def args (m : (ℓ : Loc Cert.FfnRefIdeal.nD Cert.FfnRefIdeal.τ Cert.FfnRefIdeal.sig) → Buf (Elt Ideal) ℓ)
    (c : Dev Cert.FfnRefIdeal.nD) : Cert.Reference.Args where
  y := m ((c.tc : Thread Cert.FfnRefIdeal.nD Cert.FfnRefIdeal.τ).loc Cert.FfnRefIdeal.main_arg0)
  x := m ((c.tc : Thread Cert.FfnRefIdeal.nD Cert.FfnRefIdeal.τ).loc Cert.FfnRefIdeal.main_arg1)
  g := m ((c.tc : Thread Cert.FfnRefIdeal.nD Cert.FfnRefIdeal.τ).loc Cert.FfnRefIdeal.main_arg2)
  wo := m ((c.tc : Thread Cert.FfnRefIdeal.nD Cert.FfnRefIdeal.τ).loc Cert.FfnRefIdeal.main_arg3)
  wg := m ((c.tc : Thread Cert.FfnRefIdeal.nD Cert.FfnRefIdeal.τ).loc Cert.FfnRefIdeal.main_arg4)
  wu := m ((c.tc : Thread Cert.FfnRefIdeal.nD Cert.FfnRefIdeal.τ).loc Cert.FfnRefIdeal.main_arg5)
  wd := m ((c.tc : Thread Cert.FfnRefIdeal.nD Cert.FfnRefIdeal.τ).loc Cert.FfnRefIdeal.main_arg6)
  t := m ((c.tc : Thread Cert.FfnRefIdeal.nD Cert.FfnRefIdeal.τ).loc Cert.FfnRefIdeal.main_arg7)

/-- The two programs' results agree wherever every argument is finite: both are the layer's. -/
theorem equal : algebraic_FfnIdeal_FfnRefIdeal_pre_finite (hFfnIdeal := Cert.FfnIdeal.Gen.facts)
    (hFfnRefIdeal := Cert.FfnRefIdeal.Gen.facts) (hPre_finite := Cert.Finite.facts) := by
  intro m ρ m' ρ' hpre hag
  have hl : ∀ c, (args m' c).L = layerAt m c := fun c => by
    obtain ⟨e0, e1, e2, e3, e4, e5, e6, e7⟩ := hag c
    show layer _ _ _ _ _ _ _ _ = layer _ _ _ _ _ _ _ _
    exact congr (congr (congr (congr (congr (congr (congr (congrArg layer e0) e1) e2) e3) e4) e5) e6) e7
  have hr : ∀ c, (args m' c).L.AllReal := fun c => by rw [hl c]; exact Cert.Finite.real_of_pre m hpre c
  refine ⟨fun c _ => (layerAt m c).lossK, fun c i => (layerAt m c).dWg (i 0) (i 1), fun c i => (layerAt m c).dWu (i 0) (i 1),
    fun c i => (layerAt m c).dWd (i 0) (i 1), fun c i => (layerAt m c).dG (i 1), fun c i => (layerAt m c).dWo (i 0) (i 1),
    fun c i => (layerAt m c).dY (i 0) (i 1), fun c i => (layerAt m c).dX2 (i 0) (i 1), Cert.Run.results m ρ, ?_⟩
  refine (θ_run (Cert.FfnRefIdeal.defs (F := Ideal)) _ _).mono (fun r h c => ?_)
    (Cert.FfnRefIdeal.Value.run (F := Ideal) m' ρ')
  obtain ⟨h0, h1, h2, h3, h4, h5, h6, h7, ha⟩ := h c
  refine ⟨h0.trans ?_, h1.trans ?_, h2.trans ?_, h3.trans ?_, h4.trans ?_, h5.trans ?_, h6.trans ?_, h7.trans ?_, ha⟩
  · exact (Cert.FfnRefIdeal.Read.val_main_v34_eq _).trans ((funext (Cert.Reference.loss_at (hr c))).trans
      (congrArg (fun (L : Layer (Fin 4096) (Fin 2048) (Fin 5632)) (_ : Cert.FfnRefIdeal.S_.Idx) => L.lossK) (hl c)))
  · exact (Cert.FfnRefIdeal.Read.val_main_v80_eq _).trans ((funext (Cert.Reference.dWg_at (hr c))).trans
      (congrArg (fun (L : Layer (Fin 4096) (Fin 2048) (Fin 5632)) (i : Cert.FfnRefIdeal.S5632x2048.Idx) => L.dWg (i 0) (i 1)) (hl c)))
  · exact (Cert.FfnRefIdeal.Read.val_main_v81_eq _).trans ((funext (Cert.Reference.dWu_at (hr c))).trans
      (congrArg (fun (L : Layer (Fin 4096) (Fin 2048) (Fin 5632)) (i : Cert.FfnRefIdeal.S5632x2048.Idx) => L.dWu (i 0) (i 1)) (hl c)))
  · exact (Cert.FfnRefIdeal.Read.val_main_v82_eq _).trans ((funext (Cert.Reference.dWd_at (hr c))).trans
      (congrArg (fun (L : Layer (Fin 4096) (Fin 2048) (Fin 5632)) (i : Cert.FfnRefIdeal.S5632x2048.Idx) => L.dWd (i 0) (i 1)) (hl c)))
  · exact (Cert.FfnRefIdeal.Read.val_main_v58_eq _).trans ((funext (Cert.Reference.dG_at (hr c))).trans
      (congrArg (fun (L : Layer (Fin 4096) (Fin 2048) (Fin 5632)) (i : Cert.FfnRefIdeal.S1x2048.Idx) => L.dG (i 1)) (hl c)))
  · exact (Cert.FfnRefIdeal.Read.val_main_v83_eq _).trans ((funext (Cert.Reference.dWo_at (hr c))).trans
      (congrArg (fun (L : Layer (Fin 4096) (Fin 2048) (Fin 5632)) (i : Cert.FfnRefIdeal.S2048x2048.Idx) => L.dWo (i 0) (i 1)) (hl c)))
  · exact (Cert.FfnRefIdeal.Read.val_main_v79_eq _).trans ((funext (Cert.Reference.dY_at (hr c))).trans
      (congrArg (fun (L : Layer (Fin 4096) (Fin 2048) (Fin 5632)) (i : Cert.FfnRefIdeal.S2048x4096.Idx) => L.dY (i 0) (i 1)) (hl c)))
  · exact (Cert.FfnRefIdeal.Read.val_main_v75_eq _).trans ((funext (Cert.Reference.dX2_at (hr c))).trans
      (congrArg (fun (L : Layer (Fin 4096) (Fin 2048) (Fin 5632)) (i : Cert.FfnRefIdeal.S4096x2048.Idx) => L.dX2 (i 0) (i 1)) (hl c)))

/-! ## The input projection -/

/-- The frame of the input projection's reference. -/
theorem in_ref_frame : quiescent_InProjRefIdeal (hInProjRefIdeal := Cert.InProjRefIdeal.Gen.facts) := fun m ρ _ =>
  (θ_run (Cert.InProjRefIdeal.defs (F := Ideal)) _ _).mono
    (fun r h => ⟨fun c => (h c).2.2.2.2, sem_eq_zero_of_no_sems (by decide) r.2⟩)
    (Cert.InProjRefIdeal.Value.run (F := Ideal) m ρ)

/-- The arguments a launch gives the input projection's reference. -/
def inArgs (m : (ℓ : Loc Cert.InProjRefIdeal.nD Cert.InProjRefIdeal.τ Cert.InProjRefIdeal.sig) → Buf (Elt Ideal) ℓ)
    (c : Dev Cert.InProjRefIdeal.nD) : Cert.InReference.Args where
  x := m ((c.tc : Thread Cert.InProjRefIdeal.nD Cert.InProjRefIdeal.τ).loc Cert.InProjRefIdeal.main_arg0)
  g := m ((c.tc : Thread Cert.InProjRefIdeal.nD Cert.InProjRefIdeal.τ).loc Cert.InProjRefIdeal.main_arg1)
  w := m ((c.tc : Thread Cert.InProjRefIdeal.nD Cert.InProjRefIdeal.τ).loc Cert.InProjRefIdeal.main_arg2)
  p := m ((c.tc : Thread Cert.InProjRefIdeal.nD Cert.InProjRefIdeal.τ).loc Cert.InProjRefIdeal.main_arg3)
  o := m ((c.tc : Thread Cert.InProjRefIdeal.nD Cert.InProjRefIdeal.τ).loc Cert.InProjRefIdeal.main_arg4)

/-- The two programs' results agree at any arguments: both are the layer's. -/
theorem in_equal : algebraic_InProjIdeal_InProjRefIdeal (hInProjIdeal := Cert.InProjIdeal.Gen.facts)
    (hInProjRefIdeal := Cert.InProjRefIdeal.Gen.facts) := by
  intro m ρ m' ρ' _ hag
  have hl : ∀ c, (inArgs m' c).L = Cert.InRun.layerAt m c := fun c => by
    obtain ⟨e0, e1, e2, e3, e4⟩ := hag c
    show Cert.InRun.layer _ _ _ _ _ = Cert.InRun.layer _ _ _ _ _
    exact congr (congr (congr (congr (congrArg Cert.InRun.layer e0) e1) e2) e3) e4
  refine ⟨fun c i => (Cert.InRun.layerAt m c).proj (i 0) (i 1), fun c i => (Cert.InRun.layerAt m c).dW (i 0) (i 1),
    fun c i => (Cert.InRun.layerAt m c).dX (i 0) (i 1), fun c i => (Cert.InRun.layerAt m c).dG (i 1), Cert.InRun.results m ρ, ?_⟩
  refine (θ_run (Cert.InProjRefIdeal.defs (F := Ideal)) _ _).mono (fun r h c => ?_)
    (Cert.InProjRefIdeal.Value.run (F := Ideal) m' ρ')
  obtain ⟨h0, h1, h2, h3, ha⟩ := h c
  refine ⟨h0.trans ?_, h1.trans ?_, h2.trans ?_, h3.trans ?_, ha⟩
  · exact (Cert.InProjRefIdeal.Read.val_main_v42_eq _ _ _).trans ((funext (Cert.InReference.proj_at (inArgs m' c))).trans
      (congrArg (fun (L : InLayer (Fin 4096) (Fin 2048) (Fin 3328)) (i : Cert.InProjRefIdeal.S3328x4096.Idx) => L.proj (i 0) (i 1)) (hl c)))
  · exact (Cert.InProjRefIdeal.Read.val_main_v43_eq _ _ _).trans ((funext (Cert.InReference.dW_at (inArgs m' c))).trans
      (congrArg (fun (L : InLayer (Fin 4096) (Fin 2048) (Fin 3328)) (i : Cert.InProjRefIdeal.S3328x2048.Idx) => L.dW (i 0) (i 1)) (hl c)))
  · exact (Cert.InProjRefIdeal.Read.val_main_v41_eq _ _).trans ((funext (Cert.InReference.dX_at (inArgs m' c))).trans
      (congrArg (fun (L : InLayer (Fin 4096) (Fin 2048) (Fin 3328)) (i : Cert.InProjRefIdeal.S4096x2048.Idx) => L.dX (i 0) (i 1)) (hl c)))
  · exact (Cert.InProjRefIdeal.Read.val_main_v24_eq _ _ _).trans ((funext (Cert.InReference.dG_at (inArgs m' c))).trans
      (congrArg (fun (L : InLayer (Fin 4096) (Fin 2048) (Fin 3328)) (i : Cert.InProjRefIdeal.S1x2048.Idx) => L.dG (i 1)) (hl c)))

/-! ## The optimiser -/

/-- The frame of the optimiser's reference. -/
theorem step_ref_frame : quiescent_AdamWRefIdeal (hAdamWRefIdeal := Cert.AdamWRefIdeal.Gen.facts) := fun m ρ _ =>
  (θ_run (Cert.AdamWRefIdeal.defs (F := Ideal)) _ _).mono
    (fun r h => ⟨fun c => (h c).2.2.2.2.2.2.2.2.2.2.2.2.2.2.2.2.2.2.2.2, sem_eq_zero_of_no_sems (by decide) r.2⟩)
    (Cert.AdamWRefIdeal.Value.run (F := Ideal) m ρ)

/-- The two programs' results agree at any arguments: both are the tables of the arguments. -/
theorem step_equal : algebraic_AdamWIdeal_AdamWRefIdeal (hAdamWIdeal := Cert.AdamWIdeal.Gen.facts)
    (hAdamWRefIdeal := Cert.AdamWRefIdeal.Gen.facts) := by
  intro m ρ m' ρ' _ hag
  refine ⟨fun c i => Cert.StepRun.A0 m c 0 (i 0) (i 1), fun c i => Cert.StepRun.A0 m c 1 (i 0) (i 1),
    fun c i => Cert.StepRun.A0 m c 2 (i 0) (i 1), fun c i => Cert.StepRun.A0 m c 3 (i 0) (i 1),
    fun c i => Cert.StepRun.A1 m c 0 (i 0) (i 1), fun c i => Cert.StepRun.A1 m c 1 (i 0) (i 1),
    fun c i => Cert.StepRun.A1 m c 2 (i 0) (i 1), fun c i => Cert.StepRun.A1 m c 3 (i 0) (i 1),
    fun c i => Cert.StepRun.A2 m c 0 (i 0) (i 1), fun c i => Cert.StepRun.A2 m c 1 (i 0) (i 1),
    fun c i => Cert.StepRun.A2 m c 2 (i 0) (i 1), fun c i => Cert.StepRun.A2 m c 3 (i 0) (i 1),
    fun c i => Cert.StepRun.A3 m c 0 (i 0) (i 1), fun c i => Cert.StepRun.A3 m c 1 (i 0) (i 1),
    fun c i => Cert.StepRun.A3 m c 2 (i 0) (i 1), fun c i => Cert.StepRun.A3 m c 3 (i 0) (i 1),
    fun c i => Cert.StepRun.A4 m c 0 (i 0) (i 1), fun c i => Cert.StepRun.A4 m c 1 (i 0) (i 1),
    fun c i => Cert.StepRun.A4 m c 2 (i 0) (i 1), fun c i => Cert.StepRun.A4 m c 3 (i 0) (i 1),
    Cert.StepRun.results m ρ, ?_⟩
  refine (θ_run (Cert.AdamWRefIdeal.defs (F := Ideal)) _ _).mono (fun r h c => ?_)
    (Cert.AdamWRefIdeal.Value.run (F := Ideal) m' ρ')
  obtain ⟨a0, a1, a2, a3, b0, b1, b2, b3, c0, c1, c2, c3, d0, d1, d2, d3, e0, e1, e2, e3, ha⟩ := h c
  obtain ⟨x0, x1, x2, x3, x4, x5, x6, x7, x8, x9, x10, x11, x12, x13, x14, x15, x16, x17, x18, x19⟩ := hag c
  obtain ⟨pa0, pa1, pa2, pa3⟩ := Cert.StepReference.step_of (n := 704) Cert.AdamWRefIdeal.Gen.facts.bcast_S_S704x2048
    Cert.AdamWRefIdeal.Gen.facts.reducesTo_S8x704x2048_S704x2048_d0 (by decide) x0 x1 x2 x3
  obtain ⟨pb0, pb1, pb2, pb3⟩ := Cert.StepReference.step_of (n := 704) Cert.AdamWRefIdeal.Gen.facts.bcast_S_S704x2048
    Cert.AdamWRefIdeal.Gen.facts.reducesTo_S8x704x2048_S704x2048_d0 (by decide) x4 x5 x6 x7
  obtain ⟨pc0, pc1, pc2, pc3⟩ := Cert.StepReference.step_of (n := 704) Cert.AdamWRefIdeal.Gen.facts.bcast_S_S704x2048
    Cert.AdamWRefIdeal.Gen.facts.reducesTo_S8x704x2048_S704x2048_d0 (by decide) x8 x9 x10 x11
  obtain ⟨pd0, pd1, pd2, pd3⟩ := Cert.StepReference.step_of (n := 256) Cert.AdamWRefIdeal.Gen.facts.bcast_S_S256x2048
    Cert.AdamWRefIdeal.Gen.facts.reducesTo_S8x256x2048_S256x2048_d0 (by decide) x12 x13 x14 x15
  obtain ⟨pe0, pe1, pe2, pe3⟩ := Cert.StepReference.step_of (n := 416) Cert.AdamWRefIdeal.Gen.facts.bcast_S_S416x2048
    Cert.AdamWRefIdeal.Gen.facts.reducesTo_S8x416x2048_S416x2048_d0 (by decide) x16 x17 x18 x19
  exact ⟨a0.trans pa0, a1.trans pa1, a2.trans pa2, a3.trans pa3,
    b0.trans pb0, b1.trans pb1, b2.trans pb2, b3.trans pb3,
    c0.trans pc0, c1.trans pc1, c2.trans pc2, c3.trans pc3,
    d0.trans pd0, d1.trans pd1, d2.trans pd2, d3.trans pd3,
    e0.trans pe0, e1.trans pe1, e2.trans pe2, e3.trans pe3, ha⟩

/-! ## The gate half of the forward mixer -/

/-- The frame of the gate's reference. -/
theorem gate_ref_frame : quiescent_GateRefIdeal (hGateRefIdeal := Cert.GateRefIdeal.Gen.facts) := fun m ρ _ =>
  (θ_run (Cert.GateRefIdeal.defs (F := Ideal)) _ _).mono
    (fun r h => ⟨fun c => (h c).2, sem_eq_zero_of_no_sems (by decide) r.2⟩)
    (Cert.GateRefIdeal.Value.run (F := Ideal) m ρ)

/-- The arguments a launch gives the gate's reference. -/
def gateArgs (m : (ℓ : Loc Cert.GateRefIdeal.nD Cert.GateRefIdeal.τ Cert.GateRefIdeal.sig) → Buf (Elt Ideal) ℓ)
    (c : Dev Cert.GateRefIdeal.nD) : Cert.Gate.Args where
  p := m ((c.tc : Thread Cert.GateRefIdeal.nD Cert.GateRefIdeal.τ).loc Cert.GateRefIdeal.main_arg0)
  lg := m ((c.tc : Thread Cert.GateRefIdeal.nD Cert.GateRefIdeal.τ).loc Cert.GateRefIdeal.main_arg4)
  lb := m ((c.tc : Thread Cert.GateRefIdeal.nD Cert.GateRefIdeal.τ).loc Cert.GateRefIdeal.main_arg5)
  w := m ((c.tc : Thread Cert.GateRefIdeal.nD Cert.GateRefIdeal.τ).loc Cert.GateRefIdeal.main_arg6)
  b := m ((c.tc : Thread Cert.GateRefIdeal.nD Cert.GateRefIdeal.τ).loc Cert.GateRefIdeal.main_arg7)
  og := m ((c.tc : Thread Cert.GateRefIdeal.nD Cert.GateRefIdeal.τ).loc Cert.GateRefIdeal.main_arg9)

/-- The two programs' results agree at any arguments: both are the chunks' gates. -/
theorem gate_equal : algebraic_GateIdeal_GateRefIdeal (hGateIdeal := Cert.GateIdeal.Gen.facts)
    (hGateRefIdeal := Cert.GateRefIdeal.Gen.facts) := by
  intro m ρ m' ρ' _ hag
  have hl : ∀ c, gateArgs m' c = Cert.GateCalls.argsAt m c := fun c => by
    obtain ⟨e0, e1, e2, e3, e4, e5, e6, e7, e8, e9⟩ := hag c
    show Cert.Gate.Args.mk _ _ _ _ _ _ = Cert.Gate.Args.mk _ _ _ _ _ _
    exact congr (congr (congr (congr (congr (congrArg Cert.Gate.Args.mk e0) e4) e5) e6) e7) e9
  refine ⟨fun c i => (Cert.GateCalls.argsAt m c).out (i 0) (i 1), Cert.GateRun.results m ρ, ?_⟩
  refine (θ_run (Cert.GateRefIdeal.defs (F := Ideal)) _ _).mono (fun r h c => ?_)
    (Cert.GateRefIdeal.Value.run (F := Ideal) m' ρ')
  obtain ⟨h0, ha⟩ := h c
  exact ⟨h0.trans ((Cert.GateRefIdeal.Read.val_main_v71_eq _ _).trans ((funext (Cert.GateReference.out_at (gateArgs m' c))).trans
    (congrArg (fun (a : Cert.Gate.Args) (i : Cert.GateRefIdeal.S1024x4096.Idx) => a.out (i 0) (i 1)) (hl c)))), ha⟩

/-- The claim: the frames, the idealizations, and the equality of the results. -/
theorem claim : Cert.Claim := ⟨Cert.Ffn.Gen.facts, Cert.FfnIdeal.Gen.facts, Cert.FfnRefIdeal.Gen.facts,
  Cert.InProj.Gen.facts, Cert.InProjIdeal.Gen.facts, Cert.InProjRefIdeal.Gen.facts,
  Cert.AdamW.Gen.facts, Cert.AdamWIdeal.Gen.facts, Cert.AdamWRefIdeal.Gen.facts,
  Cert.Gate.Gen.facts, Cert.GateIdeal.Gen.facts, Cert.GateRefIdeal.Gen.facts, Cert.Finite.facts,
  fun m ρ _ => Cert.Ffn.Gen.frame m ρ, fun m ρ _ => Cert.FfnIdeal.Gen.frame m ρ, fun m ρ _ => Cert.FfnIdeal.Gen.frame m ρ,
  ref_frame, fun m ρ _ => ref_frame m ρ trivial,
  fun m ρ _ => Cert.InProj.Gen.frame m ρ, fun m ρ _ => Cert.InProjIdeal.Gen.frame m ρ, in_ref_frame,
  fun m ρ _ => Cert.AdamW.Gen.frame m ρ, fun m ρ _ => Cert.AdamWIdeal.Gen.frame m ρ, step_ref_frame,
  fun m ρ _ => Cert.Gate.Gen.frame m ρ, fun m ρ _ => Cert.GateIdeal.Gen.frame m ρ, gate_ref_frame,
  trivial, equal, trivial, in_equal, trivial, step_equal, trivial, gate_equal⟩

end Cert.Proof

end
